-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_CrossAttn (m : (ℓ : Loc Cert.CrossAttn.nD Cert.CrossAttn.τ Cert.CrossAttn.sig) → Buf (Elt Bits) ℓ) : Prop :=
  True

def Pre_CrossAttnIdeal (m : (ℓ : Loc Cert.CrossAttnIdeal.nD Cert.CrossAttnIdeal.τ Cert.CrossAttnIdeal.sig) → Buf (Elt Ideal) ℓ) : Prop :=
  True

def Pre_CrossAttnIdeal_finite_ca [hPre_finite_ca : Cert.Pre_finite_ca.Facts] (m : (ℓ : Loc Cert.CrossAttnIdeal.nD Cert.CrossAttnIdeal.τ Cert.CrossAttnIdeal.sig) → Buf (Elt Ideal) ℓ) : Prop :=
  ∀ c : Dev Cert.CrossAttnIdeal.nD,
    (Cert.Pre_finite_ca.fn (F := Ideal) (m ((c.tc : Thread Cert.CrossAttnIdeal.nD Cert.CrossAttnIdeal.τ).loc Cert.CrossAttnIdeal.main_arg0)) (m ((c.tc : Thread Cert.CrossAttnIdeal.nD Cert.CrossAttnIdeal.τ).loc Cert.CrossAttnIdeal.main_arg1))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_ca [hPre_finite_ca : Cert.Pre_finite_ca.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_ca.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_rt [hPre_finite_rt : Cert.Pre_finite_rt.Facts] (m : (ℓ : Loc Cert.RouteIdeal.nD Cert.RouteIdeal.τ Cert.RouteIdeal.sig) → Buf (Elt Ideal) ℓ) : Prop :=
  ∀ c : Dev Cert.RouteIdeal.nD,
    (Cert.Pre_finite_rt.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_rt [hPre_finite_rt : Cert.Pre_finite_rt.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_rt.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9))) = (fun _ => 1#1)

def Pre_Ffn [hPre_in_range : Cert.Pre_in_range.Facts] (m : (ℓ : Loc Cert.Ffn.nD Cert.Ffn.τ Cert.Ffn.sig) → Buf (Elt Bits) ℓ) : Prop :=
  ∀ c : Dev Cert.Ffn.nD,
    (Cert.Pre_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_in_range : Cert.Pre_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal [hPre_in_range : Cert.Pre_in_range.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_CrossAttn [hCrossAttn : Cert.CrossAttn.Facts] : Prop :=
  ∀ (m : (ℓ : Loc Cert.CrossAttn.nD Cert.CrossAttn.τ Cert.CrossAttn.sig) → Buf (Elt Bits) ℓ) (g : Dev Cert.CrossAttn.nD → PrngReg), Pre_CrossAttn m →
    θ_run (Cert.CrossAttn.defs (F := Bits)) (onTc (τ := Cert.CrossAttn.τ) (Cert.CrossAttn.main (F := Bits))) ⟨m, fun _ => 0, g⟩ (fun r => (∀ c : Dev Cert.CrossAttn.nD,
      r.2.mem ((c.tc : Thread Cert.CrossAttn.nD Cert.CrossAttn.τ).loc Cert.CrossAttn.main_arg0) = m ((c.tc : Thread Cert.CrossAttn.nD Cert.CrossAttn.τ).loc Cert.CrossAttn.main_arg0)
      ∧ r.2.mem ((c.tc : Thread Cert.CrossAttn.nD Cert.CrossAttn.τ).loc Cert.CrossAttn.main_arg1) = m ((c.tc : Thread Cert.CrossAttn.nD Cert.CrossAttn.τ).loc Cert.CrossAttn.main_arg1))
      ∧ r.2.sem = fun _ => 0)

def quiescent_CrossAttnIdeal [hCrossAttnIdeal : Cert.CrossAttnIdeal.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg), Pre_CrossAttnIdeal m →
    θ_run (Cert.CrossAttnIdeal.defs (F := Ideal)) (onTc (τ := Cert.CrossAttnIdeal.τ) (Cert.CrossAttnIdeal.main (F := Ideal))) ⟨m, fun _ => 0, g⟩ (fun r => (∀ c : Dev Cert.CrossAttnIdeal.nD,
      r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
      ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1))
      ∧ r.2.sem = fun _ => 0)

def quiescent_CrossAttnIdeal_pre_finite_ca [hCrossAttnIdeal : Cert.CrossAttnIdeal.Facts] [hPre_finite_ca : Cert.Pre_finite_ca.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg), Pre_CrossAttnIdeal_finite_ca m →
    θ_run (Cert.CrossAttnIdeal.defs (F := Ideal)) (onTc (τ := Cert.CrossAttnIdeal.τ) (Cert.CrossAttnIdeal.main (F := Ideal))) ⟨m, fun _ => 0, g⟩ (fun r => (∀ c : Dev Cert.CrossAttnIdeal.nD,
      r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
      ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_CrossRefIdeal_pre_finite_ca [hCrossRefIdeal : Cert.CrossRefIdeal.Facts] [hPre_finite_ca : Cert.Pre_finite_ca.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_ca m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7)
      ∧ r.2.mem ((c.tc : Thread Cert.Route.nD Cert.Route.τ).loc Cert.Route.main_arg8) = m ((c.tc : Thread Cert.Route.nD Cert.Route.τ).loc Cert.Route.main_arg8)
      ∧ r.2.mem ((c.tc : Thread Cert.Route.nD Cert.Route.τ).loc Cert.Route.main_arg9) = m ((c.tc : Thread Cert.Route.nD Cert.Route.τ).loc Cert.Route.main_arg9))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ r.2.sem = fun _ => 0)

def quiescent_RouteIdeal_pre_finite_rt [hRouteIdeal : Cert.RouteIdeal.Facts] [hPre_finite_rt : Cert.Pre_finite_rt.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_rt m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9))
      ∧ r.2.sem = fun _ => 0)

def quiescent_RouteRefIdeal_pre_finite_rt [hRouteRefIdeal : Cert.RouteRefIdeal.Facts] [hPre_finite_rt : Cert.Pre_finite_rt.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_rt m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9))
      ∧ r.2.sem = fun _ => 0)

def quiescent_Ffn [hFfn : Cert.Ffn.Facts] [hPre_in_range : Cert.Pre_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_in_range : Cert.Pre_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] [hPre_in_range : Cert.Pre_in_range.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_CrossAttn_CrossAttnIdeal : Prop :=
  True

def algebraic_CrossAttnIdeal_CrossRefIdeal_pre_finite_ca [hCrossAttnIdeal : Cert.CrossAttnIdeal.Facts] [hCrossRefIdeal : Cert.CrossRefIdeal.Facts] [hPre_finite_ca : Cert.Pre_finite_ca.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossAttnIdeal_finite_ca m →
    (∀ c : Dev Cert.CrossAttnIdeal.nD,
      m' ((c.tc : Thread Cert.CrossRefIdeal.nD Cert.CrossRefIdeal.τ).loc Cert.CrossRefIdeal.main_arg0) = m ((c.tc : Thread Cert.CrossAttnIdeal.nD Cert.CrossAttnIdeal.τ).loc Cert.CrossAttnIdeal.main_arg0)
      ∧ m' ((c.tc : Thread Cert.CrossRefIdeal.nD Cert.CrossRefIdeal.τ).loc Cert.CrossRefIdeal.main_arg1) = m ((c.tc : Thread Cert.CrossAttnIdeal.nD Cert.CrossAttnIdeal.τ).loc Cert.CrossAttnIdeal.main_arg1)) →
    ∃ (v0 : (c : Dev Cert.CrossAttnIdeal.nD) → Buf (Elt Ideal) ((c.tc : Thread Cert.CrossAttnIdeal.nD Cert.CrossAttnIdeal.τ).loc Cert.CrossAttnIdeal.main_v0)),
      θ_run (Cert.CrossAttnIdeal.defs (F := Ideal)) (onTc (τ := Cert.CrossAttnIdeal.τ) (Cert.CrossAttnIdeal.main (F := Ideal))) ⟨m, fun _ => 0, g⟩ (fun r => ∀ c : Dev Cert.CrossAttnIdeal.nD,
          r.2.mem ((c.tc : Thread Cert.CrossAttnIdeal.nD Cert.CrossAttnIdeal.τ).loc Cert.CrossAttnIdeal.main_v0) = v0 c
          ∧ r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
          ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v25) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v14_0)) (v1 : (c : Dev Cert.MergeIdeal.nD) → Buf (Elt Ideal) ((c.tc : Thread Cert.MergeIdeal.nD Cert.MergeIdeal.τ).loc Cert.MergeIdeal.main_v14_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14_0) = v0 c
          ∧ r.2.mem ((c.tc : Thread Cert.MergeIdeal.nD Cert.MergeIdeal.τ).loc Cert.MergeIdeal.main_v14_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Route_RouteIdeal : Prop :=
  True

def algebraic_RouteIdeal_RouteRefIdeal_pre_finite_rt [hRouteIdeal : Cert.RouteIdeal.Facts] [hRouteRefIdeal : Cert.RouteRefIdeal.Facts] [hPre_finite_rt : Cert.Pre_finite_rt.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_rt m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)
      ∧ m' ((c.tc : Thread Cert.RouteRefIdeal.nD Cert.RouteRefIdeal.τ).loc Cert.RouteRefIdeal.main_arg7) = m ((c.tc : Thread Cert.RouteIdeal.nD Cert.RouteIdeal.τ).loc Cert.RouteIdeal.main_arg7)
      ∧ m' ((c.tc : Thread Cert.RouteRefIdeal.nD Cert.RouteRefIdeal.τ).loc Cert.RouteRefIdeal.main_arg8) = m ((c.tc : Thread Cert.RouteIdeal.nD Cert.RouteIdeal.τ).loc Cert.RouteIdeal.main_arg8)
      ∧ m' ((c.tc : Thread Cert.RouteRefIdeal.nD Cert.RouteRefIdeal.τ).loc Cert.RouteRefIdeal.main_arg9) = m ((c.tc : Thread Cert.RouteIdeal.nD Cert.RouteIdeal.τ).loc Cert.RouteIdeal.main_arg9)) →
    ∃ (v0 : (c : Dev Cert.RouteIdeal.nD) → Buf (Elt Ideal) ((c.tc : Thread Cert.RouteIdeal.nD Cert.RouteIdeal.τ).loc Cert.RouteIdeal.main_v14_2)) (v1 : (c : Dev Cert.RouteIdeal.nD) → Buf (Elt Ideal) ((c.tc : Thread Cert.RouteIdeal.nD Cert.RouteIdeal.τ).loc Cert.RouteIdeal.main_v14_3)) (v2 : (c : Dev Cert.RouteIdeal.nD) → Buf (Elt Ideal) ((c.tc : Thread Cert.RouteIdeal.nD Cert.RouteIdeal.τ).loc Cert.RouteIdeal.main_v14_4)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v14_2) = v0 c
          ∧ r.2.mem ((c.tc : Thread Cert.RouteIdeal.nD Cert.RouteIdeal.τ).loc Cert.RouteIdeal.main_v14_3) = v1 c
          ∧ r.2.mem ((c.tc : Thread Cert.RouteIdeal.nD Cert.RouteIdeal.τ).loc Cert.RouteIdeal.main_v14_4) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
          ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
          ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v189) = v0 c
          ∧ r.2.mem ((c.tc : Thread Cert.RouteRefIdeal.nD Cert.RouteRefIdeal.τ).loc Cert.RouteRefIdeal.main_v196) = v1 c
          ∧ r.2.mem ((c.tc : Thread Cert.RouteRefIdeal.nD Cert.RouteRefIdeal.τ).loc Cert.RouteRefIdeal.main_v193) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6)
          ∧ r.2.mem ((c.tc : Thread Cert.RouteRefIdeal.nD Cert.RouteRefIdeal.τ).loc Cert.RouteRefIdeal.main_arg7) = m' ((c.tc : Thread Cert.RouteRefIdeal.nD Cert.RouteRefIdeal.τ).loc Cert.RouteRefIdeal.main_arg7)
          ∧ r.2.mem ((c.tc : Thread Cert.RouteRefIdeal.nD Cert.RouteRefIdeal.τ).loc Cert.RouteRefIdeal.main_arg8) = m' ((c.tc : Thread Cert.RouteRefIdeal.nD Cert.RouteRefIdeal.τ).loc Cert.RouteRefIdeal.main_arg8)
          ∧ r.2.mem ((c.tc : Thread Cert.RouteRefIdeal.nD Cert.RouteRefIdeal.τ).loc Cert.RouteRefIdeal.main_arg9) = m' ((c.tc : Thread Cert.RouteRefIdeal.nD Cert.RouteRefIdeal.τ).loc Cert.RouteRefIdeal.main_arg9))

def preserves_Ffn_FfnIdeal : Prop :=
  True

def algebraic_FfnIdeal_FfnRefIdeal [hFfnIdeal : Cert.FfnIdeal.Facts] [hFfnRefIdeal : Cert.FfnRefIdeal.Facts] [hPre_in_range : Cert.Pre_in_range.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def Claim : Prop :=
  ∃ (hInProj : Cert.InProj.Facts) (hInProjIdeal : Cert.InProjIdeal.Facts) (hInProjRefIdeal : Cert.InProjRefIdeal.Facts) (hCrossAttn : Cert.CrossAttn.Facts) (hCrossAttnIdeal : Cert.CrossAttnIdeal.Facts) (hCrossRefIdeal : Cert.CrossRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hRoute : Cert.Route.Facts) (hRouteIdeal : Cert.RouteIdeal.Facts) (hRouteRefIdeal : Cert.RouteRefIdeal.Facts) (hFfn : Cert.Ffn.Facts) (hFfnIdeal : Cert.FfnIdeal.Facts) (hFfnRefIdeal : Cert.FfnRefIdeal.Facts) (hPre_finite_ca : Cert.Pre_finite_ca.Facts) (hPre_finite_rt : Cert.Pre_finite_rt.Facts) (hPre_in_range : Cert.Pre_in_range.Facts),
    quiescent_InProj (hInProj := hInProj)
    ∧ quiescent_InProjIdeal (hInProjIdeal := hInProjIdeal)
    ∧ quiescent_InProjRefIdeal (hInProjRefIdeal := hInProjRefIdeal)
    ∧ quiescent_CrossAttn (hCrossAttn := hCrossAttn)
    ∧ quiescent_CrossAttnIdeal (hCrossAttnIdeal := hCrossAttnIdeal)
    ∧ quiescent_CrossAttnIdeal_pre_finite_ca (hCrossAttnIdeal := hCrossAttnIdeal) (hPre_finite_ca := hPre_finite_ca)
    ∧ quiescent_CrossRefIdeal (hCrossRefIdeal := hCrossRefIdeal)
    ∧ quiescent_CrossRefIdeal_pre_finite_ca (hCrossRefIdeal := hCrossRefIdeal) (hPre_finite_ca := hPre_finite_ca)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Route (hRoute := hRoute)
    ∧ quiescent_RouteIdeal (hRouteIdeal := hRouteIdeal)
    ∧ quiescent_RouteIdeal_pre_finite_rt (hRouteIdeal := hRouteIdeal) (hPre_finite_rt := hPre_finite_rt)
    ∧ quiescent_RouteRefIdeal (hRouteRefIdeal := hRouteRefIdeal)
    ∧ quiescent_RouteRefIdeal_pre_finite_rt (hRouteRefIdeal := hRouteRefIdeal) (hPre_finite_rt := hPre_finite_rt)
    ∧ quiescent_Ffn (hFfn := hFfn) (hPre_in_range := hPre_in_range)
    ∧ quiescent_FfnIdeal (hFfnIdeal := hFfnIdeal) (hPre_in_range := hPre_in_range)
    ∧ quiescent_FfnRefIdeal (hFfnRefIdeal := hFfnRefIdeal) (hPre_in_range := hPre_in_range)
    ∧ preserves_InProj_InProjIdeal
    ∧ algebraic_InProjIdeal_InProjRefIdeal (hInProjIdeal := hInProjIdeal) (hInProjRefIdeal := hInProjRefIdeal)
    ∧ preserves_CrossAttn_CrossAttnIdeal
    ∧ algebraic_CrossAttnIdeal_CrossRefIdeal_pre_finite_ca (hCrossAttnIdeal := hCrossAttnIdeal) (hCrossRefIdeal := hCrossRefIdeal) (hPre_finite_ca := hPre_finite_ca)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Route_RouteIdeal
    ∧ algebraic_RouteIdeal_RouteRefIdeal_pre_finite_rt (hRouteIdeal := hRouteIdeal) (hRouteRefIdeal := hRouteRefIdeal) (hPre_finite_rt := hPre_finite_rt)
    ∧ preserves_Ffn_FfnIdeal
    ∧ algebraic_FfnIdeal_FfnRefIdeal (hFfnIdeal := hFfnIdeal) (hFfnRefIdeal := hFfnRefIdeal) (hPre_in_range := hPre_in_range)
-- ==== Pre_finite_ca.lean ====
abbrev S8x4096x7168 : Shape := ⟨3, ![8, 4096, 7168]⟩
abbrev S8x256x1024 : Shape := ⟨3, ![8, 256, 1024]⟩
abbrev S_ : Shape := ⟨0, ![]⟩

class Facts : Prop where
  bitsLt_bf16_f32 : FTy.bits .bf16 < FTy.bits .f32
  bcast_S_S8x4096x7168 : S_.BroadcastsInDim S8x4096x7168 (![] : Fin 0 → Fin S8x4096x7168.rank)
  reducesTo_S8x4096x7168_S_d0_1_2 : S8x4096x7168.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn {F : FTy → Type} [FloatOps F] (main_arg0 : FVec F S8x4096x7168 .bf16) (main_arg1 : FVec F S8x256x1024 .bf16) : IVec S_ 1 :=
  let main_v0 : FVec F S8x4096x7168 .f32 := (extf .f32 · bitsLt_bf16_f32) main_arg0
  let main_v1 : FVec F S8x4096x7168 .f32 := Host.absf main_v0
  let main_cst : FVec F S_ .f32 := constant S_ .f32 0x7F800000#32
  let main_v2 : FVec F S8x4096x7168 .f32 := broadcastInDim S8x4096x7168 ![] bcast_S_S8x4096x7168 main_cst
  let main_v3 : IVec S8x4096x7168 1 := cmpf .olt main_v1 main_v2
  let main_c : IVec S_ 1 := constantI S_ 1 1#1
  let main_v4 : IVec S_ 1 := (fun x v => Host.reduce IntOp.andi x v reducesTo_S8x4096x7168_S_d0_1_2 h_S_) main_v3 main_c
  let main_v5 : FVec F S8x256x1024 .f32 := (extf .f32 · bitsLt_bf16_f32) main_arg1
  let main_v6 : FVec F S8x256x1024 .f32 := Host.absf main_v5
  let main_cst_0 : FVec F S_ .f32 := constant S_ .f32 0x7F800000#32
  let main_v7 : FVec F S8x256x1024 .f32 := broadcastInDim S8x256x1024 ![] bcast_S_S8x256x1024 main_cst_0
  let main_v8 : IVec S8x256x1024 1 := cmpf .olt main_v6 main_v7
  let main_c_1 : IVec S_ 1 := constantI S_ 1 1#1
  let main_v9 : IVec S_ 1 := (fun x v => Host.reduce IntOp.andi x v reducesTo_S8x256x1024_S_d0_1_2 h_S_) main_v8 main_c_1
  let main_v10 : IVec S_ 1 := andi main_v4 main_v9
  main_v10
-- ==== Pre_finite_rt.lean ====
abbrev S32768x512 : Shape := ⟨2, ![32768, 512]⟩
abbrev S32768x7168 : Shape := ⟨2, ![32768, 7168]⟩
abbrev S32768x1024 : Shape := ⟨2, ![32768, 1024]⟩
abbrev S3x512x1024 : Shape := ⟨3, ![3, 512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32768x512 .bf16) (main_arg1 : FVec F S32768x512 .bf16) (main_arg2 : FVec F S32768x512 .bf16) (main_arg3 : FVec F S32768x7168 .bf16) (main_arg4 : FVec F S32768x1024 .f32) (main_arg5 : FVec F S3x512x1024 .f32) (main_arg6 : FVec F S1024x1024 .f32) (main_arg7 : FVec F S1024 .f32) (main_arg8 : FVec F S1024x16 .f32) (main_arg9 : FVec F S16 .f32) : IVec S_ 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := Host.absf main_arg8
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg9
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_in_range.lean ====
abbrev S174 : Shape := ⟨1, ![174]⟩
abbrev S1 : Shape := ⟨1, ![1]⟩
abbrev S89088x1152 : Shape := ⟨2, ![89088, 1152]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S174 : S_.BroadcastsInDim S174 (![] : Fin 0 → Fin S174.rank)
  reducesTo_S174_S_d0 : S174.ReducesTo [0] S_
  h_S_ : 0 < S_.numel
  shapeCasts_S1_S_ : S1.ShapeCasts S_

variable [Facts]

def fn {F : FTy → Type} [FloatOps F] (main_arg0 : IVec S174 32) (main_arg1 : IVec S1 32) (main_arg2 : FVec F S89088x1152 .bf16) (main_arg3 : FVec F S2x16x1024x512 .f32) (main_arg4 : FVec F S2x16x1024x512 .f32) (main_arg5 : FVec F S2x16x512x1024 .f32) : IVec S_ 1 :=
  let main_c : IVec S_ 32 := constantI S_ 32 0#32
  let main_v0 : IVec S174 32 := broadcastInDim S174 ![] bcast_S_S174 main_c
  let main_v1 : IVec S174 1 := cmpi .sge main_arg0 main_v0
  let main_c_0 : IVec S_ 32 := constantI S_ 32 16#32
  let main_v2 : IVec S174 32 := broadcastInDim S174 ![] bcast_S_S174 main_c_0
  let main_v3 : IVec S174 1 := cmpi .slt main_arg0 main_v2
  let main_v4 : IVec S174 1 := andi main_v1 main_v3
  let main_c_1 : IVec S_ 1 := constantI S_ 1 1#1
  let main_v5 : IVec S_ 1 := (fun x v => Host.reduce IntOp.andi x v reducesTo_S174_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 174#32
  let main_v10 : IVec S_ 1 := cmpi .sle main_v9 main_c_3
  let main_v11 : IVec S_ 1 := andi main_v8 main_v10
  main_v11
-- ==== InProj.lean ====
abbrev S32768x1024 : Shape := ⟨2, ![32768, 1024]⟩
abbrev S1024 : Shape := ⟨1, ![1024]⟩
abbrev S1024x7168 : Shape := ⟨2, ![1024, 7168]⟩
abbrev S1x1024 : Shape := ⟨2, ![1, 1024]⟩
abbrev S32768x7168 : Shape := ⟨2, ![32768, 7168]⟩
abbrev S512x1024 : Shape := ⟨2, ![512, 1024]⟩
abbrev S512x7168 : Shape := ⟨2, ![512, 7168]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S1024x7168, .bf16⟩
  | .hbm, ⟨4, _⟩ => ⟨S1x1024, .f32⟩
  | .hbm, ⟨5, _⟩ => ⟨S32768x7168, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7168, .bf16⟩
  | .local _ .vmem, ⟨4, _⟩ => ⟨S512x7168, .bf16⟩
  | .local _ .vmem, ⟨5, _⟩ => ⟨S512x7168, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S32768x1024 : Shape := ⟨2, ![32768, 1024]⟩
abbrev S1024 : Shape := ⟨1, ![1024]⟩
abbrev S1024x7168 : Shape := ⟨2, ![1024, 7168]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7168 : Shape := ⟨2, ![32768, 7168]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7168, .f32⟩
  | .hbm, ⟨20, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== CrossAttn.lean ====
abbrev S8x4096x7168 : Shape := ⟨3, ![8, 4096, 7168]⟩
abbrev S8x256x1024 : Shape := ⟨3, ![8, 256, 1024]⟩
abbrev S8x4096x512 : Shape := ⟨3, ![8, 4096, 512]⟩
abbrev S1x2048x512 : Shape := ⟨3, ![1, 2048, 512]⟩
abbrev S1x256x512 : Shape := ⟨3, ![1, 256, 512]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S8x4096x7168, .bf16⟩
  | .hbm, ⟨1, _⟩ => ⟨S8x256x1024, .bf16⟩
  | .hbm, ⟨2, _⟩ => ⟨S8x4096x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x2048x512, .bf16⟩
  | .local _ .vmem, ⟨7, _⟩ => ⟨S1x2048x512, .bf16⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossRefIdeal.lean ====
abbrev S8x4096x7168 : Shape := ⟨3, ![8, 4096, 7168]⟩
abbrev S8x256x1024 : Shape := ⟨3, ![8, 256, 1024]⟩
abbrev S8x4096x512 : Shape := ⟨3, ![8, 4096, 512]⟩
abbrev S8x4096x4x128 : Shape := ⟨4, ![8, 4096, 4, 128]⟩
abbrev S8x256x512 : Shape := ⟨3, ![8, 256, 512]⟩
abbrev S8x256x4x128 : Shape := ⟨4, ![8, 256, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x7168, .bf16⟩
  | .hbm, ⟨1, _⟩ => ⟨S8x256x1024, .bf16⟩
  | .hbm, ⟨2, _⟩ => ⟨S8x4096x7168, .f32⟩
  | .hbm, ⟨3, _⟩ => ⟨S8x4096x512, .f32⟩
  | .hbm, ⟨4, _⟩ => ⟨S8x4096x4x128, .f32⟩
  | .hbm, ⟨5, _⟩ => ⟨S8x256x1024, .f32⟩
  | .hbm, ⟨6, _⟩ => ⟨S8x256x512, .f32⟩
  | .hbm, ⟨7, _⟩ => ⟨S8x256x512, .f32⟩
  | .hbm, ⟨8, _⟩ => ⟨S8x256x4x128, .f32⟩
  | .hbm, ⟨9, _⟩ => ⟨S8x256x4x128, .f32⟩
  | .hbm, ⟨10, _⟩ => ⟨S8x4x4096x256, .f32⟩
  | .hbm, ⟨11, _⟩ => ⟨S_, .f32⟩
  | .hbm, ⟨12, _⟩ => ⟨S8x4x4096x256, .f32⟩
  | .hbm, ⟨13, _⟩ => ⟨S8x4x4096x256, .f32⟩
  | .hbm, ⟨14, _⟩ => ⟨S_, .f32⟩
  | .hbm, ⟨15, _⟩ => ⟨S8x4x4096, .f32⟩
  | .hbm, ⟨16, _⟩ => ⟨S_, .f32⟩
  | .hbm, ⟨17, _⟩ => ⟨S8x4x4096, .f32⟩
  | .hbm, ⟨18, _⟩ => ⟨S8x4x4096, .f32⟩
  | .hbm, ⟨19, _⟩ => ⟨S8x4x4096x1, .f32⟩
  | .hbm, ⟨20, _⟩ => ⟨S8x4x4096x256, .f32⟩
  | .hbm, ⟨21, _⟩ => ⟨S8x4x4096x256, .f32⟩
  | .hbm, ⟨22, _⟩ => ⟨S8x4x4096x256, .f32⟩
  | .hbm, ⟨23, _⟩ => ⟨S_, .f32⟩
  | .hbm, ⟨24, _⟩ => ⟨S8x4x4096, .f32⟩
  | .hbm, ⟨25, _⟩ => ⟨S8x4x4096x1, .f32⟩
  | .hbm, ⟨26, _⟩ => ⟨S8x4x4096x256, .f32⟩
  | .hbm, ⟨27, _⟩ => ⟨S8x4x4096x256, .f32⟩
  | .hbm, ⟨28, _⟩ => ⟨S8x4x128x4096, .f32⟩
  | .hbm, ⟨29, _⟩ => ⟨S8x4096x4x128, .f32⟩
  | .hbm, ⟨30, _⟩ => ⟨S8x4096x512, .f32⟩
  | .hbm, ⟨31, _⟩ => ⟨S8x4096x512, .bf16⟩
  | _, _ => ⟨S8x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== MemKv.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S32768x512 : Shape := ⟨2, ![32768, 512]⟩
abbrev S32768x7168 : Shape := ⟨2, ![32768, 7168]⟩
abbrev S32768x1024 : Shape := ⟨2, ![32768, 1024]⟩
abbrev S3x512x1024 : Shape := ⟨3, ![3, 512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1x1024 : Shape := ⟨2, ![1, 1024]⟩
abbrev S16x1 : Shape := ⟨2, ![16, 1]⟩
abbrev S512x512 : Shape := ⟨2, ![512, 512]⟩
abbrev S32768x128 : Shape := ⟨2, ![32768, 128]⟩
abbrev S64x8x512 : Shape := ⟨3, ![64, 8, 512]⟩
abbrev S64x16x128 : Shape := ⟨3, ![64, 16, 128]⟩
abbrev S512x1024 : Shape := ⟨2, ![512, 1024]⟩
abbrev S512x128 : Shape := ⟨2, ![512, 128]⟩
abbrev S1x8x512 : Shape := ⟨3, ![1, 8, 512]⟩
abbrev S1x16x128 : Shape := ⟨3, ![1, 16, 128]⟩
abbrev S256x512 : Shape := ⟨2, ![256, 512]⟩
abbrev S1x512x1024 : Shape := ⟨3, ![1, 512, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S128x512 : Shape := ⟨2, ![128, 512]⟩
abbrev S16x512 : Shape := ⟨2, ![16, 512]⟩
abbrev S1x512 : Shape := ⟨2, ![1, 512]⟩
abbrev S512 : Shape := ⟨1, ![512]⟩
abbrev S16x128 : Shape := ⟨2, ![16, 128]⟩
abbrev S8x512 : Shape := ⟨2, ![8, 512]⟩

abbrev nBuf : Space → Nat
  | .hbm => 35
  | .vmem => 31
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x7168, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S3x512x1024, .bf16⟩
  | .hbm, ⟨18, _⟩ => ⟨S1024x1024, .bf16⟩
  | .hbm, ⟨19, _⟩ => ⟨S1x1024, .f32⟩
  | .hbm, ⟨20, _⟩ => ⟨S16x1, .f32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S32768x1024, .f32⟩
  | .hbm, ⟨31, _⟩ => ⟨S32768x1024, .bf16⟩
  | .hbm, ⟨32, _⟩ => ⟨S32768x128, .f32⟩
  | .hbm, ⟨33, _⟩ => ⟨S64x8x512, .f32⟩
  | .hbm, ⟨34, _⟩ => ⟨S64x16x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x128, .bf16⟩
  | .local _ .vmem, ⟨18, _⟩ => ⟨S1024x128, .bf16⟩
  | .local _ .vmem, ⟨19, _⟩ => ⟨S16x1, .f32⟩
  | .local _ .vmem, ⟨20, _⟩ => ⟨S512x512, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | .local _ .vmem, ⟨27, _⟩ => ⟨S1x8x512, .f32⟩
  | .local _ .vmem, ⟨28, _⟩ => ⟨S1x8x512, .f32⟩
  | .local _ .vmem, ⟨29, _⟩ => ⟨S1x16x128, .f32⟩
  | .local _ .vmem, ⟨30, _⟩ => ⟨S1x16x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeRefIdeal.lean ====
abbrev S32768x512 : Shape := ⟨2, ![32768, 512]⟩
abbrev S32768x7168 : Shape := ⟨2, ![32768, 7168]⟩
abbrev S32768x1024 : Shape := ⟨2, ![32768, 1024]⟩
abbrev S3x512x1024 : Shape := ⟨3, ![3, 512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S32768x3072 : Shape := ⟨2, ![32768, 3072]⟩
abbrev S32768x3x1024 : Shape := ⟨3, ![32768, 3, 1024]⟩
abbrev S_ : Shape := ⟨0, ![]⟩
abbrev S32768x1x1024 : Shape := ⟨3, ![32768, 1, 1024]⟩
abbrev S1x512x1024 : Shape := ⟨3, ![1, 512, 1024]⟩
abbrev S512x1024 : Shape := ⟨2, ![512, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x7168, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S32768x3072, .bf16⟩
  | .hbm, ⟨11, _⟩ => ⟨S32768x3072, .f32⟩
  | .hbm, ⟨12, _⟩ => ⟨S32768x3x1024, .f32⟩
  | .hbm, ⟨13, _⟩ => ⟨S32768x3x1024, .f32⟩
  | .hbm, ⟨14, _⟩ => ⟨S32768x3x1024, .f32⟩
  | .hbm, ⟨15, _⟩ => ⟨S_, .f32⟩
  | .hbm, ⟨16, _⟩ => ⟨S32768x3x1024, .f32⟩
  | .hbm, ⟨17, _⟩ => ⟨S32768x3x1024, .f32⟩
  | .hbm, ⟨18, _⟩ => ⟨S_, .f32⟩
  | .hbm, ⟨19, _⟩ => ⟨S32768x3x1024, .f32⟩
  | .hbm, ⟨20, _⟩ => ⟨S32768x3x1024, .f32⟩
  | .hbm, ⟨21, _⟩ => ⟨S32768x1x1024, .f32⟩
  | .hbm, ⟨22, _⟩ => ⟨S32768x1024, .f32⟩
  | .hbm, ⟨23, _⟩ => ⟨S32768x512, .f32⟩
  | .hbm, ⟨24, _⟩ => ⟨S1x512x1024, .f32⟩
  | .hbm, ⟨25, _⟩ => ⟨S512x1024, .f32⟩
  | .hbm, ⟨26, _⟩ => ⟨S32768x1024, .f32⟩
  | .hbm, ⟨27, _⟩ => ⟨S32768x1024, .f32⟩
  | .hbm, ⟨28, _⟩ => ⟨S32768x1x1024, .f32⟩
  | .hbm, ⟨29, _⟩ => ⟨S32768x1024, .f32⟩
  | .hbm, ⟨30, _⟩ => ⟨S32768x512, .f32⟩
  | .hbm, ⟨31, _⟩ => ⟨S1x512x1024, .f32⟩
  | .hbm, ⟨32, _⟩ => ⟨S512x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1x1024, .f32⟩
  | .hbm, ⟨37, _⟩ => ⟨S32768x1024, .f32⟩
  | .hbm, ⟨38, _⟩ => ⟨S32768x512, .f32⟩
  | .hbm, ⟨39, _⟩ => ⟨S1x512x1024, .f32⟩
  | .hbm, ⟨40, _⟩ => ⟨S512x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Route.lean ====
abbrev S32768x512 : Shape := ⟨2, ![32768, 512]⟩
abbrev S32768x7168 : Shape := ⟨2, ![32768, 7168]⟩
abbrev S32768x1024 : Shape := ⟨2, ![32768, 1024]⟩
abbrev S3x512x1024 : Shape := ⟨3, ![3, 512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1x1024 : Shape := ⟨2, ![1, 1024]⟩
abbrev S16x1 : Shape := ⟨2, ![16, 1]⟩
abbrev S512x512 : Shape := ⟨2, ![512, 512]⟩
abbrev S32768x128 : Shape := ⟨2, ![32768, 128]⟩
abbrev S64x8x512 : Shape := ⟨3, ![64, 8, 512]⟩
abbrev S64x16x128 : Shape := ⟨3, ![64, 16, 128]⟩
abbrev S512x1024 : Shape := ⟨2, ![512, 1024]⟩
abbrev S512x128 : Shape := ⟨2, ![512, 128]⟩
abbrev S1x8x512 : Shape := ⟨3, ![1, 8, 512]⟩
abbrev S1x16x128 : Shape := ⟨3, ![1, 16, 128]⟩
abbrev S256x512 : Shape := ⟨2, ![256, 512]⟩
abbrev S1x512x1024 : Shape := ⟨3, ![1, 512, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S128x512 : Shape := ⟨2, ![128, 512]⟩
abbrev S16x512 : Shape := ⟨2, ![16, 512]⟩
abbrev S1x512 : Shape := ⟨2, ![1, 512]⟩
abbrev S512 : Shape := ⟨1, ![512]⟩
abbrev S16x128 : Shape := ⟨2, ![16, 128]⟩
abbrev S8x512 : Shape := ⟨2, ![8, 512]⟩

abbrev nBuf : Space → Nat
  | .hbm => 35
  | .vmem => 31
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x7168, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S3x512x1024, .bf16⟩
  | .hbm, ⟨18, _⟩ => ⟨S1024x1024, .bf16⟩
  | .hbm, ⟨19, _⟩ => ⟨S1x1024, .f32⟩
  | .hbm, ⟨20, _⟩ => ⟨S16x1, .f32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S32768x1024, .f32⟩
  | .hbm, ⟨31, _⟩ => ⟨S32768x1024, .bf16⟩
  | .hbm, ⟨32, _⟩ => ⟨S32768x128, .f32⟩
  | .hbm, ⟨33, _⟩ => ⟨S64x8x512, .f32⟩
  | .hbm, ⟨34, _⟩ => ⟨S64x16x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x128, .bf16⟩
  | .local _ .vmem, ⟨18, _⟩ => ⟨S1024x128, .bf16⟩
  | .local _ .vmem, ⟨19, _⟩ => ⟨S16x1, .f32⟩
  | .local _ .vmem, ⟨20, _⟩ => ⟨S512x512, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | .local _ .vmem, ⟨27, _⟩ => ⟨S1x8x512, .f32⟩
  | .local _ .vmem, ⟨28, _⟩ => ⟨S1x8x512, .f32⟩
  | .local _ .vmem, ⟨29, _⟩ => ⟨S1x16x128, .f32⟩
  | .local _ .vmem, ⟨30, _⟩ => ⟨S1x16x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RouteRefIdeal.lean ====
abbrev S32768x512 : Shape := ⟨2, ![32768, 512]⟩
abbrev S32768x7168 : Shape := ⟨2, ![32768, 7168]⟩
abbrev S32768x1024 : Shape := ⟨2, ![32768, 1024]⟩
abbrev S3x512x1024 : Shape := ⟨3, ![3, 512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S32768x3072 : Shape := ⟨2, ![32768, 3072]⟩
abbrev S32768x3x1024 : Shape := ⟨3, ![32768, 3, 1024]⟩
abbrev S_ : Shape := ⟨0, ![]⟩
abbrev S32768x1x1024 : Shape := ⟨3, ![32768, 1, 1024]⟩
abbrev S1x512x1024 : Shape := ⟨3, ![1, 512, 1024]⟩
abbrev S512x1024 : Shape := ⟨2, ![512, 1024]⟩
abbrev S32768 : Shape := ⟨1, ![32768]⟩
abbrev S32768x1 : Shape := ⟨2, ![32768, 1]⟩
abbrev S1x1024 : Shape := ⟨2, ![1, 1024]⟩
abbrev S32768x16 : Shape := ⟨2, ![32768, 16]⟩
abbrev S1x16 : Shape := ⟨2, ![1, 16]⟩
abbrev S32768x4x4 : Shape := ⟨3, ![32768, 4, 4]⟩
abbrev S4 : Shape := ⟨1, ![4]⟩
abbrev S4x1 : Shape := ⟨2, ![4, 1]⟩
abbrev S1x4 : Shape := ⟨2, ![1, 4]⟩
abbrev S32768x4x4x1 : Shape := ⟨4, ![32768, 4, 4, 1]⟩
abbrev S32768x4x1x4 : Shape := ⟨4, ![32768, 4, 1, 4]⟩
abbrev S32768x4x4x4 : Shape := ⟨4, ![32768, 4, 4, 4]⟩
abbrev S4x4 : Shape := ⟨2, ![4, 4]⟩
abbrev S1x1x4x4 : Shape := ⟨4, ![1, 1, 4, 4]⟩
abbrev S32768x4 : Shape := ⟨2, ![32768, 4]⟩
abbrev S32768x4x1 : Shape := ⟨3, ![32768, 4, 1]⟩
abbrev S32768x1x4 : Shape := ⟨3, ![32768, 1, 4]⟩
abbrev S1x4x4 : Shape := ⟨3, ![1, 4, 4]⟩
abbrev S64x512x16 : Shape := ⟨3, ![64, 512, 16]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S64x16x512 : Shape := ⟨3, ![64, 16, 512]⟩
abbrev S128 : Shape := ⟨1, ![128]⟩
abbrev S1x128 : Shape := ⟨2, ![1, 128]⟩
abbrev S32768x128 : Shape := ⟨2, ![32768, 128]⟩
abbrev S64x16 : Shape := ⟨2, ![64, 16]⟩
abbrev S64x16x1 : Shape := ⟨3, ![64, 16, 1]⟩
abbrev S64x16x128 : Shape := ⟨3, ![64, 16, 128]⟩
abbrev S32768x8 : Shape := ⟨2, ![32768, 8]⟩
abbrev S64x512x8 : Shape := ⟨3, ![64, 512, 8]⟩
abbrev S64x8x512 : Shape := ⟨3, ![64, 8, 512]⟩

abbrev nBuf : Space → Nat
  | .hbm => 270
  | .vmem => 0
  | .smem => 0
  | _ => 0

abbrev hbmTy0_0 (i : Nat) : BufTy := match i % 128 with
  | 0 => ⟨S32768x512, .bf16⟩
  | 1 => ⟨S32768x512, .bf16⟩
  | 2 => ⟨S32768x512, .bf16⟩
  | 3 => ⟨S32768x7168, .bf16⟩
  | 4 => ⟨S32768x1024, .f32⟩
  | 5 => ⟨S3x512x1024, .f32⟩
  | 6 => ⟨S1024x1024, .f32⟩
  | 7 => ⟨S1024, .f32⟩
  | 8 => ⟨S1024x16, .f32⟩
  | 9 => ⟨S16, .f32⟩
  | 10 => ⟨S32768x3072, .bf16⟩
  | 11 => ⟨S32768x3072, .f32⟩
  | 12 => ⟨S32768x3x1024, .f32⟩
  | 13 => ⟨S32768x3x1024, .f32⟩
  | 14 => ⟨S32768x3x1024, .f32⟩
  | 15 => ⟨S_, .f32⟩
  | 16 => ⟨S32768x3x1024, .f32⟩
  | 17 => ⟨S32768x3x1024, .f32⟩
  | 18 => ⟨S_, .f32⟩
  | 19 => ⟨S32768x3x1024, .f32⟩
  | 20 => ⟨S32768x3x1024, .f32⟩
  | 21 => ⟨S32768x1x1024, .f32⟩
  | 22 => ⟨S32768x1024, .f32⟩
  | 23 => ⟨S32768x512, .f32⟩
  | 24 => ⟨S1x512x1024, .f32⟩
  | 25 => ⟨S512x1024, .f32⟩
  | 26 => ⟨S32768x1024, .f32⟩
  | 27 => ⟨S32768x1024, .f32⟩
  | 28 => ⟨S32768x1x1024, .f32⟩
  | 29 => ⟨S32768x1024, .f32⟩
  | 30 => ⟨S32768x512, .f32⟩
  | 31 => ⟨S1x512x1024, .f32⟩
  | 32 => ⟨S512x1024, .f32⟩
  | 33 => ⟨S32768x1024, .f32⟩
  | 34 => ⟨S32768x1024, .f32⟩
  | 35 => ⟨S32768x1024, .f32⟩
  | 36 => ⟨S32768x1x1024, .f32⟩
  | 37 => ⟨S32768x1024, .f32⟩
  | 38 => ⟨S32768x512, .f32⟩
  | 39 => ⟨S1x512x1024, .f32⟩
  | 40 => ⟨S512x1024, .f32⟩
  | 41 => ⟨S32768x1024, .f32⟩
  | 42 => ⟨S32768x1024, .f32⟩
  | 43 => ⟨S32768x1024, .f32⟩
  | 44 => ⟨S32768x1024, .f32⟩
  | 45 => ⟨S32768x1024, .f32⟩
  | 46 => ⟨S32768x1024, .f32⟩
  | 47 => ⟨S_, .f32⟩
  | 48 => ⟨S32768, .f32⟩
  | 49 => ⟨S32768x1, .f32⟩
  | 50 => ⟨S_, .f32⟩
  | 51 => ⟨S32768x1, .f32⟩
  | 52 => ⟨S32768x1, .f32⟩
  | 53 => ⟨S_, .f32⟩
  | 54 => ⟨S32768x1, .f32⟩
  | 55 => ⟨S32768x1, .f32⟩
  | 56 => ⟨S32768x1, .f32⟩
  | 57 => ⟨S32768x1024, .f32⟩
  | 58 => ⟨S32768x1024, .f32⟩
  | 59 => ⟨S1x1024, .f32⟩
  | 60 => ⟨S32768x1024, .f32⟩
  | 61 => ⟨S32768x1024, .f32⟩
  | 62 => ⟨S32768x16, .f32⟩
  | 63 => ⟨S32768x16, .f32⟩
  | 64 => ⟨S32768x16, .f32⟩
  | 65 => ⟨S_, .f32⟩
  | 66 => ⟨S32768x16, .f32⟩
  | 67 => ⟨S32768x16, .f32⟩
  | 68 => ⟨S_, .f32⟩
  | 69 => ⟨S32768x16, .f32⟩
  | 70 => ⟨S32768x16, .f32⟩
  | 71 => ⟨S1x16, .f32⟩
  | 72 => ⟨S32768x16, .f32⟩
  | 73 => ⟨S32768x16, .f32⟩
  | 74 => ⟨S32768x4x4, .f32⟩
  | 75 => ⟨S4, .i32⟩
  | 76 => ⟨S4x1, .i32⟩
  | 77 => ⟨S4, .i32⟩
  | 78 => ⟨S1x4, .i32⟩
  | 79 => ⟨S32768x4x4x1, .f32⟩
  | 80 => ⟨S32768x4x1x4, .f32⟩
  | 81 => ⟨S32768x4x4x4, .f32⟩
  | 82 => ⟨S32768x4x4x4, .f32⟩
  | 83 => ⟨S32768x4x4x4, .i1⟩
  | 84 => ⟨S32768x4x4x4, .f32⟩
  | 85 => ⟨S32768x4x4x4, .f32⟩
  | 86 => ⟨S32768x4x4x4, .i1⟩
  | 87 => ⟨S4x4, .i32⟩
  | 88 => ⟨S4x4, .i32⟩
  | 89 => ⟨S4x4, .i1⟩
  | 90 => ⟨S1x1x4x4, .i1⟩
  | 91 => ⟨S32768x4x4x4, .i1⟩
  | 92 => ⟨S32768x4x4x4, .i1⟩
  | 93 => ⟨S32768x4x4x4, .i1⟩
  | 94 => ⟨S_, .f32⟩
  | 95 => ⟨S_, .f32⟩
  | 96 => ⟨S32768x4x4x4, .f32⟩
  | 97 => ⟨S32768x4x4x4, .f32⟩
  | 98 => ⟨S32768x4x4x4, .f32⟩
  | 99 => ⟨S32768x4x4x4, .f32⟩
  | 100 => ⟨S_, .f32⟩
  | 101 => ⟨S32768x4x4, .f32⟩
  | 102 => ⟨S_, .f32⟩
  | 103 => ⟨S32768x4x4, .f32⟩
  | 104 => ⟨S32768x4x4, .i1⟩
  | 105 => ⟨S_, .f32⟩
  | 106 => ⟨S_, .f32⟩
  | 107 => ⟨S32768x4x4, .f32⟩
  | 108 => ⟨S32768x4x4, .f32⟩
  | 109 => ⟨S_, .f32⟩
  | 110 => ⟨S32768x4, .f32⟩
  | 111 => ⟨S4, .i32⟩
  | 112 => ⟨S4x1, .i32⟩
  | 113 => ⟨S4, .i32⟩
  | 114 => ⟨S1x4, .i32⟩
  | 115 => ⟨S32768x4x1, .f32⟩
  | 116 => ⟨S32768x1x4, .f32⟩
  | 117 => ⟨S32768x4x4, .f32⟩
  | 118 => ⟨S32768x4x4, .f32⟩
  | 119 => ⟨S32768x4x4, .i1⟩
  | 120 => ⟨S32768x4x4, .f32⟩
  | 121 => ⟨S32768x4x4, .f32⟩
  | 122 => ⟨S32768x4x4, .i1⟩
  | 123 => ⟨S4x4, .i32⟩
  | 124 => ⟨S4x4, .i32⟩
  | 125 => ⟨S4x4, .i1⟩
  | 126 => ⟨S1x4x4, .i1⟩
  | 127 => ⟨S32768x4x4, .i1⟩
  | _ => ⟨S32768x512, .bf16⟩

abbrev hbmTy0_1 (i : Nat) : BufTy := match i % 128 with
  | 0 => ⟨S32768x4x4, .i1⟩
  | 1 => ⟨S32768x4x4, .i1⟩
  | 2 => ⟨S_, .f32⟩
  | 3 => ⟨S_, .f32⟩
  | 4 => ⟨S32768x4x4, .f32⟩
  | 5 => ⟨S32768x4x4, .f32⟩
  | 6 => ⟨S32768x4x4, .f32⟩
  | 7 => ⟨S32768x4x4, .f32⟩
  | 8 => ⟨S_, .f32⟩
  | 9 => ⟨S32768x4, .f32⟩
  | 10 => ⟨S_, .f32⟩
  | 11 => ⟨S32768x4, .f32⟩
  | 12 => ⟨S32768x4, .i1⟩
  | 13 => ⟨S32768x4x1, .i1⟩
  | 14 => ⟨S_, .f32⟩
  | 15 => ⟨S32768x4x4, .f32⟩
  | 16 => ⟨S32768x4x4, .i1⟩
  | 17 => ⟨S32768x4x4, .i1⟩
  | 18 => ⟨S32768x4x4, .i1⟩
  | 19 => ⟨S_, .f32⟩
  | 20 => ⟨S_, .f32⟩
  | 21 => ⟨S32768x4x4, .f32⟩
  | 22 => ⟨S32768x4x4, .f32⟩
  | 23 => ⟨S32768x4x4, .f32⟩
  | 24 => ⟨S32768x16, .f32⟩
  | 25 => ⟨S32768x4x1, .i1⟩
  | 26 => ⟨S_, .f32⟩
  | 27 => ⟨S32768x4x4, .f32⟩
  | 28 => ⟨S32768x4x4, .i1⟩
  | 29 => ⟨S32768x4x4, .i1⟩
  | 30 => ⟨S32768x4x4, .i1⟩
  | 31 => ⟨S_, .f32⟩
  | 32 => ⟨S_, .f32⟩
  | 33 => ⟨S32768x4x4, .f32⟩
  | 34 => ⟨S32768x4x4, .f32⟩
  | 35 => ⟨S32768x4x4, .f32⟩
  | 36 => ⟨S32768x16, .f32⟩
  | 37 => ⟨S32768x16, .f32⟩
  | 38 => ⟨S32768x16, .f32⟩
  | 39 => ⟨S_, .f32⟩
  | 40 => ⟨S32768, .f32⟩
  | 41 => ⟨S32768x16, .f32⟩
  | 42 => ⟨S32768x16, .f32⟩
  | 43 => ⟨S_, .f32⟩
  | 44 => ⟨S32768, .f32⟩
  | 45 => ⟨S16, .i32⟩
  | 46 => ⟨S16, .f32⟩
  | 47 => ⟨S32768x16, .f32⟩
  | 48 => ⟨S1x16, .f32⟩
  | 49 => ⟨S32768x16, .f32⟩
  | 50 => ⟨S32768x16, .f32⟩
  | 51 => ⟨S_, .f32⟩
  | 52 => ⟨S32768, .f32⟩
  | 53 => ⟨S32768x16, .f32⟩
  | 54 => ⟨S1x16, .f32⟩
  | 55 => ⟨S32768x16, .f32⟩
  | 56 => ⟨S32768x16, .f32⟩
  | 57 => ⟨S_, .f32⟩
  | 58 => ⟨S32768, .f32⟩
  | 59 => ⟨S32768x16, .f32⟩
  | 60 => ⟨S64x512x16, .f32⟩
  | 61 => ⟨S512, .i32⟩
  | 62 => ⟨S1x512, .i32⟩
  | 63 => ⟨S512, .i32⟩
  | 64 => ⟨S512x1, .i32⟩
  | 65 => ⟨S512x512, .i32⟩
  | 66 => ⟨S512x512, .i32⟩
  | 67 => ⟨S512x512, .i1⟩
  | 68 => ⟨S_, .f32⟩
  | 69 => ⟨S_, .f32⟩
  | 70 => ⟨S512x512, .f32⟩
  | 71 => ⟨S512x512, .f32⟩
  | 72 => ⟨S512x512, .f32⟩
  | 73 => ⟨S64x16x512, .f32⟩
  | 74 => ⟨S64x512x16, .f32⟩
  | 75 => ⟨S32768x16, .f32⟩
  | 76 => ⟨S32768x16, .f32⟩
  | 77 => ⟨S32768x16, .f32⟩
  | 78 => ⟨S_, .f32⟩
  | 79 => ⟨S32768, .f32⟩
  | 80 => ⟨S32768x16, .f32⟩
  | 81 => ⟨S32768x16, .f32⟩
  | 82 => ⟨S_, .f32⟩
  | 83 => ⟨S32768, .f32⟩
  | 84 => ⟨S128, .i32⟩
  | 85 => ⟨S1x128, .i32⟩
  | 86 => ⟨S_, .f32⟩
  | 87 => ⟨S32768x128, .f32⟩
  | 88 => ⟨S32768, .f32⟩
  | 89 => ⟨S32768, .f32⟩
  | 90 => ⟨S32768, .f32⟩
  | 91 => ⟨S32768, .f32⟩
  | 92 => ⟨S_, .i32⟩
  | 93 => ⟨S1x128, .i32⟩
  | 94 => ⟨S1x128, .i1⟩
  | 95 => ⟨S32768x1, .f32⟩
  | 96 => ⟨S32768x128, .i1⟩
  | 97 => ⟨S32768x128, .f32⟩
  | 98 => ⟨S32768x128, .f32⟩
  | 99 => ⟨S_, .i32⟩
  | 100 => ⟨S1x128, .i32⟩
  | 101 => ⟨S1x128, .i1⟩
  | 102 => ⟨S32768x1, .f32⟩
  | 103 => ⟨S32768x128, .i1⟩
  | 104 => ⟨S32768x128, .f32⟩
  | 105 => ⟨S32768x128, .f32⟩
  | 106 => ⟨S_, .i32⟩
  | 107 => ⟨S1x128, .i32⟩
  | 108 => ⟨S1x128, .i1⟩
  | 109 => ⟨S32768x1, .f32⟩
  | 110 => ⟨S32768x128, .i1⟩
  | 111 => ⟨S32768x128, .f32⟩
  | 112 => ⟨S32768x128, .f32⟩
  | 113 => ⟨S_, .i32⟩
  | 114 => ⟨S1x128, .i32⟩
  | 115 => ⟨S1x128, .i1⟩
  | 116 => ⟨S32768x1, .f32⟩
  | 117 => ⟨S32768x128, .i1⟩
  | 118 => ⟨S32768x128, .f32⟩
  | 119 => ⟨S32768x128, .f32⟩
  | 120 => ⟨S_, .i32⟩
  | 121 => ⟨S1x128, .i32⟩
  | 122 => ⟨S1x128, .i1⟩
  | 123 => ⟨S32768x1, .f32⟩
  | 124 => ⟨S32768x128, .i1⟩
  | 125 => ⟨S32768x128, .f32⟩
  | 126 => ⟨S32768x128, .f32⟩
  | 127 => ⟨S_, .i32⟩
  | _ => ⟨S32768x512, .bf16⟩

abbrev hbmTy0_2 (i : Nat) : BufTy := match i % 128 with
  | 0 => ⟨S1x128, .i32⟩
  | 1 => ⟨S1x128, .i1⟩
  | 2 => ⟨S32768x1, .f32⟩
  | 3 => ⟨S32768x128, .i1⟩
  | 4 => ⟨S32768x128, .f32⟩
  | 5 => ⟨S32768x128, .f32⟩
  | 6 => ⟨S64x512x16, .f32⟩
  | 7 => ⟨S_, .f32⟩
  | 8 => ⟨S64x16, .f32⟩
  | 9 => ⟨S64x16x1, .f32⟩
  | 10 => ⟨S64x16x128, .f32⟩
  | 11 => ⟨S32768x8, .f32⟩
  | 12 => ⟨S64x512x8, .f32⟩
  | 13 => ⟨S64x8x512, .f32⟩
  | _ => ⟨S32768x512, .bf16⟩

abbrev hbmTy (i : Nat) : BufTy := match i / 128 with
  | 0 => hbmTy0_0 i
  | 1 => hbmTy0_1 i
  | 2 => hbmTy0_2 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_6 : Ref sig .tc := ⟨.hbm, 94, rfl⟩
abbrev main_cst_7 : Ref sig .tc := ⟨.hbm, 95, rfl⟩
abbrev main_call0_v0 : Ref sig .tc := ⟨.hbm, 96, rfl⟩
abbrev main_call0_v1 : Ref sig .tc := ⟨.hbm, 97, rfl⟩
abbrev main_v77 : Ref sig .tc := ⟨.hbm, 98, rfl⟩
abbrev main_v78 : Ref sig .tc := ⟨.hbm, 99, rfl⟩
abbrev main_cst_8 : Ref sig .tc := ⟨.hbm, 100, rfl⟩
abbrev main_v79 : Ref sig .tc := ⟨.hbm, 101, rfl⟩
abbrev main_cst_9 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_call1_v0 : Ref sig .tc := ⟨.hbm, 106, rfl⟩
abbrev main_call1_v1 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_12 : Ref sig .tc := ⟨.hbm, 130, rfl⟩
abbrev main_cst_13 : Ref sig .tc := ⟨.hbm, 131, rfl⟩
abbrev main_call2_v0 : Ref sig .tc := ⟨.hbm, 132, rfl⟩
abbrev main_call2_v1 : Ref sig .tc := ⟨.hbm, 133, rfl⟩
abbrev main_v103 : Ref sig .tc := ⟨.hbm, 134, rfl⟩
abbrev main_v104 : Ref sig .tc := ⟨.hbm, 135, rfl⟩
abbrev main_cst_14 : Ref sig .tc := ⟨.hbm, 136, rfl⟩
abbrev main_v105 : Ref sig .tc := ⟨.hbm, 137, rfl⟩
abbrev main_cst_15 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_16 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_17 : Ref sig .tc := ⟨.hbm, 147, rfl⟩
abbrev main_cst_18 : Ref sig .tc := ⟨.hbm, 148, rfl⟩
abbrev main_call3_v0 : Ref sig .tc := ⟨.hbm, 149, rfl⟩
abbrev main_call3_v1 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_19 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_20 : Ref sig .tc := ⟨.hbm, 159, rfl⟩
abbrev main_cst_21 : Ref sig .tc := ⟨.hbm, 160, rfl⟩
abbrev main_call4_v0 : Ref sig .tc := ⟨.hbm, 161, rfl⟩
abbrev main_call4_v1 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_23 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_24 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_25 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_26 : Ref sig .tc := ⟨.hbm, 196, rfl⟩
abbrev main_cst_27 : Ref sig .tc := ⟨.hbm, 197, rfl⟩
abbrev main_call5_v0 : Ref sig .tc := ⟨.hbm, 198, rfl⟩
abbrev main_call5_v1 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_28 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_29 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_30 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_call6_v0 : Ref sig .tc := ⟨.hbm, 224, rfl⟩
abbrev main_call6_v1 : Ref sig .tc := ⟨.hbm, 225, rfl⟩
abbrev main_v169 : Ref sig .tc := ⟨.hbm, 226, rfl⟩
abbrev main_c_31 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_call7_v0 : Ref sig .tc := ⟨.hbm, 231, rfl⟩
abbrev main_call7_v1 : Ref sig .tc := ⟨.hbm, 232, rfl⟩
abbrev main_v173 : Ref sig .tc := ⟨.hbm, 233, rfl⟩
abbrev main_c_32 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_call8_v0 : Ref sig .tc := ⟨.hbm, 238, rfl⟩
abbrev main_call8_v1 : Ref sig .tc := ⟨.hbm, 239, rfl⟩
abbrev main_v177 : Ref sig .tc := ⟨.hbm, 240, rfl⟩
abbrev main_c_33 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_call9_v0 : Ref sig .tc := ⟨.hbm, 245, rfl⟩
abbrev main_call9_v1 : Ref sig .tc := ⟨.hbm, 246, rfl⟩
abbrev main_v181 : Ref sig .tc := ⟨.hbm, 247, rfl⟩
abbrev main_c_34 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_call10_v0 : Ref sig .tc := ⟨.hbm, 252, rfl⟩
abbrev main_call10_v1 : Ref sig .tc := ⟨.hbm, 253, rfl⟩
abbrev main_v185 : Ref sig .tc := ⟨.hbm, 254, rfl⟩
abbrev main_c_35 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_call11_v0 : Ref sig .tc := ⟨.hbm, 259, rfl⟩
abbrev main_call11_v1 : Ref sig .tc := ⟨.hbm, 260, rfl⟩
abbrev main_v189 : Ref sig .tc := ⟨.hbm, 261, rfl⟩
abbrev main_v190 : Ref sig .tc := ⟨.hbm, 262, rfl⟩
abbrev main_cst_36 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩

abbrev nD : Nat := 1
abbrev τ : Topo := Topo.v7x

variable {F : FTy → Type} [FloatOps F]
-- ==== Ffn.lean ====
abbrev S174 : Shape := ⟨1, ![174]⟩
abbrev S1 : Shape := ⟨1, ![1]⟩
abbrev S89088x1152 : Shape := ⟨2, ![89088, 1152]⟩
abbrev S2x16x1024x512 : Shape := ⟨4, ![2, 16, 1024, 512]⟩
abbrev S2x16x512x1024 : Shape := ⟨4, ![2, 16, 512, 1024]⟩
abbrev S89088x1024 : Shape := ⟨2, ![89088, 1024]⟩
abbrev S512x1152 : Shape := ⟨2, ![512, 1152]⟩
abbrev S1x1x1024x512 : Shape := ⟨4, ![1, 1, 1024, 512]⟩
abbrev S1x1x512x1024 : Shape := ⟨4, ![1, 1, 512, 1024]⟩
abbrev S512x1024 : Shape := ⟨2, ![512, 1024]⟩
abbrev S1024x512 : Shape := ⟨2, ![1024, 512]⟩
abbrev S256x1024 : Shape := ⟨2, ![256, 1024]⟩
abbrev S256x512 : Shape := ⟨2, ![256, 512]⟩
abbrev S256x128 : Shape := ⟨2, ![256, 128]⟩
abbrev S256x1 : Shape := ⟨2, ![256, 1]⟩

abbrev nBuf : Space → Nat
  | .hbm => 5
  | .vmem => 13
  | .smem => 2
  | _ => 0

abbrev bufTy : (tb : Table) → Fin (tcTables nBuf tb) → BufTy
  | .hbm, ⟨0, _⟩ => ⟨S89088x1152, .bf16⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S89088x1024, .bf16⟩
  | .local _ .vmem, ⟨0, _⟩ => ⟨S512x1152, .bf16⟩
  | .local _ .vmem, ⟨1, _⟩ => ⟨S512x1152, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S174, .i32⟩
  | .local _ .smem, ⟨1, _⟩ => ⟨S1, .i32⟩
  | _, _ => ⟨S89088x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![174], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32 : BitVec 32 := 0#32
  let v6 : BitVec 1 := Scalar.cmpi .ne v5 c0_i32
  v6

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S174.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S174) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S174.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S174) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S174.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S174) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S174 : Shape := ⟨1, ![174]⟩
abbrev S1 : Shape := ⟨1, ![1]⟩
abbrev S89088x1152 : Shape := ⟨2, ![89088, 1152]⟩
abbrev S2x16x1024x512 : Shape := ⟨4, ![2, 16, 1024, 512]⟩
abbrev S2x16x512x1024 : Shape := ⟨4, ![2, 16, 512, 1024]⟩
abbrev S174x512x1152 : Shape := ⟨3, ![174, 512, 1152]⟩
abbrev S174x512x1024 : Shape := ⟨3, ![174, 512, 1024]⟩
abbrev S174x512x128 : Shape := ⟨3, ![174, 512, 128]⟩
abbrev S1x16x1024x512 : Shape := ⟨4, ![1, 16, 1024, 512]⟩
abbrev S16x1024x512 : Shape := ⟨3, ![16, 1024, 512]⟩
abbrev S_ : Shape := ⟨0, ![]⟩
abbrev S174x1 : Shape := ⟨2, ![174, 1]⟩
abbrev S174x1024x512 : Shape := ⟨3, ![174, 1024, 512]⟩
abbrev S1x16x512x1024 : Shape := ⟨4, ![1, 16, 512, 1024]⟩
abbrev S16x512x1024 : Shape := ⟨3, ![16, 512, 1024]⟩
abbrev S174x512x512 : Shape := ⟨3, ![174, 512, 512]⟩
abbrev S174x512x1 : Shape := ⟨3, ![174, 512, 1]⟩
abbrev S174x512 : Shape := ⟨2, ![174, 512]⟩
abbrev S174x1x1 : Shape := ⟨3, ![174, 1, 1]⟩
abbrev S89088x1024 : Shape := ⟨2, ![89088, 1024]⟩

abbrev nBuf : Space → Nat
  | .hbm => 94
  | .vmem => 0
  | .smem => 0
  | _ => 0

abbrev bufTy : (tb : Table) → Fin (tcTables nBuf tb) → BufTy
  | .hbm, ⟨0, _⟩ => ⟨S174, .i32⟩
  | .hbm, ⟨1, _⟩ => ⟨S1, .i32⟩
  | .hbm, ⟨2, _⟩ => ⟨S89088x1152, .bf16⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S89088x1152, .f32⟩
  | .hbm, ⟨7, _⟩ => ⟨S174x512x1152, .f32⟩
  | .hbm, ⟨8, _⟩ => ⟨S174x512x1024, .f32⟩
  | .hbm, ⟨9, _⟩ => ⟨S174x512x128, .f32⟩
  | .hbm, ⟨10, _⟩ => ⟨S1x16x1024x512, .f32⟩
  | .hbm, ⟨11, _⟩ => ⟨S16x1024x512, .f32⟩
  | .hbm, ⟨12, _⟩ => ⟨S_, .i32⟩
  | .hbm, ⟨13, _⟩ => ⟨S174, .i32⟩
  | .hbm, ⟨14, _⟩ => ⟨S174, .i1⟩
  | .hbm, ⟨15, _⟩ => ⟨S_, .i32⟩
  | .hbm, ⟨16, _⟩ => ⟨S174, .i32⟩
  | .hbm, ⟨17, _⟩ => ⟨S174, .i32⟩
  | .hbm, ⟨18, _⟩ => ⟨S174, .i32⟩
  | .hbm, ⟨19, _⟩ => ⟨S174x1, .i32⟩
  | .hbm, ⟨20, _⟩ => ⟨S174x1024x512, .f32⟩
  | .hbm, ⟨21, _⟩ => ⟨S1x16x1024x512, .f32⟩
  | .hbm, ⟨22, _⟩ => ⟨S16x1024x512, .f32⟩
  | .hbm, ⟨23, _⟩ => ⟨S_, .i32⟩
  | .hbm, ⟨24, _⟩ => ⟨S174, .i32⟩
  | .hbm, ⟨25, _⟩ => ⟨S174, .i1⟩
  | .hbm, ⟨26, _⟩ => ⟨S_, .i32⟩
  | .hbm, ⟨27, _⟩ => ⟨S174, .i32⟩
  | .hbm, ⟨28, _⟩ => ⟨S174, .i32⟩
  | .hbm, ⟨29, _⟩ => ⟨S174, .i32⟩
  | .hbm, ⟨30, _⟩ => ⟨S174x1, .i32⟩
  | .hbm, ⟨31, _⟩ => ⟨S174x1024x512, .f32⟩
  | .hbm, ⟨32, _⟩ => ⟨S1x16x512x1024, .f32⟩
  | .hbm, ⟨33, _⟩ => ⟨S16x512x1024, .f32⟩
  | .hbm, ⟨34, _⟩ => ⟨S_, .i32⟩
  | .hbm, ⟨35, _⟩ => ⟨S174, .i32⟩
  | .hbm, ⟨36, _⟩ => ⟨S174, .i1⟩
  | .hbm, ⟨37, _⟩ => ⟨S_, .i32⟩
  | .hbm, ⟨38, _⟩ => ⟨S174, .i32⟩
  | .hbm, ⟨39, _⟩ => ⟨S174, .i32⟩
  | .hbm, ⟨40, _⟩ => ⟨S174, .i32⟩
  | .hbm, ⟨41, _⟩ => ⟨S174x1, .i32⟩
  | .hbm, ⟨42, _⟩ => ⟨S174x512x1024, .f32⟩
  | .hbm, ⟨43, _⟩ => ⟨S174x512x512, .f32⟩
  | .hbm, ⟨44, _⟩ => ⟨S174x512x512, .f32⟩
  | .hbm, ⟨45, _⟩ => ⟨S174x512x1, .f32⟩
  | .hbm, ⟨46, _⟩ => ⟨S174x512, .f32⟩
  | .hbm, ⟨47, _⟩ => ⟨S174, .f32⟩
  | .hbm, ⟨48, _⟩ => ⟨S174x1, .f32⟩
  | .hbm, ⟨49, _⟩ => ⟨S174x512, .f32⟩
  | .hbm, ⟨50, _⟩ => ⟨S174x512, .i1⟩
  | .hbm, ⟨51, _⟩ => ⟨S174x512x1, .f32⟩
  | .hbm, ⟨52, _⟩ => ⟨S174x512, .f32⟩
  | .hbm, ⟨53, _⟩ => ⟨S174x512x1, .f32⟩
  | .hbm, ⟨54, _⟩ => ⟨S174x512, .f32⟩
  | .hbm, ⟨55, _⟩ => ⟨S174x512, .f32⟩
  | .hbm, ⟨56, _⟩ => ⟨S174x512x1, .f32⟩
  | .hbm, ⟨57, _⟩ => ⟨S174x512, .f32⟩
  | .hbm, ⟨58, _⟩ => ⟨S174x512, .f32⟩
  | .hbm, ⟨59, _⟩ => ⟨S174x512x1, .f32⟩
  | .hbm, ⟨60, _⟩ => ⟨S174x512, .f32⟩
  | .hbm, ⟨61, _⟩ => ⟨S174x512x1, .f32⟩
  | .hbm, ⟨62, _⟩ => ⟨S174x512, .f32⟩
  | .hbm, ⟨63, _⟩ => ⟨S174x512, .f32⟩
  | .hbm, ⟨64, _⟩ => ⟨S174x512x1, .f32⟩
  | .hbm, ⟨65, _⟩ => ⟨S174x512, .f32⟩
  | .hbm, ⟨66, _⟩ => ⟨S174x512, .f32⟩
  | .hbm, ⟨67, _⟩ => ⟨S174x512, .f32⟩
  | .hbm, ⟨68, _⟩ => ⟨S174x512x512, .f32⟩
  | .hbm, ⟨69, _⟩ => ⟨S174x512x512, .f32⟩
  | .hbm, ⟨70, _⟩ => ⟨S_, .f32⟩
  | .hbm, ⟨71, _⟩ => ⟨S174x512x512, .f32⟩
  | .hbm, ⟨72, _⟩ => ⟨S174x512x512, .f32⟩
  | .hbm, ⟨73, _⟩ => ⟨S_, .f32⟩
  | .hbm, ⟨74, _⟩ => ⟨S174x512x512, .f32⟩
  | .hbm, ⟨75, _⟩ => ⟨S174x512x512, .f32⟩
  | .hbm, ⟨76, _⟩ => ⟨S174x512x512, .f32⟩
  | .hbm, ⟨77, _⟩ => ⟨S174x512x512, .f32⟩
  | .hbm, ⟨78, _⟩ => ⟨S174x512x1, .f32⟩
  | .hbm, ⟨79, _⟩ => ⟨S174x512x512, .f32⟩
  | .hbm, ⟨80, _⟩ => ⟨S174x512x512, .f32⟩
  | .hbm, ⟨81, _⟩ => ⟨S174x512x1024, .f32⟩
  | .hbm, ⟨82, _⟩ => ⟨S174, .i32⟩
  | .hbm, ⟨83, _⟩ => ⟨S_, .i32⟩
  | .hbm, ⟨84, _⟩ => ⟨S174, .i32⟩
  | .hbm, ⟨85, _⟩ => ⟨S174, .i1⟩
  | .hbm, ⟨86, _⟩ => ⟨S174x1x1, .i1⟩
  | .hbm, ⟨87, _⟩ => ⟨S_, .f32⟩
  | .hbm, ⟨88, _⟩ => ⟨S_, .f32⟩
  | .hbm, ⟨89, _⟩ => ⟨S174x512x1024, .i1⟩
  | .hbm, ⟨90, _⟩ => ⟨S174x512x1024, .f32⟩
  | .hbm, ⟨91, _⟩ => ⟨S174x512x1024, .f32⟩
  | .hbm, ⟨92, _⟩ => ⟨S89088x1024, .f32⟩
  | .hbm, ⟨93, _⟩ => ⟨S89088x1024, .bf16⟩
  | _, _ => ⟨S174, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Proof.InProjValue.lean ====
/- The value of the input projection: what the tiled kernel leaves in its result array is the reference's term of the
   same arguments, at the ideal values. -/
module

public import proofs.«01_k».proof.Proof.Gen.InProjIdeal.Frame
public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

namespace Cert.InProjIdeal.Hand

open Cert.InProjIdeal Cert.InProjIdeal.Gen
open Idealize.ShloMosaic Idealize.ShloMosaic.TcCoe Idealize.SL.Sem
open Idealize.ShloMosaic.Pipeline (Dat)

variable (m : (ℓ : Loc nD τ sig) → Buf (Elt Ideal) ℓ)

/-- What a block's rows give: each row over the root of its mean square, scaled by the gains, against the weight. -/
def rows (x0 : Vec Ideal S512x1024 .f32) (x1 : Vec Ideal S1x1024 .f32) (x2 : Vec Ideal S1024x7168 .bf16) (y : S512x7168.Idx) : EReal :=
  ∑ k : Fin 1024, (x0 (ix2 (y 0) k) : EReal) *
    Ideal.rsqrt (Ideal.div (∑ l : Fin 1024, (x0 (ix2 (y 0) l) : EReal) * (x0 (ix2 (y 0) l) : EReal)) (Ideal.ofBits FTy.f32 1149239296#32)
      + Ideal.ofBits FTy.f32 897988541#32) * (x1 (ix2 0 k) : EReal) * (x2 (ix2 k (y 1)) : EReal)

/-- The fourteen column stores together hold those rows. -/
theorem out_eq (x0 : Vec Ideal S512x1024 .f32) (x1 : Vec Ideal S1x1024 .f32) (x2 : Vec Ideal S1024x7168 .bf16) (y : S512x7168.Idx) :
    out0_3 (F := Ideal) x0 x1 x2 y = rows x0 x1 x2 y := by
  canon_tiles x h
  all_goals
    open_payloads
    pointwise [rows]
    blk_point []

/-- Each window's block index at a point, decided over the points. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

/-- What a point stores at a block index is the reference's value at the array index it sits at. -/
theorem point (c : Dev nD) (t : Fin cfg0.N) (y : S512x7168.Idx) :
    rows (iblk m c 0 t) (iblk m c 1 t) (iblk m c 2 t) y
      = Cert.InProjRefIdeal.Read.val_main_v14 (F := Ideal) (m ((c : Thread nD τ).loc main_arg0)) (m ((c : Thread nD τ).loc main_arg1)) (m ((c : Thread nD τ).loc main_arg2)) (((cfg0.win 3).blk t).view.emb y) := by
  pointwise [rows, Cert.InProjRefIdeal.Read.val_main_v0, Cert.InProjRefIdeal.Read.val_main_cst, Cert.InProjRefIdeal.Read.val_main_v1, Cert.InProjRefIdeal.Read.val_main_v2, Cert.InProjRefIdeal.Read.val_main_cst_0, Cert.InProjRefIdeal.Read.val_main_v3, Cert.InProjRefIdeal.Read.val_main_v4, Cert.InProjRefIdeal.Read.val_main_cst_1, Cert.InProjRefIdeal.Read.val_main_v5, Cert.InProjRefIdeal.Read.val_main_v6, Cert.InProjRefIdeal.Read.val_main_v7, Cert.InProjRefIdeal.Read.val_main_v8, Cert.InProjRefIdeal.Read.val_main_v9, Cert.InProjRefIdeal.Read.val_main_v10, Cert.InProjRefIdeal.Read.val_main_v11, Cert.InProjRefIdeal.Read.val_main_v12, Cert.InProjRefIdeal.Read.val_main_v13, Cert.InProjRefIdeal.Read.val_main_v14]
  blk_point [iblk, V, idx t]

/-- The whole result array after the run is the reference's. -/
theorem final (c : Dev nD) : (dats m 0 c).arrAt 3 (cfgs 0).N
    = Cert.InProjRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact (out_eq _ _ _ y).trans (point m c t y)

end Cert.InProjIdeal.Hand

end
-- ==== Proof.Reals.lean ====
/- Sums, products and quotients of real numbers inside the extended reals: which of them stay real, and how a quotient is
   taken out of a sum. -/
module

public import Idealize.ShloMosaic.Lib.Pipeline.ValueKit

@[expose] public section

noncomputable section

namespace Cert.Reals

open Idealize.ShloMosaic

/-- `x` is a real number. -/
def Re (x : EReal) : Prop := ∃ r : ℝ, x = (r : EReal)

theorem Re.coe (r : ℝ) : Re (r : EReal) := ⟨r, rfl⟩

theorem Re.zero : Re 0 := ⟨0, rfl⟩

theorem Re.one : Re 1 := ⟨1, rfl⟩

theorem Re.add {x y : EReal} : Re x → Re y → Re (x + y) := by
  rintro ⟨a, rfl⟩ ⟨b, rfl⟩
  exact ⟨a + b, (EReal.coe_add a b).symm⟩

theorem Re.mul {x y : EReal} : Re x → Re y → Re (x * y) := by
  rintro ⟨a, rfl⟩ ⟨b, rfl⟩
  exact ⟨a * b, (EReal.coe_mul a b).symm⟩

theorem Re.neg {x : EReal} : Re x → Re (-x) := by
  rintro ⟨a, rfl⟩
  exact ⟨-a, (EReal.coe_neg a).symm⟩

theorem Re.sub {x y : EReal} : Re x → Re y → Re (x - y) := by
  rintro ⟨a, rfl⟩ ⟨b, rfl⟩
  exact ⟨a - b, (EReal.coe_sub a b).symm⟩

theorem Re.exp {x : EReal} : Re x → Re (Ideal.exp x) := by
  rintro ⟨a, rfl⟩
  exact ⟨Real.exp a, rfl⟩

theorem Re.max {x y : EReal} (hx : Re x) (hy : Re y) : Re (max x y) := by
  rcases max_choice x y with h | h <;> rw [h] <;> assumption

theorem Re.sum {ι : Type*} {s : Finset ι} {f : ι → EReal} (h : ∀ i ∈ s, Re (f i)) : Re (∑ i ∈ s, f i) := by
  classical
  induction s using Finset.induction_on with
  | empty => exact Re.zero
  | insert a s ha ih =>
    rw [Finset.sum_insert ha]
    exact (h a (Finset.mem_insert_self a s)).add (ih fun i hi => h i (Finset.mem_insert_of_mem hi))

/-- The largest of finitely many reals, at least one, starting from minus infinity. -/
theorem Re.fold_max {ι : Type*} {s : Finset ι} {f : ι → EReal} (h : ∀ i ∈ s, Re (f i)) (hs : s.Nonempty) :
    Re (s.fold Max.max ⊥ f) := by
  classical
  induction s using Finset.induction_on with
  | empty => exact absurd hs (by simp)
  | insert a s ha ih =>
    rw [Finset.fold_insert ha]
    have h0 := h a (Finset.mem_insert_self a s)
    rcases s.eq_empty_or_nonempty with rfl | hne
    · simpa using h0
    · exact h0.max (ih (fun i hi => h i (Finset.mem_insert_of_mem hi)) hne)

/-- The pattern of minus infinity. -/
theorem negInf : Ideal.ofBits FTy.f32 0xFF800000#32 = (⊥ : EReal) := by
  simp [Ideal.ofBits, Ideal.ieee]

/-- A sum of exponentials of reals is a positive real. -/
theorem sum_exp {ι : Type*} {s : Finset ι} {f : ι → EReal} (h : ∀ i ∈ s, Re (f i)) (hs : s.Nonempty) :
    ∃ r : ℝ, 0 < r ∧ (∑ i ∈ s, Ideal.exp (f i)) = (r : EReal) := by
  classical
  induction s using Finset.induction_on with
  | empty => exact absurd hs (by simp)
  | insert a s ha ih =>
    rw [Finset.sum_insert ha]
    obtain ⟨x, hx⟩ := h a (Finset.mem_insert_self a s)
    have he : Ideal.exp (f a) = ((Real.exp x : ℝ) : EReal) := by rw [hx]; rfl
    rcases s.eq_empty_or_nonempty with rfl | hne
    · exact ⟨Real.exp x, Real.exp_pos x, by rw [he]; simp⟩
    · obtain ⟨r, hr, e⟩ := ih (fun i hi => h i (Finset.mem_insert_of_mem hi)) hne
      exact ⟨Real.exp x + r, by have := Real.exp_pos x; linarith, by rw [he, e, EReal.coe_add]⟩

/-- Division by a positive real is the product with its inverse, a nonnegative real. -/
theorem div_pos_real (x : EReal) {r : ℝ} (hr : 0 < r) : Ideal.div x (r : EReal) = x * ((r⁻¹ : ℝ) : EReal) := by
  have h0 : (r : EReal) ≠ 0 := by
    intro h
    exact hr.ne' (by exact_mod_cast h)
  rw [Ideal.div, if_neg h0, EReal.coe_inv]

/-- A nonnegative real factor goes into a finite sum of extended reals. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Weights divided before the weighted sum is taken, or after: the same, when the scores are real. -/
theorem softmax_late {n : ℕ} (hn : 0 < n) (s v : Fin n → EReal) (M : EReal) (hM : Re M) (hs : ∀ j, Re (s j)) :
    Ideal.div (∑ j, Ideal.exp (s j - M) * v j) (∑ j, Ideal.exp (s j - M))
      = ∑ j, v j * Ideal.div (Ideal.exp (s j - M)) (∑ k, Ideal.exp (s k - M)) := by
  haveI : Nonempty (Fin n) := ⟨⟨0, hn⟩⟩
  obtain ⟨r, hr, e⟩ := sum_exp (s := (Finset.univ : Finset (Fin n))) (f := fun j => s j - M)
    (fun j _ => (hs j).sub hM) Finset.univ_nonempty
  rw [e, div_pos_real _ hr, sum_mul_real _ _ (inv_nonneg.mpr hr.le)]
  refine Finset.sum_congr rfl fun j _ => ?_
  rw [div_pos_real _ hr, mul_comm (Ideal.exp _) (v j), mul_assoc]

/-- A pattern whose exponent field is not all ones denotes a real number. -/
theorem ofBits_re (b : BitVec 32) (h : (b.extractLsb' 23 8).toNat ≠ 255) : Re (Ideal.ofBits FTy.f32 b) := by
  show Re (Ideal.ieee 8 23 b)
  unfold Ideal.ieee
  simp only []
  rw [if_neg (by simpa using h)]
  split
  · exact ⟨_, rfl⟩
  · exact ⟨_, rfl⟩

/-- What a test `|x| < inf` says of an extended real: it is a real number. -/
theorem re_of_abs_lt {x : EReal} (h : max x (-x) < Ideal.ofBits FTy.f32 0x7F800000#32) : Re x := by
  have ht : Ideal.ofBits FTy.f32 0x7F800000#32 = (⊤ : EReal) := by simp [Ideal.ofBits, Ideal.ieee]
  rw [ht] at h
  induction x with
  | bot => simp at h
  | top => simp at h
  | coe r => exact ⟨r, rfl⟩

/-- The same test as a comparison's bit. -/
theorem re_of_cmp {x : EReal} (h : Ideal.cmp .olt (max x (-x)) (Ideal.ofBits FTy.f32 0x7F800000#32) = 1#1) : Re x := by
  apply re_of_abs_lt
  by_contra hn
  simp [Ideal.cmp, hn] at h

end Cert.Reals

end
-- ==== Proof.CrossPre.lean ====
/- What the precondition of the attention over the memory says: every entry of both arguments is a real number. -/
module

public import proofs.«01_k».proof.Defs
public import proofs.«01_k».proof.Proof.Gen.Pre_finite_ca
public import proofs.«01_k».proof.Proof.Reals
public import Idealize.ShloMosaic.Lib.ReduceAll

@[expose] public section

noncomputable section

namespace Cert.Pre_finite_ca.Hand

open Cert.Pre_finite_ca Cert.Pre_finite_ca.Gen Cert.Reals
open Idealize.ShloMosaic

theorem reals (a0 : FVec Ideal S8x4096x7168 .bf16) (a1 : FVec Ideal S8x256x1024 .bf16)
    (h : fn (F := Ideal) a0 a1 = fun _ => 1#1) : (∀ i, Re (a0 i)) ∧ (∀ i, Re (a1 i)) := by
  have e := congrFun h (fun a => a.elim0)
  dsimp only [fn] at e
  obtain ⟨e0, e1⟩ := IntOp.andi_eq_one.1 e
  exact ⟨fun i => re_of_cmp (Host.reduce_andi_all _ _ _ _ _ e0 i), fun i => re_of_cmp (Host.reduce_andi_all _ _ _ _ _ e1 i)⟩

end Cert.Pre_finite_ca.Hand

end
-- ==== Proof.CrossRead.lean ====
/- The reference of the attention over the memory, read at an index: scores, weights, and the weighted sum of the values. -/
module

public import proofs.«01_k».proof.Proof.Gen.CrossRefIdeal.Read
public import Idealize.ShloMosaic.Lib.Pipeline.ValueKit

@[expose] public section

set_option maxRecDepth 16384

noncomputable section

namespace Cert.CrossRefIdeal.Hand

open Cert.CrossRefIdeal Cert.CrossRefIdeal.Gen Cert.CrossRefIdeal.Read
open Idealize.ShloMosaic Idealize.ShloMosaic.TcCoe Idealize.SL.Sem

/-- What the reference makes of them: the sum of the values, each times its weight's part of the sum of the weights. -/
def before (s v : Fin 256 → EReal) : EReal :=
  ∑ j, v j * Ideal.div
    (Ideal.exp (s j - max (Ideal.ofBits FTy.f32 0xFF800000#32) (Finset.univ.fold max (Ideal.ofBits FTy.f32 0xFF800000#32) s)))
    (∑ k, Ideal.exp (s k - max (Ideal.ofBits FTy.f32 0xFF800000#32) (Finset.univ.fold max (Ideal.ofBits FTy.f32 0xFF800000#32) s)))

variable (a0 : Vec Ideal S8x4096x7168 .bf16) (a1 : Vec Ideal S8x256x1024 .bf16)

/-- A query entry: column `128 h + d` of the queries' part of the projections. -/
theorem query (b : Fin 8) (t : Fin 4096) (h : Fin 4) (d : Fin 128) :
    val_main_v2 (F := Ideal) a0 (ix4 b t h d) = a0 (ix3 b t ⟨3584 + (h.val * 128 + d.val), by omega⟩) := by
  rw [val_main_v2_apply, val_main_v1_apply, val_main_v0_apply]
  refine congrArg a0 (funext fun a => Fin.ext ?_)
  have hb := b.isLt; have ht := t.isLt; have hh := h.isLt; have hd := d.isLt
  match a with
  | ⟨0, _⟩ => show (((b.val * 4096 + t.val) * 4 + h.val) * 128 + d.val) / 2097152 = b.val; omega
  | ⟨1, _⟩ => show (((b.val * 4096 + t.val) * 4 + h.val) * 128 + d.val) / 512 % 4096 = t.val; omega
  | ⟨2, _⟩ => show 3584 + (((b.val * 4096 + t.val) * 4 + h.val) * 128 + d.val) % 512 = 3584 + (h.val * 128 + d.val); omega

/-- A key entry: column `128 h + d` of the memory's projections. -/
theorem key (b : Fin 8) (t : Fin 256) (h : Fin 4) (d : Fin 128) :
    val_main_v6 (F := Ideal) a1 (ix4 b t h d) = a1 (ix3 b t ⟨h.val * 128 + d.val, by omega⟩) := by
  rw [val_main_v6_apply, val_main_v4_apply, val_main_v3_apply]
  refine congrArg a1 (funext fun a => Fin.ext ?_)
  have hb := b.isLt; have ht := t.isLt; have hh := h.isLt; have hd := d.isLt
  match a with
  | ⟨0, _⟩ => show (((b.val * 256 + t.val) * 4 + h.val) * 128 + d.val) / 131072 = b.val; omega
  | ⟨1, _⟩ => show (((b.val * 256 + t.val) * 4 + h.val) * 128 + d.val) / 512 % 256 = t.val; omega
  | ⟨2, _⟩ => show (((b.val * 256 + t.val) * 4 + h.val) * 128 + d.val) % 512 = h.val * 128 + d.val; omega

/-- The scaled score, read at an index. -/
theorem scores (i : S8x4x4096x256.Idx) :
    val_main_v10 (F := Ideal) a0 a1 i
      = (∑ d : Fin 128, (val_main_v2 (F := Ideal) a0 (ix4 (i 0) (i 2) (i 1) d) : EReal) * (val_main_v6 (F := Ideal) a1 (ix4 (i 0) (i 3) (i 1) d) : EReal))
        * Ideal.ofBits FTy.f32 0x3DB504F3#32 := by
  rw [val_main_v10_apply, val_main_v8_apply, val_main_v9_apply, val_main_cst_apply]
  have hl (d : Fin 128) : lidx_main_v8 i d = ix4 (i 0) (i 2) (i 1) d := funext fun a => by
    match a with
    | ⟨0, _⟩ => rfl
    | ⟨1, _⟩ => rfl
    | ⟨2, _⟩ => rfl
    | ⟨3, _⟩ => rfl
  have hr (d : Fin 128) : ridx_main_v8 i d = ix4 (i 0) (i 3) (i 1) d := funext fun a => by
    match a with
    | ⟨0, _⟩ => rfl
    | ⟨1, _⟩ => rfl
    | ⟨2, _⟩ => rfl
    | ⟨3, _⟩ => rfl
  simp only [hl, hr]
  rfl

/-- The scaled score from the arguments. -/
theorem score_at (b : Fin 8) (h : Fin 4) (t : Fin 4096) (j : Fin 256) :
    val_main_v10 (F := Ideal) a0 a1 (ix4 b h t j)
      = (∑ d : Fin 128, (a0 (ix3 b t ⟨3584 + (h.val * 128 + d.val), by omega⟩) : EReal) * (a1 (ix3 b j ⟨h.val * 128 + d.val, by omega⟩) : EReal))
        * Ideal.ofBits FTy.f32 0x3DB504F3#32 := by
  rw [scores]
  exact congrArg (· * Ideal.ofBits FTy.f32 0x3DB504F3#32)
    (Finset.sum_congr rfl fun d _ => congrArg₂ (· * ·) (query a0 b t h d) (key a1 b j h d))

/-- The largest entry of each row, read at an index. -/
theorem row_max (x : FVec Ideal S8x4x4096x256 .f32) (init : FVec Ideal S_ .f32) (i : S8x4x4096.Idx) :
    Host.reduce (FloatOps.maximumf (F := Ideal) (φ := .f32)) x init reducesTo_S8x4x4096x256_S8x4x4096_d3 h_S_ i
      = Finset.univ.fold max (init (Shape.Idx.first h_S_)) (fun j : Fin 256 => x (ix4 (i 0) (i 1) (i 2) j)) := by
  have h : S8x4x4096x256.Reduces [3] S8x4x4096 := by decide
  rw [Host.reduce_eq_fold_single (FloatOps.maximumf (F := Ideal) (φ := .f32)) x init _ h]
  have hl (k : Fin 256) : h.lift i k = ix4 (i 0) (i 1) (i 2) k := funext fun a => Fin.ext (by
    match a with
    | ⟨0, _⟩ => rfl
    | ⟨1, _⟩ => rfl
    | ⟨2, _⟩ => rfl
    | ⟨3, _⟩ => rfl)
  exact congrArg (fun f => Finset.fold max (init (Shape.Idx.first h_S_)) f Finset.univ) (funext fun k => congrArg x (hl k))

/-- The largest score of a row. -/
theorem top (i : S8x4x4096.Idx) :
    val_main_v13 (F := Ideal) a0 a1 i
      = max (Ideal.ofBits FTy.f32 0xFF800000#32) (Finset.univ.fold max (Ideal.ofBits FTy.f32 0xFF800000#32)
          (fun j : Fin 256 => val_main_v10 (F := Ideal) a0 a1 (ix4 (i 0) (i 1) (i 2) j))) := by
  rw [val_main_v13_apply, val_main_v12_apply, val_main_cst_1_apply]
  unfold val_main_v11
  rw [row_max, val_main_cst_0_apply]
  rfl

/-- The weight of one memory token. -/
theorem weight (i : S8x4x4096x256.Idx) :
    val_main_v17 (F := Ideal) a0 a1 i
      = Ideal.exp (val_main_v10 (F := Ideal) a0 a1 i - val_main_v13 (F := Ideal) a0 a1 (ix3 (i 0) (i 1) (i 2))) := by
  unfold val_main_v17 val_main_v16 val_main_v15 val_main_v14
  generalize val_main_v10 (F := Ideal) a0 a1 = s
  generalize val_main_v13 (F := Ideal) a0 a1 = t
  pointwise []

/-- The weight's part of the sum of the weights. -/
theorem part (i : S8x4x4096x256.Idx) :
    val_main_v21 (F := Ideal) a0 a1 i
      = Ideal.div (val_main_v17 (F := Ideal) a0 a1 i) (∑ k : Fin 256, (val_main_v17 (F := Ideal) a0 a1 (ix4 (i 0) (i 1) (i 2) k) : EReal)) := by
  unfold val_main_v21 val_main_v20 val_main_v19 val_main_v18
  generalize val_main_v17 (F := Ideal) a0 a1 = s
  pointwise [val_main_cst_2]

/-- The weighted sum of the values. -/
theorem weighted (i : S8x4096x512.Idx) :
    val_main_v25 (F := Ideal) a0 a1 i
      = ∑ j : Fin 256, (a1 (ix3 (i 0) j ⟨512 + (i 2).val, by have := (i 2).isLt; change (i 2).val < 512 at this; omega⟩) : EReal)
          * (val_main_v21 (F := Ideal) a0 a1 (ix4 (i 0) ⟨(i 2).val / 128, by have := (i 2).isLt; change (i 2).val < 512 at this; omega⟩ (i 1) j) : EReal) := by
  unfold val_main_v25 val_main_v24 val_main_v23 val_main_v22
  generalize val_main_v21 (F := Ideal) a0 a1 = s
  pointwise [val_main_v3, val_main_v5, val_main_v7]

/-- The reference's result, from its scores and its values. -/
theorem result (i : S8x4096x512.Idx) :
    val_main_v25 (F := Ideal) a0 a1 i
      = before (fun j => val_main_v10 (F := Ideal) a0 a1 (ix4 (i 0) ⟨(i 2).val / 128, by have := (i 2).isLt; change (i 2).val < 512 at this; omega⟩ (i 1) j))
          (fun j => a1 (ix3 (i 0) j ⟨512 + (i 2).val, by have := (i 2).isLt; change (i 2).val < 512 at this; omega⟩)) := by
  rw [weighted]
  simp only [part, weight, top, before]
  rfl

end Cert.CrossRefIdeal.Hand

end
-- ==== Proof.CrossValue.lean ====
/- The value of the attention over the memory: what the kernel leaves in its result array is the reference's term of the
   same arguments, at the ideal values, where queries and memory are finite. -/
module

public import proofs.«01_k».proof.Proof.Gen.CrossAttnIdeal.Frame
public import proofs.«01_k».proof.Proof.Gen.CrossAttnIdeal.Value
public import proofs.«01_k».proof.Proof.CrossRead
public import proofs.«01_k».proof.Proof.Reals
public import Idealize.ShloMosaic.Lib.Pipeline.ValueKit

@[expose] public section

set_option maxRecDepth 16384

noncomputable section

namespace Cert.CrossAttnIdeal.Hand

open Cert.CrossAttnIdeal Cert.CrossAttnIdeal.Gen
open Idealize.ShloMosaic Idealize.ShloMosaic.TcCoe Idealize.SL.Sem
open Idealize.ShloMosaic.Pipeline (Dat)

variable (m : (ℓ : Loc nD τ sig) → Buf (Elt Ideal) ℓ)

/-- What the kernel makes of one query's scores `s` and one column `v` of values: the sum of the weighted values over
    the sum of the weights. -/
def after (s v : Fin 256 → EReal) : EReal :=
  Ideal.div (∑ j, Ideal.exp (s j - Finset.univ.fold max (Ideal.ofBits FTy.f32 0xFF800000#32) s) * v j)
    (∑ j, Ideal.exp (s j - Finset.univ.fold max (Ideal.ofBits FTy.f32 0xFF800000#32) s))

/-- The scaled score of query row `r` against memory token `j`, in the head that column `e` belongs to. -/
def score (x0 : Vec Ideal S1x2048x512 .bf16) (x1 : Vec Ideal S1x256x512 .bf16) (r : Fin 2048) (e : Fin 512) (j : Fin 256) : EReal :=
  (∑ d : Fin 128, (x0 (ix3 0 r ⟨e.val / 128 * 128 + d.val, by omega⟩) : EReal) * (x1 (ix3 0 j ⟨e.val / 128 * 128 + d.val, by omega⟩) : EReal))
    * Ideal.ofBits FTy.f32 0x3DB504F3#32

theorem out_eq (x0 : Vec Ideal S1x2048x512 .bf16) (x1 x2 : Vec Ideal S1x256x512 .bf16) (y : S1x2048x512.Idx) :
    out0_3 (F := Ideal) x0 x1 x2 y = after (score x0 x1 (y 1) (y 2)) (fun j => x2 (ix3 0 j (y 2))) := by
  canon_tiles x h
  all_goals open_payloads
  all_goals pointwise [after, score]
  all_goals blk_point []

/-- Which block each window's point works on. -/
theorem idx : ∀ t : Fin cfg0.N, win0_0.index t = ![t.val / 2, t.val % 2, 7] ∧ win0_1.index t = ![t.val / 2, 0, 0]
    ∧ win0_2.index t = ![t.val / 2, 0, 1] ∧ win0_3.index t = ![t.val / 2, t.val % 2, 0] :=
  (by decide +kernel : ∀ t : Fin grid0.N, win0_0.index t = ![t.val / 2, t.val % 2, 7] ∧ win0_1.index t = ![t.val / 2, 0, 0]
    ∧ win0_2.index t = ![t.val / 2, 0, 1] ∧ win0_3.index t = ![t.val / 2, t.val % 2, 0])

open Cert.Reals Cert.CrossRefIdeal.Hand

/-- Dividing after the weighted sum, or before it, is the same where the scores are real. -/
theorem after_eq_before (s v : Fin 256 → EReal) (hs : ∀ j, Re (s j)) : after s v = before s v := by
  unfold after before
  rw [negInf, max_eq_right bot_le]
  exact softmax_late (by decide) s v _ (Re.fold_max (fun j _ => hs j) ⟨0, Finset.mem_univ _⟩) hs

/-- The scaling constant is a real number. -/
theorem scale_re : Re (Ideal.ofBits FTy.f32 0x3DB504F3#32) := ofBits_re _ (by decide)

/-- With real queries and keys the reference's scores are real. -/
theorem ref_re (a0 : Vec Ideal Cert.CrossRefIdeal.S8x4096x7168 .bf16) (a1 : Vec Ideal Cert.CrossRefIdeal.S8x256x1024 .bf16)
    (h0 : ∀ i, Re (a0 i)) (h1 : ∀ i, Re (a1 i)) (b : Fin 8) (h : Fin 4) (t : Fin 4096) (j : Fin 256) :
    Re (Cert.CrossRefIdeal.Read.val_main_v10 (F := Ideal) a0 a1 (ix4 b h t j)) := by
  rw [score_at]
  exact (Re.sum fun d _ => (h0 _).mul (h1 _)).mul scale_re

/-- What a point stores at a block index is the reference's value at the array index it sits at. -/
theorem point (c : Dev nD) (t : Fin cfg0.N) (y : S1x2048x512.Idx)
    (h0 : ∀ i, Re (m ((c : Thread nD τ).loc main_arg0) i)) (h1 : ∀ i, Re (m ((c : Thread nD τ).loc main_arg1) i)) :
    after (score (iblk m c 0 t) (iblk m c 1 t) (y 1) (y 2)) (fun j => iblk m c 2 t (ix3 0 j (y 2)))
      = Cert.CrossRefIdeal.Read.val_main_v25 (F := Ideal) (m ((c : Thread nD τ).loc main_arg0)) (m ((c : Thread nD τ).loc main_arg1)) (((cfg0.win 3).blk t).view.emb y) := by
  rw [result]
  refine Eq.trans ?_ (after_eq_before _ _ fun j => ref_re _ _ h0 h1 _ _ _ _)
  refine congrArg₂ after (funext fun j => ?_) (funext fun j => ?_)
  · refine Eq.trans ?_ (score_at _ _ _ _ _ _).symm
    unfold score
    blk_point [iblk, V, idx t]
  · blk_point [iblk, V, idx t]

/-- The whole result array after the run is the reference's. -/
theorem final (c : Dev nD)
    (h0 : ∀ i, Re (m ((c : Thread nD τ).loc main_arg0) i)) (h1 : ∀ i, Re (m ((c : Thread nD τ).loc main_arg1) i)) :
    (dats m 0 c).arrAt 3 (cfgs 0).N
    = Cert.CrossRefIdeal.Read.val_main_v25 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  exact (out_eq _ _ _ y).trans (point m c t y h0 h1)

end Cert.CrossAttnIdeal.Hand

end
-- ==== Proof.MemKvValue.lean ====
/- The value of the memory projection: what the tiled kernel leaves in its result array is the reference's term of the
   same arguments, at the ideal values. -/
module

public import proofs.«01_k».proof.Proof.Gen.MemKvIdeal.Frame
public import proofs.«01_k».proof.Proof.Gen.MemKvIdeal.Value
public import proofs.«01_k».proof.Proof.Gen.MemKvRefIdeal.Read
public import Idealize.ShloMosaic.Lib.Pipeline.ValueKit

@[expose] public section

set_option maxRecDepth 16384

noncomputable section

namespace Cert.MemKvIdeal.Hand

open Cert.MemKvIdeal Cert.MemKvIdeal.Gen
open Idealize.ShloMosaic Idealize.ShloMosaic.TcCoe Idealize.SL.Sem
open Idealize.ShloMosaic.Pipeline (Dat)

variable (m : (ℓ : Loc nD τ sig) → Buf (Elt Ideal) ℓ)

/-- What a block's rows give: each row over the root of its mean square, scaled by the gains, against the weight. -/
def rows (x0 : Vec Ideal S512x1024 .f32) (x1 : Vec Ideal S1x1024 .f32) (x2 : Vec Ideal S1024x1024 .bf16) (y : S512x1024.Idx) : EReal :=
  ∑ k : Fin 1024, (x0 (ix2 (y 0) k) : EReal) *
    Ideal.rsqrt (Ideal.div (∑ l : Fin 1024, (x0 (ix2 (y 0) l) : EReal) * (x0 (ix2 (y 0) l) : EReal)) (Ideal.ofBits FTy.f32 1149239296#32)
      + Ideal.ofBits FTy.f32 897988541#32) * (x1 (ix2 0 k) : EReal) * (x2 (ix2 k (y 1)) : EReal)

/-- The two column stores together hold those rows. -/
theorem out_eq (x0 : Vec Ideal S512x1024 .f32) (x1 : Vec Ideal S1x1024 .f32) (x2 : Vec Ideal S1024x1024 .bf16) (y : S512x1024.Idx) :
    out0_3 (F := Ideal) x0 x1 x2 y = rows x0 x1 x2 y := by
  canon_tiles x h
  all_goals
    open_payloads
    pointwise [rows]
    blk_point []

/-- Each window's block index at a point, decided over the points. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

/-- What a point stores at a block index is the reference's value at the array index it sits at. -/
theorem point (c : Dev nD) (t : Fin cfg0.N) (y : S512x1024.Idx) :
    rows (iblk m c 0 t) (iblk m c 1 t) (iblk m c 2 t) y
      = Cert.MemKvRefIdeal.Read.val_main_v14 (F := Ideal) (m ((c : Thread nD τ).loc main_arg0)) (m ((c : Thread nD τ).loc main_arg1)) (m ((c : Thread nD τ).loc main_arg2)) (((cfg0.win 3).blk t).view.emb y) := by
  pointwise [rows, Cert.MemKvRefIdeal.Read.val_main_v0, Cert.MemKvRefIdeal.Read.val_main_cst, Cert.MemKvRefIdeal.Read.val_main_v1, Cert.MemKvRefIdeal.Read.val_main_v2, Cert.MemKvRefIdeal.Read.val_main_cst_0, Cert.MemKvRefIdeal.Read.val_main_v3, Cert.MemKvRefIdeal.Read.val_main_v4, Cert.MemKvRefIdeal.Read.val_main_cst_1, Cert.MemKvRefIdeal.Read.val_main_v5, Cert.MemKvRefIdeal.Read.val_main_v6, Cert.MemKvRefIdeal.Read.val_main_v7, Cert.MemKvRefIdeal.Read.val_main_v8, Cert.MemKvRefIdeal.Read.val_main_v9, Cert.MemKvRefIdeal.Read.val_main_v10, Cert.MemKvRefIdeal.Read.val_main_v11, Cert.MemKvRefIdeal.Read.val_main_v12, Cert.MemKvRefIdeal.Read.val_main_v13, Cert.MemKvRefIdeal.Read.val_main_v14]
  blk_point [iblk, V, idx t]

/-- The whole result array after the run is the reference's. -/
theorem final (c : Dev nD) : (dats m 0 c).arrAt 3 (cfgs 0).N
    = Cert.MemKvRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact (out_eq _ _ _ y).trans (point m c t y)

end Cert.MemKvIdeal.Hand

end
-- ==== Proof.MergeCell.lean ====
/- What one row of the merge holds, from the row of each branch, its gates and the weights; and that the kernel's payloads
   compute it. -/
module

public import proofs.«01_k».proof.Proof.Gen.MergeIdeal.Frame
public import Idealize.ShloMosaic.Lib.Pipeline.ValueKit

@[expose] public section

set_option maxRecDepth 16384

noncomputable section

namespace Cert.MergeIdeal.Hand

open Cert.MergeIdeal Cert.MergeIdeal.Gen
open Idealize.ShloMosaic Idealize.ShloMosaic.TcCoe Idealize.SL.Sem

/-- The gated sum of a row's three branches, each through its weight. -/
def mix (a b c : Fin 512 → EReal) (ga gb gc : Fin 1024 → EReal) (w : Fin 3 → Fin 512 → Fin 1024 → EReal) (k : Fin 1024) : EReal :=
  Ideal.logistic (ga k) * (∑ j : Fin 512, a j * w 0 j k) + Ideal.logistic (gb k) * (∑ j : Fin 512, b j * w 1 j k)
    + Ideal.logistic (gc k) * (∑ j : Fin 512, c j * w 2 j k)

/-- The row after the output projection and the residual. -/
def xrow (a b c : Fin 512 → EReal) (ga gb gc x : Fin 1024 → EReal) (w : Fin 3 → Fin 512 → Fin 1024 → EReal) (wo : Fin 1024 → Fin 1024 → EReal)
    (d : Fin 1024) : EReal := x d + ∑ k : Fin 1024, mix a b c ga gb gc w k * wo k d

/-- A row over the root of its mean square, with the gains. -/
def hrow (v g : Fin 1024 → EReal) (d : Fin 1024) : EReal :=
  v d * Ideal.rsqrt (Ideal.div (∑ l : Fin 1024, v l * v l) (Ideal.ofBits FTy.f32 1149239296#32) + Ideal.ofBits FTy.f32 897988541#32) * g d

/-- The payloads of the first half of the rows compute the row, -/
theorem half_a (a b c : Vec Ideal S256x512 .bf16) (w0 w1 w2 : Vec Ideal S1x512x1024 .bf16) (ga gb gc : Vec Ideal S256x1024 .bf16)
    (x : Vec Ideal S256x1024 .f32) (wo : Vec Ideal S1024x1024 .bf16) (y : S256x1024.Idx) :
    k0_pay9 (F := Ideal) (k0_pay2 a w0) (k0_pay3 b w1) (k0_pay4 c w2) ga gb gc x wo y
      = xrow (fun j => a (ix2 (y 0) j)) (fun j => b (ix2 (y 0) j)) (fun j => c (ix2 (y 0) j)) (fun k => ga (ix2 (y 0) k)) (fun k => gb (ix2 (y 0) k))
          (fun k => gc (ix2 (y 0) k)) (fun k => x (ix2 (y 0) k)) (fun i j k => ![w0 (ix3 0 j k), w1 (ix3 0 j k), w2 (ix3 0 j k)] i) (fun k d => wo (ix2 k d)) (y 1) := by
  pointwise [k0_pay9, k0_pay2, k0_pay3, k0_pay4, xrow, mix]

/-- and so do those of the second half. -/
theorem half_b (a b c : Vec Ideal S256x512 .bf16) (w0 w1 w2 : Vec Ideal S1x512x1024 .bf16) (ga gb gc : Vec Ideal S256x1024 .bf16)
    (x : Vec Ideal S256x1024 .f32) (wo : Vec Ideal S1024x1024 .bf16) (y : S256x1024.Idx) :
    k0_pay10 (F := Ideal) (k0_pay8 (k0_pay5 a w0) (k0_pay6 b w1) c (k0_pay7 w2) (constant S256x1024 .f32 0x00000000#32) ga gb gc) x wo y
      = xrow (fun j => a (ix2 (y 0) j)) (fun j => b (ix2 (y 0) j)) (fun j => c (ix2 (y 0) j)) (fun k => ga (ix2 (y 0) k)) (fun k => gb (ix2 (y 0) k))
          (fun k => gc (ix2 (y 0) k)) (fun k => x (ix2 (y 0) k)) (fun i j k => ![w0 (ix3 0 j k), w1 (ix3 0 j k), w2 (ix3 0 j k)] i) (fun k d => wo (ix2 k d)) (y 1) := by
  pointwise [k0_pay10, k0_pay8, k0_pay5, k0_pay6, k0_pay7, xrow, mix]

/-- The norm of either half. -/
theorem norm_a (v : Vec Ideal S256x1024 .f32) (g : Vec Ideal S1x1024 .f32) (y : S256x1024.Idx) :
    k0_pay12 (F := Ideal) v g y = hrow (fun k => v (ix2 (y 0) k)) (fun k => g (ix2 0 k)) (y 1) := by
  pointwise [k0_pay12, k0_pay11, hrow]
theorem norm_b (v : Vec Ideal S256x1024 .f32) (g : Vec Ideal S1x1024 .f32) (y : S256x1024.Idx) :
    k0_pay17 (F := Ideal) v g y = hrow (fun k => v (ix2 (y 0) k)) (fun k => g (ix2 0 k)) (y 1) := by
  pointwise [k0_pay17, k0_pay16, hrow]

end Cert.MergeIdeal.Hand

end

end
-- ==== Proof.MergeRead.lean ====
/- The merge's reference, read at an index: the row of `MergeCell` from the arguments' rows. -/
module

public import proofs.«01_k».proof.Proof.Gen.MergeRefIdeal.Read
public import proofs.«01_k».proof.Proof.MergeCell
public import Idealize.ShloMosaic.Lib.Pipeline.ValueKit

@[expose] public section

set_option maxRecDepth 16384

noncomputable section

namespace Cert.MergeRefIdeal.Hand

open Cert.MergeRefIdeal Cert.MergeRefIdeal.Gen Cert.MergeRefIdeal.Read
open Idealize.ShloMosaic Idealize.ShloMosaic.TcCoe Idealize.SL.Sem
open Cert.MergeIdeal.Hand (mix xrow hrow)

variable (x0 x1 x2 : (⟨S32768x512, .bf16⟩ : BufTy).Contents (Elt Ideal)) (x3 : (⟨S32768x7168, .bf16⟩ : BufTy).Contents (Elt Ideal))
  (x4 : (⟨S32768x1024, .f32⟩ : BufTy).Contents (Elt Ideal)) (x5 : (⟨S3x512x1024, .f32⟩ : BufTy).Contents (Elt Ideal))
  (x6 : (⟨S1024x1024, .f32⟩ : BufTy).Contents (Elt Ideal)) (x7 : (⟨S1024, .f32⟩ : BufTy).Contents (Elt Ideal))

/-- The column of the projected rows a gate is read from. -/
def gcol (b : Fin 3) (k : Fin 1024) : Fin 7168 := ⟨4096 + b.val * 1024 + k.val, by have := b.isLt; have := k.isLt; omega⟩

theorem gate (i : Fin 32768) (b : Fin 3) (k : Fin 1024) : val_main_v8 (F := Ideal) x3 (ix3 i b k) = Ideal.logistic (x3 (ix2 i (gcol b k))) := by
  have e : idx_main_v0 (idx_main_v2 (ix3 i b k)) = ix2 i (gcol b k) := by
    have hb := b.isLt; have hk := k.isLt
    refine funext fun a => Fin.ext ?_
    match a with
    | ⟨0, _⟩ => show ((i.val * 3 + b.val) * 1024 + k.val) / 3072 = i.val; omega
    | ⟨1, _⟩ => show 4096 + ((i.val * 3 + b.val) * 1024 + k.val) % 3072 = 4096 + b.val * 1024 + k.val; omega
  rw [val_main_v8_apply, val_main_v7_apply, val_main_v6_apply, val_main_v5_apply, val_main_v4_apply, val_main_v3_apply, val_main_v2_apply,
    val_main_v1_apply, val_main_v0_apply, e]
  pointwise [val_main_cst, val_main_cst_0]
  rfl

theorem gate_a (i : Fin 32768) (k : Fin 1024) : val_main_v10 (F := Ideal) x3 (ix2 i k) = Ideal.logistic (x3 (ix2 i (gcol 0 k))) := by
  have e : idx_main_v9 (idx_main_v10 (ix2 i k)) = ix3 i 0 k := by
    have hk := k.isLt
    refine funext fun a => Fin.ext ?_
    match a with
    | ⟨0, _⟩ => show (i.val * 1024 + k.val) / 1024 = i.val; omega
    | ⟨1, _⟩ => rfl
    | ⟨2, _⟩ => show (i.val * 1024 + k.val) % 1024 = k.val; omega
  rw [val_main_v10_apply, val_main_v9_apply, e, gate]

theorem gate_b (i : Fin 32768) (k : Fin 1024) : val_main_v17 (F := Ideal) x3 (ix2 i k) = Ideal.logistic (x3 (ix2 i (gcol 1 k))) := by
  have e : idx_main_v16 (idx_main_v17 (ix2 i k)) = ix3 i 1 k := by
    have hk := k.isLt
    refine funext fun a => Fin.ext ?_
    match a with
    | ⟨0, _⟩ => show (i.val * 1024 + k.val) / 1024 = i.val; omega
    | ⟨1, _⟩ => rfl
    | ⟨2, _⟩ => show (i.val * 1024 + k.val) % 1024 = k.val; omega
  rw [val_main_v17_apply, val_main_v16_apply, e, gate]

theorem gate_c (i : Fin 32768) (k : Fin 1024) : val_main_v25 (F := Ideal) x3 (ix2 i k) = Ideal.logistic (x3 (ix2 i (gcol 2 k))) := by
  have e : idx_main_v24 (idx_main_v25 (ix2 i k)) = ix3 i 2 k := by
    have hk := k.isLt
    refine funext fun a => Fin.ext ?_
    match a with
    | ⟨0, _⟩ => show (i.val * 1024 + k.val) / 1024 = i.val; omega
    | ⟨1, _⟩ => rfl
    | ⟨2, _⟩ => show (i.val * 1024 + k.val) % 1024 = k.val; omega
  rw [val_main_v25_apply, val_main_v24_apply, e, gate]

theorem branch_a (i : Fin 32768) (k : Fin 1024) : val_main_v14 (F := Ideal) x0 x5 (ix2 i k) = ∑ j : Fin 512, (x0 (ix2 i j) : EReal) * x5 (ix3 0 j k) := by
  rw [val_main_v14_apply]
  refine Finset.sum_congr rfl fun j _ => ?_
  have e : idx_main_v12 (idx_main_v13 (ridx_main_v14 (ix2 i k) j)) = ix3 0 j k := by
    have hk := k.isLt
    have hj := j.isLt
    refine funext fun a => Fin.ext ?_
    match a with
    | ⟨0, _⟩ => rfl
    | ⟨1, _⟩ => show (j.val * 1024 + k.val) / 1024 % 512 = j.val; omega
    | ⟨2, _⟩ => show (j.val * 1024 + k.val) % 1024 = k.val; omega
  have l : lidx_main_v14 (ix2 i k) j = ix2 i j := by
    refine funext fun a => Fin.ext ?_
    match a with
    | ⟨0, _⟩ => rfl
    | ⟨1, _⟩ => rfl
  rw [val_main_v13_apply, val_main_v12_apply, e, l, val_main_v11_apply]
  rfl

theorem branch_b (i : Fin 32768) (k : Fin 1024) : val_main_v21 (F := Ideal) x1 x5 (ix2 i k) = ∑ j : Fin 512, (x1 (ix2 i j) : EReal) * x5 (ix3 1 j k) := by
  rw [val_main_v21_apply]
  refine Finset.sum_congr rfl fun j _ => ?_
  have e : idx_main_v19 (idx_main_v20 (ridx_main_v21 (ix2 i k) j)) = ix3 1 j k := by
    have hk := k.isLt
    have hj := j.isLt
    refine funext fun a => Fin.ext ?_
    match a with
    | ⟨0, _⟩ => rfl
    | ⟨1, _⟩ => show (j.val * 1024 + k.val) / 1024 % 512 = j.val; omega
    | ⟨2, _⟩ => show (j.val * 1024 + k.val) % 1024 = k.val; omega
  have l : lidx_main_v21 (ix2 i k) j = ix2 i j := by
    refine funext fun a => Fin.ext ?_
    match a with
    | ⟨0, _⟩ => rfl
    | ⟨1, _⟩ => rfl
  rw [val_main_v20_apply, val_main_v19_apply, e, l, val_main_v18_apply]
  rfl

theorem branch_c (i : Fin 32768) (k : Fin 1024) : val_main_v29 (F := Ideal) x2 x5 (ix2 i k) = ∑ j : Fin 512, (x2 (ix2 i j) : EReal) * x5 (ix3 2 j k) := by
  rw [val_main_v29_apply]
  refine Finset.sum_congr rfl fun j _ => ?_
  have e : idx_main_v27 (idx_main_v28 (ridx_main_v29 (ix2 i k) j)) = ix3 2 j k := by
    have hk := k.isLt
    have hj := j.isLt
    refine funext fun a => Fin.ext ?_
    match a with
    | ⟨0, _⟩ => rfl
    | ⟨1, _⟩ => show (j.val * 1024 + k.val) / 1024 % 512 = j.val; omega
    | ⟨2, _⟩ => show (j.val * 1024 + k.val) % 1024 = k.val; omega
  have l : lidx_main_v29 (ix2 i k) j = ix2 i j := by
    refine funext fun a => Fin.ext ?_
    match a with
    | ⟨0, _⟩ => rfl
    | ⟨1, _⟩ => rfl
  rw [val_main_v28_apply, val_main_v27_apply, e, l, val_main_v26_apply]
  rfl

/-- A row of the reference's first result, -/
def xref (i : Fin 32768) : Fin 1024 → EReal :=
  xrow (fun j => x0 (ix2 i j)) (fun j => x1 (ix2 i j)) (fun j => x2 (ix2 i j)) (fun k => x3 (ix2 i (gcol 0 k))) (fun k => x3 (ix2 i (gcol 1 k)))
    (fun k => x3 (ix2 i (gcol 2 k))) (fun k => x4 (ix2 i k)) (fun b j k => x5 (ix3 b j k)) (fun k d => x6 (ix2 k d))

theorem ref_x (i : Fin 32768) (d : Fin 1024) : val_main_v33 (F := Ideal) x0 x1 x2 x3 x4 x5 x6 (ix2 i d) = xref x0 x1 x2 x3 x4 x5 x6 i d := by
  rw [val_main_v33_apply, val_main_v32_apply]
  unfold xref xrow
  refine congrArg (fun z => (x4 (ix2 i d) : EReal) + z) (Finset.sum_congr rfl fun k _ => ?_)
  have l : lidx_main_v32 (ix2 i d) k = ix2 i k := by
    refine funext fun a => Fin.ext ?_
    match a with
    | ⟨0, _⟩ => rfl
    | ⟨1, _⟩ => rfl
  have r : ridx_main_v32 (ix2 i d) k = ix2 k d := by
    refine funext fun a => Fin.ext ?_
    match a with
    | ⟨0, _⟩ => rfl
    | ⟨1, _⟩ => rfl
  rw [l, r, val_main_v31_apply, val_main_v30_apply, val_main_v23_apply, val_main_v22_apply, val_main_v15_apply, gate_a, gate_b, gate_c,
    branch_a, branch_b, branch_c]
  rfl

/-- and of the second. -/
theorem ref_h (i : Fin 32768) (d : Fin 1024) :
    val_main_v47 (F := Ideal) x0 x1 x2 x3 x4 x5 x6 x7 (ix2 i d) = hrow (xref x0 x1 x2 x3 x4 x5 x6 i) (fun k => x7 (ix1 k)) d := by
  rw [val_main_v47_apply, val_main_v46_apply, val_main_v45_apply, val_main_v44_apply, val_main_v43_apply, val_main_v42_apply, val_main_v41_apply,
    val_main_v40_apply, val_main_v39_apply, val_main_v38_apply, val_main_v37_apply, val_main_v36_apply, val_main_v35_apply, ref_x]
  have e : ∀ l : Fin 1024, val_main_v34 (F := Ideal) x0 x1 x2 x3 x4 x5 x6
      (idx_main_v35 (idx_main_v36 (idx_main_v42 (ix2 i d))) l) = xref x0 x1 x2 x3 x4 x5 x6 i l * xref x0 x1 x2 x3 x4 x5 x6 i l := by
    intro l
    rw [val_main_v34_apply, show idx_main_v35 (idx_main_v36 (idx_main_v42 (ix2 i d))) l = ix2 i l from funext fun a => Fin.ext (by
      match a with
      | ⟨0, _⟩ => rfl
      | ⟨1, _⟩ => rfl), ref_x]
    rfl
  rw [Finset.sum_congr rfl fun l _ => e l, show idx_main_v44 (idx_main_v45 (ix2 i d)) = ix1 d from funext fun a => Fin.ext (by
      match a with
      | ⟨0, _⟩ => rfl)]
  pointwise [val_main_cst_1, val_main_cst_2, val_main_cst_3, hrow]

/-- The reference's run, its two results by the stages' names. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (val_main_v33_eq _ _ _ _ _ _ _), (h c).2.1.trans (val_main_v47_eq m c), (h c).2.2⟩)
    (Cert.MergeRefIdeal.Value.run (F := Ideal) m ρ)

end Cert.MergeRefIdeal.Hand

end

end
-- ==== Proof.MergeValue.lean ====
/- The value of the merge: what the tiled kernel leaves in its two float result arrays is the reference's terms of the same
   arguments, at the ideal values. -/
module

public import proofs.«01_k».proof.Proof.Gen.MergeIdeal.Frame
public import proofs.«01_k».proof.Proof.Gen.MergeIdeal.Value
public import proofs.«01_k».proof.Proof.MergeRead
public import Idealize.ShloMosaic.Lib.Pipeline.ValueKit

@[expose] public section

set_option maxRecDepth 16384

noncomputable section

namespace Cert.MergeIdeal.Hand

open Cert.MergeIdeal Cert.MergeIdeal.Gen
open Idealize.ShloMosaic Idealize.ShloMosaic.TcCoe Idealize.SL.Sem
open Idealize.ShloMosaic.Pipeline (Dat)

variable (m : (ℓ : Loc nD τ sig) → Buf (Elt Ideal) ℓ)
variable (x0 x1 x2 : Vec Ideal S512x512 .bf16) (x3 x4 x5 : Vec Ideal S512x1024 .bf16) (x6 : Vec Ideal S512x1024 .f32)
  (x7 : Vec Ideal S3x512x1024 .bf16) (x8 : Vec Ideal S1024x1024 .bf16) (x9 : Vec Ideal S1x1024 .f32) (x10 x11 : Vec Ideal S1024x128 .bf16)
  (x12 : Vec Ideal S16x1 .f32) (x13 : Vec Ideal S512x512 .bf16)

/-- A row of the first result from the blocks the body reads. -/
def xblk (r : Fin 512) (d : Fin 1024) : EReal :=
  xrow (fun j => x0 (ix2 r j)) (fun j => x1 (ix2 r j)) (fun j => x2 (ix2 r j)) (fun k => x3 (ix2 r k)) (fun k => x4 (ix2 r k))
    (fun k => x5 (ix2 r k)) (fun k => x6 (ix2 r k)) (fun i j k => x7 (ix3 i j k)) (fun k d => x8 (ix2 k d)) d

/-- Equal entries give equal rows. -/
theorem xrow_congr {a b c a' b' c' : Fin 512 → EReal} {ga gb gc x ga' gb' gc' x' : Fin 1024 → EReal} {w w' : Fin 3 → Fin 512 → Fin 1024 → EReal}
    {wo wo' : Fin 1024 → Fin 1024 → EReal} {d d' : Fin 1024} (ha : ∀ j, a j = a' j) (hb : ∀ j, b j = b' j) (hc : ∀ j, c j = c' j)
    (hga : ∀ k, ga k = ga' k) (hgb : ∀ k, gb k = gb' k) (hgc : ∀ k, gc k = gc' k) (hx : ∀ k, x k = x' k)
    (hw0 : ∀ j k, w 0 j k = w' 0 j k) (hw1 : ∀ j k, w 1 j k = w' 1 j k) (hw2 : ∀ j k, w 2 j k = w' 2 j k) (hwo : ∀ k d, wo k d = wo' k d) (hd : d = d') :
    xrow a b c ga gb gc x w wo d = xrow a' b' c' ga' gb' gc' x' w' wo' d' := by
  subst hd
  obtain rfl := funext ha; obtain rfl := funext hb; obtain rfl := funext hc
  obtain rfl := funext hga; obtain rfl := funext hgb; obtain rfl := funext hgc; obtain rfl := funext hx
  have hw : w = w' := by
    funext i j k
    match i with
    | 0 => exact hw0 j k
    | 1 => exact hw1 j k
    | 2 => exact hw2 j k
  subst hw
  obtain rfl := funext fun k => funext (hwo k)
  rfl

/-- Where an index of a loaded part sits in its block. -/
theorem part_idx {s : Shape} (off size : Fin s.rank → ℕ) (inb : ∀ a, off a + size a ≤ s.size a) (i : (⟨s.rank, size⟩ : Shape).Idx) (a : Fin s.rank) :
    ((Rect.unit (s := s) off size inb).idx i a).val = off a + 1 * (i a).val := rfl

theorem hrow_congr {v v' g g' : Fin 1024 → EReal} {d d' : Fin 1024} (hv : ∀ k, v k = v' k) (hg : ∀ k, g k = g' k) (hd : d = d') :
    hrow v g d = hrow v' g' d' := by
  subst hd
  obtain rfl := funext hv; obtain rfl := funext hg
  rfl

/-- The payloads of a block's first half hold its first rows, -/
theorem pay_a (y : S256x1024.Idx) (r : Fin 512) (hr : r.val = (y 0).val) :
    k0_pay90 (F := Ideal) x0 x1 x2 x3 x4 x5 x6 x7 x8 x9 x10 x11 x12 x13 y = xblk x0 x1 x2 x3 x4 x5 x6 x7 x8 r (y 1) := by
  unfold k0_pay90 xblk
  refine (half_a _ _ _ _ _ _ _ _ _ _ _ y).trans (xrow_congr ?_ ?_ ?_ ?_ ?_ ?_ ?_ ?_ ?_ ?_ ?_ rfl)
  all_goals (intros; simp only [View.ld]; blk_ext)
  all_goals (refine (part_idx _ _ _ _ _).trans ?_; simp <;> omega)

/-- and those of the second half the others. -/
theorem pay_b (y : S256x1024.Idx) (r : Fin 512) (hr : r.val = 256 + (y 0).val) :
    k0_pay91 (F := Ideal) x0 x1 x2 x3 x4 x5 x6 x7 x8 x9 x10 x11 x12 x13 y = xblk x0 x1 x2 x3 x4 x5 x6 x7 x8 r (y 1) := by
  unfold k0_pay91 xblk
  refine (half_b _ _ _ _ _ _ _ _ _ _ _ y).trans (xrow_congr ?_ ?_ ?_ ?_ ?_ ?_ ?_ ?_ ?_ ?_ ?_ rfl)
  all_goals (intros; simp only [View.ld]; blk_ext)
  all_goals (refine (part_idx _ _ _ _ _).trans ?_; simp <;> omega)

/-- The two row stores together hold the rows of the first result, -/
theorem out_x (y : S512x1024.Idx) :
    out0_14 (F := Ideal) x0 x1 x2 x3 x4 x5 x6 x7 x8 x9 x10 x11 x12 x13 y = xblk x0 x1 x2 x3 x4 x5 x6 x7 x8 (y 0) (y 1) := by
  canon_tiles x h
  · rw [pay_b x0 x1 x2 x3 x4 x5 x6 x7 x8 x9 x10 x11 x12 x13 x (y 0) (by omega)]
    exact congrArg _ (Fin.ext (by omega))
  · rw [pay_a x0 x1 x2 x3 x4 x5 x6 x7 x8 x9 x10 x11 x12 x13 x (y 0) (by omega)]
    exact congrArg _ (Fin.ext (by omega))

/-- and of the second. -/
theorem out_h (y : S512x1024.Idx) :
    out0_15 (F := Ideal) x0 x1 x2 x3 x4 x5 x6 x7 x8 x9 x10 x11 x12 x13 y
      = hrow (xblk x0 x1 x2 x3 x4 x5 x6 x7 x8 (y 0)) (fun k => x9 (ix2 0 k)) (y 1) := by
  canon_tiles x h
  · refine (norm_b _ _ x).trans (hrow_congr (fun k => ?_) (fun k => ?_) (Fin.ext (by omega)))
    · exact pay_b x0 x1 x2 x3 x4 x5 x6 x7 x8 x9 x10 x11 x12 x13 (ix2 (x 0) k) (y 0) (by show _ = 256 + (x 0).val; omega)
    · simp only [View.ld]
      blk_ext
      all_goals (refine (part_idx _ _ _ _ _).trans ?_; simp)
  · refine (norm_a _ _ x).trans (hrow_congr (fun k => ?_) (fun k => ?_) (Fin.ext (by omega)))
    · exact pay_a x0 x1 x2 x3 x4 x5 x6 x7 x8 x9 x10 x11 x12 x13 (ix2 (x 0) k) (y 0) (by show _ = (x 0).val; omega)
    · simp only [View.ld]
      blk_ext
      all_goals (refine (part_idx _ _ _ _ _).trans ?_; simp)

/-- Each window's block index at a point, decided over the points. -/
theorem idx : ∀ t : Fin cfg0.N, win0_0.index t = ![t.val, 0] ∧ win0_1.index t = ![t.val, 0] ∧ win0_2.index t = ![t.val, 0] ∧ win0_3.index t = ![t.val, 4]
    ∧ win0_4.index t = ![t.val, 5] ∧ win0_5.index t = ![t.val, 6] ∧ win0_6.index t = ![t.val, 0] ∧ win0_7.index t = ![0, 0, 0] ∧ win0_8.index t = ![0, 0]
    ∧ win0_9.index t = ![0, 0] ∧ win0_14.index t = ![t.val, 0] ∧ win0_15.index t = ![t.val, 0] :=
  (by decide +kernel : ∀ t : Fin grid0.N, win0_0.index t = ![t.val, 0] ∧ win0_1.index t = ![t.val, 0] ∧ win0_2.index t = ![t.val, 0] ∧ win0_3.index t = ![t.val, 4]
    ∧ win0_4.index t = ![t.val, 5] ∧ win0_5.index t = ![t.val, 6] ∧ win0_6.index t = ![t.val, 0] ∧ win0_7.index t = ![0, 0, 0] ∧ win0_8.index t = ![0, 0]
    ∧ win0_9.index t = ![0, 0] ∧ win0_14.index t = ![t.val, 0] ∧ win0_15.index t = ![t.val, 0])

/-- The row of the arrays a block's row sits at. -/
def row (t : Fin cfg0.N) (r : Fin 512) : Fin 32768 := ⟨t.val * 512 + r.val, by have h : t.val < 64 := t.isLt; have := r.isLt; omega⟩

/-- A row of the blocks at a point is the reference's row there. -/
theorem point (c : Dev nD) (t : Fin cfg0.N) (r : Fin 512) (d : Fin 1024) :
    xblk (iblk m c 0 t) (iblk m c 1 t) (iblk m c 2 t) (iblk m c 3 t) (iblk m c 4 t) (iblk m c 5 t) (iblk m c 6 t) (iblk m c 7 t) (iblk m c 8 t) r d
      = Cert.MergeRefIdeal.Hand.xref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (row t r) d := by
  unfold xblk Cert.MergeRefIdeal.Hand.xref
  refine xrow_congr ?_ ?_ ?_ ?_ ?_ ?_ ?_ ?_ ?_ ?_ ?_ rfl
  all_goals (intros; blk_point [iblk, V, idx t])
  all_goals first
    | rfl
    | (simp only [row]; done)
    | (simp only [Cert.MergeRefIdeal.Hand.gcol, Fin.val_zero, Fin.val_one, Fin.val_two]; omega)

/-- The gains as a row: what the launch finds in their window's array. -/
theorem V_main_v7 (c : Dev nD) (k : Fin 1024) : V m c main_v7 (ix2 0 k) = m ((c : Thread nD τ).loc main_arg7) (ix1 k) := by
  have h : V m c main_v7 = fun i => shapeCast S1x1024 (m ((c : Thread nD τ).loc main_arg7)) shapeCasts_S1024_S1x1024 i := by
    show StableHlo.after ([hostOps0, hostOps0_1, hostOps0_2, hostOps0_3, hostOps0_4].flatten) _ (Proc.devRef .tc main_v7) = _
    simp only [hostOps0, hostOps0_1, hostOps0_2, hostOps0_3, hostOps0_4, List.flatten_cons, List.flatten_nil, List.append_nil, List.cons_append, List.nil_append]
    after_results
    rfl
  rw [h]
  refine shapeCast_apply _ _ _ _ ((Shape.rowMajor_val_one (d := ![1024]) _).trans (Eq.trans ?_ (Shape.rowMajor_val_two (d := ![1, 1024]) _).symm))
  simp

/-- The gains' block at a point is the gains. -/
theorem point_g (c : Dev nD) (t : Fin cfg0.N) (k : Fin 1024) : iblk m c 9 t (ix2 0 k) = m ((c : Thread nD τ).loc main_arg7) (ix1 k) := by
  refine Eq.trans ?_ (V_main_v7 m c k)
  blk_point [iblk, idx t]

/-- Where a block's entry of the sums sits in the array, -/
theorem emb_x (t : Fin cfg0.N) (y : S512x1024.Idx) : ((cfg0.win 14).blk t).view.emb y = (ix2 (row t (y 0)) (y 1) : S32768x1024.Idx) := by
  have h := idx t
  refine funext fun a => Fin.ext ?_
  match a with
  | ⟨0, _⟩ =>
    show win0_14.index t 0 * 512 + 1 * (y 0).val = t.val * 512 + (y 0).val
    rw [h.2.2.2.2.2.2.2.2.2.2.1]; simp
  | ⟨1, _⟩ =>
    show win0_14.index t 1 * 1024 + 1 * (y 1).val = (y 1).val
    rw [h.2.2.2.2.2.2.2.2.2.2.1]; simp

/-- and of the scaled sums. -/
theorem emb_h (t : Fin cfg0.N) (y : S512x1024.Idx) : ((cfg0.win 15).blk t).view.emb y = (ix2 (row t (y 0)) (y 1) : S32768x1024.Idx) := by
  have h := idx t
  refine funext fun a => Fin.ext ?_
  match a with
  | ⟨0, _⟩ =>
    show win0_15.index t 0 * 512 + 1 * (y 0).val = t.val * 512 + (y 0).val
    rw [h.2.2.2.2.2.2.2.2.2.2.2]; simp
  | ⟨1, _⟩ =>
    show win0_15.index t 1 * 1024 + 1 * (y 1).val = (y 1).val
    rw [h.2.2.2.2.2.2.2.2.2.2.2]; simp

/-- After the launch the sums' array holds the reference's first result. -/
theorem final_x (c : Dev nD) : (dats m 0 c).arrAt 14 (cfgs 0).N = Cert.MergeRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 14 _ (by decide +kernel) fun t _ y => ?_
  blk_simp
  rw [after0_14]
  refine (out_x _ _ _ _ _ _ _ _ _ _ _ _ _ _ y).trans ((point m c t (y 0) (y 1)).trans ?_)
  exact (Cert.MergeRefIdeal.Hand.ref_x _ _ _ _ _ _ _ _ _).symm.trans (congrArg _ (emb_x t y).symm)

/-- After the launch the scaled sums' array holds the reference's second result. -/
theorem final_h (c : Dev nD) : (dats m 0 c).arrAt 15 (cfgs 0).N = Cert.MergeRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t _ y => ?_
  blk_simp
  rw [after0_15]
  refine (out_h _ _ _ _ _ _ _ _ _ _ _ _ _ _ y).trans ((hrow_congr (fun k => point m c t (y 0) k) (fun k => point_g m c t k) rfl).trans ?_)
  exact (Cert.MergeRefIdeal.Hand.ref_h _ _ _ _ _ _ _ _ _ _).symm.trans (congrArg _ (emb_h t y).symm)

end Cert.MergeIdeal.Hand

end

end
-- ==== Proof.FfnRun.lean ====
/- The expert kernel at a point that is active and keeps the weights already cast: the run of its body there, next to the
   two runs of the generated part (the point that casts, the idle point), and names for the words the body reads. -/
module

public import proofs.«01_k».proof.Proof.Gen.Ffn.Flash.Runs
public import proofs.«01_k».proof.Proof.Gen.Ffn.Skeleton
public import proofs.«01_k».proof.Proof.Gen.Ffn.Flash.Pins

@[expose] public section

set_option maxRecDepth 16384
set_option Elab.async false

noncomputable section

namespace Cert.Ffn.Hand

open Cert.Ffn.Gen
open Cert.Ffn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The word the body reads as the number of active tiles. -/
abbrev wN (T1 : S1.Idx → Elt Bits .i32) : BitVec 32 :=
  (View.readAt (Elt Bits) (tbM0_1).view (Rect.unit (s := S1) ![0] S1.size inb_S1_S1_0).toLoadRect T1 (Shape.Idx.first (numel1_S1.symm ▸ Nat.one_pos)))
/-- The word it reads as this tile's expert. -/
abbrev wC (i : grid0.Coords) (T0 : S174.Idx → Elt Bits .i32) : BitVec 32 :=
  (View.readAt (Elt Bits) (tbM0_0).view (Rect.unit (s := S174) (k0_off1 i) S1.size (k0_off1_inb i)).toLoadRect T0 (Shape.Idx.first (numel1_S1.symm ▸ Nat.one_pos)))
/-- The word it reads as the expert of the tile before. -/
abbrev wP (i : grid0.Coords) (T0 : S174.Idx → Elt Bits .i32) : BitVec 32 :=
  (View.readAt (Elt Bits) (tbM0_0).view (Rect.unit (s := S174) (k0_off2 i) S1.size (k0_off2_inb i)).toLoadRect T0 (Shape.Idx.first (numel1_S1.symm ▸ Nat.one_pos)))
/-- The condition under which it casts the expert's weights. -/
abbrev recast (i : grid0.Coords) (T0 : S174.Idx → Elt Bits .i32) (T1 : S1.Idx → Elt Bits .i32) : BitVec 1 :=
  (Scalar.cmpi .ne (Scalar.extui (Scalar.andi (Scalar.cmpi .slt (BitVec.ofNat 32 (i 0).val) (wN T1)) (Scalar.ori (Scalar.cmpi .eq (BitVec.ofNat 32 (i 0).val) 0#32) (Scalar.cmpi .ne (wC i T0) (wP i T0))))) 0#32)

set_option backward.proofsInPublic true in
set_option maxHeartbeats 8000000 in
/-- What the body leaves at a point that is active and casts nothing (the pieces it stores, what its three scratch buffers
    hold), with the proof that it runs from the blocks, the tables and the scratch buffers to all of that. -/
noncomputable def runC (c : Dev nD) (i : grid0.Coords) (arg3 : Memref sig .tc .vmem S512x1152 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole) (T0 : (S174.Idx → Elt Bits .i32)) (T1 : (S1.Idx → Elt Bits .i32))
     (x0 : (S512x1152.Idx → Elt Bits .bf16)) (x1 : (S1x1x1024x512.Idx → Elt Bits .f32)) (x2 : (S1x1x1024x512.Idx → Elt Bits .f32)) (x3 : (S1x1x512x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (k0_h1 : ¬(k0_cond1 i (wN T1) = 1#1)) (hc1 : ¬(recast i T0 T1 = 1#1)) (k0_h3 : k0_cond3 i (wN T1) = 1#1) :
    Σ' (out0 : List (View.Piece (Elt Bits) S512x1024 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_moe_expert_ffn i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_moe_expert_ffn_eq_skeleton]; unfold cc0_moe_expert_ffn_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The two stores of such a point cover the block. -/
theorem coverC (c : Dev nD) (i : grid0.Coords) (arg3 : Memref sig .tc .vmem S512x1152 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole) (T0 : (S174.Idx → Elt Bits .i32)) (T1 : (S1.Idx → Elt Bits .i32))
     (x0 : (S512x1152.Idx → Elt Bits .bf16)) (x1 : (S1x1x1024x512.Idx → Elt Bits .f32)) (x2 : (S1x1x1024x512.Idx → Elt Bits .f32)) (x3 : (S1x1x512x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (k0_h1 : ¬(k0_cond1 i (wN T1) = 1#1)) (hc1 : ¬(recast i T0 T1 = 1#1)) (k0_h3 : k0_cond3 i (wN T1) = 1#1) (y : S512x1024.Idx) :
    ∃ pc ∈ (runC c i arg3 harg3 arg4 harg4 arg5 harg5 arg6 harg6 arg7 harg7 T0 T1 x0 x1 x2 x3 xa0 xa1 xa2 k0_h1 hc1 k0_h3).1, y ∈ pc.1.set :=
  View.cover_of_tiledL (runC c i arg3 harg3 arg4 harg4 arg5 harg5 arg6 harg6 arg7 harg7 T0 T1 x0 x1 x2 x3 xa0 xa1 xa2 k0_h1 hc1 k0_h3).1 S256x1024.size (by sl_kernel_rfl) y

/-- What they leave in the block. -/
def outC (c : Dev nD) (i : grid0.Coords) (arg3 : Memref sig .tc .vmem S512x1152 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole) (T0 : (S174.Idx → Elt Bits .i32)) (T1 : (S1.Idx → Elt Bits .i32))
     (x0 : (S512x1152.Idx → Elt Bits .bf16)) (x1 : (S1x1x1024x512.Idx → Elt Bits .f32)) (x2 : (S1x1x1024x512.Idx → Elt Bits .f32)) (x3 : (S1x1x512x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (k0_h1 : ¬(k0_cond1 i (wN T1) = 1#1)) (hc1 : ¬(recast i T0 T1 = 1#1)) (k0_h3 : k0_cond3 i (wN T1) = 1#1) : (S512x1024.Idx → Elt Bits .bf16) :=
  VO0_4.read (Elt Bits) (VO0_4.writes (Elt Bits) VO0_4.junk (runC c i arg3 harg3 arg4 harg4 arg5 harg5 arg6 harg6 arg7 harg7 T0 T1 x0 x1 x2 x3 xa0 xa1 xa2 k0_h1 hc1 k0_h3).1)

end Cert.Ffn.Hand

end

end
-- ==== Proof.FfnFrame.lean ====
/- The frame of the expert kernel at any tables its precondition admits: every expert index below 16, between one and 174
   active tiles. At a point the body takes one of three paths: past the active tiles it stores zeros; at a tile whose expert
   differs from the one before (and at the first) it casts the expert's weights into three scratch buffers and uses them;
   at any other tile it uses what the scratch buffers hold. What the output block and the scratch buffers hold after each
   point is therefore followed along the grid. -/
module

public import proofs.«01_k».proof.Proof.FfnRun
public import proofs.«01_k».proof.Proof.Gen.Ffn.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Ffn.Hand

open Cert.Ffn.Gen
open Cert.Ffn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the staging cells. -/
abbrev EP : Emb (UR sig nD τ) 𝕄 := emb₁

/-- Tables the kernel may be given: each tile's expert, and the number of active tiles. -/
structure Tab where
  te : S174.Idx → BitVec 32
  nt : S1.Idx → BitVec 32
  te_lt : ∀ x, (te x).toNat < 16
  nt_pos : ∀ x, 1 ≤ (nt x).toNat
  nt_le : ∀ x, (nt x).toNat ≤ 174

variable (T : Tab)

set_option backward.proofsInPublic true in
/-- The tables as the contents of the two prefetched arrays. -/
def pfT : pre0.Contents (Elt Bits) := fun | ⟨0, _⟩ => T.te | ⟨1, _⟩ => T.nt | ⟨_ + 2, h⟩ => absurd h (by simp)

/-- A coordinate of the grid is below 174. -/
theorem coord_lt (i : grid0.Coords) : (i 0).val < 174 := (i 0).isLt

/-- The word of a coordinate. -/
theorem word_toNat (i : grid0.Coords) : (BitVec.ofNat 32 (i 0).val).toNat = (i 0).val := by
  rw [BitVec.toNat_ofNat]; exact Nat.mod_eq_of_lt (by have := coord_lt i; omega)

/-- A word below 2³¹ reads the same signed. -/
theorem toInt_small (v : BitVec 32) (h : v.toNat < 2 ^ 31) : v.toInt = v.toNat := by
  rw [BitVec.toInt_eq_toNat_cond, if_pos (by omega)]

/-- The signed comparison of a coordinate with a small word. -/
theorem slt_small (a b : BitVec 32) (ha : a.toNat < 2 ^ 31) (hb : b.toNat < 2 ^ 31) :
    Scalar.cmpi .slt a b = 1#1 ↔ a.toNat < b.toNat := by
  have e : Scalar.cmpi .slt a b = BitVec.ofBool (a.slt b) := rfl
  rw [e, BitVec.slt_eq_decide, toInt_small a ha, toInt_small b hb]
  by_cases h : a.toNat < b.toNat
  · simp [h]
  · simp [h]

/-- The row block a point reads of the gathered rows: its own while it is active. -/
theorem min_word (i : grid0.Coords) (v : BitVec 32) (h1 : 1 ≤ v.toNat) (h2 : v.toNat ≤ 174) :
    (Scalar.minsi (BitVec.ofNat 32 (i 0).val) (Scalar.subi v 1#32)).toNat = min (i 0).val (v.toNat - 1) := by
  have hi := coord_lt i
  have hs : (v - 1#32).toNat = v.toNat - 1 := by
    rw [BitVec.toNat_sub]; simp only [BitVec.toNat_ofNat]; omega
  have e : Scalar.minsi (BitVec.ofNat 32 (i 0).val) (Scalar.subi v 1#32)
      = if (BitVec.ofNat 32 (i 0).val).slt (v - 1#32) then BitVec.ofNat 32 (i 0).val else v - 1#32 := rfl
  rw [e, BitVec.slt_eq_decide, toInt_small _ (by rw [word_toNat]; omega), toInt_small _ (by rw [hs]; omega), word_toNat, hs]
  by_cases h : (i 0).val < v.toNat - 1
  · rw [if_pos (by simpa using h), word_toNat]; omega
  · rw [if_neg (by simpa using h), hs]; omega

theorem rows_in (i : grid0.Coords) (v : BitVec 32) (h1 : 1 ≤ v.toNat) (h2 : v.toNat ≤ 174) :
    ((Scalar.minsi (BitVec.ofNat 32 (i 0).val) (Scalar.subi v 1#32)).toNat + 1) * 512 ≤ 89088 := by
  rw [min_word i v h1 h2]; have := coord_lt i; omega

theorem expert_in (n : ℕ) (h : n < 16) : (n + 1) * 1 ≤ 16 := by omega

theorem inb_0 (i : grid0.Coords) : ∀ a, (cc0_transform_0 inb_S1_S1_0 numel1_S1 (pfT T) i a + 1) * S512x1152.size a ≤ S89088x1152.size a := by
  intro a
  fin_cases a
  · exact rows_in i _ (T.nt_pos _) (T.nt_le _)
  · exact (by decide : (0 + 1) * 1152 ≤ 1152)

theorem inb_1 (i : grid0.Coords) : ∀ a, (cc0_transform_1 k0_off1_inb numel1_S1 (pfT T) i a + 1) * S1x1x1024x512.size a ≤ S2x16x1024x512.size a := by
  intro a
  fin_cases a
  · exact (by decide : (1 + 1) * 1 ≤ 2)
  · exact expert_in _ (T.te_lt _)
  · exact (by decide : (0 + 1) * 1024 ≤ 1024)
  · exact (by decide : (0 + 1) * 512 ≤ 512)

theorem inb_2 (i : grid0.Coords) : ∀ a, (cc0_transform_2 k0_off1_inb numel1_S1 (pfT T) i a + 1) * S1x1x1024x512.size a ≤ S2x16x1024x512.size a := by
  intro a
  fin_cases a
  · exact (by decide : (1 + 1) * 1 ≤ 2)
  · exact expert_in _ (T.te_lt _)
  · exact (by decide : (0 + 1) * 1024 ≤ 1024)
  · exact (by decide : (0 + 1) * 512 ≤ 512)

theorem inb_3 (i : grid0.Coords) : ∀ a, (cc0_transform_3 k0_off1_inb numel1_S1 (pfT T) i a + 1) * S1x1x512x1024.size a ≤ S2x16x512x1024.size a := by
  intro a
  fin_cases a
  · exact (by decide : (1 + 1) * 1 ≤ 2)
  · exact expert_in _ (T.te_lt _)
  · exact (by decide : (0 + 1) * 512 ≤ 512)
  · exact (by decide : (0 + 1) * 1024 ≤ 1024)

/-- Every block the tables lead to lies inside its array. -/
theorem okT : ok0 (F := Bits) (pfT T) :=
  ⟨fun i => ⟨inb_0 T i, .inr (Affine.block_words_dvd (s := S89088x1152) (p := EltTy.packing .bf16) (by decide) (by decide))⟩,
    fun i => ⟨inb_1 T i, .inl rfl⟩, fun i => ⟨inb_2 T i, .inl rfl⟩, fun i => ⟨inb_3 T i, .inl rfl⟩⟩

/-- The pipeline at the tables. -/
def adm : (pcfg0 (F := Bits)).Adm := ⟨pfT T, okT T⟩
abbrev cfgA : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- The launch memory holds these tables. -/
def Pinned (m : (ℓ : Loc nD τ sig) → Buf (Elt Bits) ℓ) : Prop :=
  (∀ c : Dev nD, m ((c : Thread nD τ).loc main_arg0) = T.te)
  ∧ (∀ c : Dev nD, m ((c : Thread nD τ).loc main_arg1) = T.nt)

/-- Point `t`'s coordinates. -/
abbrev crd (t : Fin (cfgA T).N) : (cfgA T).grid.Coords := (cfgA T).grid.coords t

/-- Each window's current staging buffer. -/
abbrev ms0_0 (t : Fin (cfgA T).N) : Memref sig .tc .vmem S512x1152 .bf16 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x1x1024x512 .f32 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x1x1024x512 .f32 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x1x512x1024 .f32 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S512x1024 .bf16 := spec0_4.stage ((cfgA T).slots t (4 : Fin 5))
abbrev hs0_4 (t : Fin (cfgA T).N) : (ms0_4 T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-! ## Which path a point takes -/

/-- The point lies past the active tiles. -/
abbrev PB (t : Fin (cfgA T).N) : Prop := k0_cond1 (crd T t) (wN T.nt) = 1#1
/-- The point casts its expert's weights. -/
abbrev PA (t : Fin (cfgA T).N) : Prop := recast (crd T t) T.te T.nt = 1#1

theorem one_bit : ∀ b : BitVec 1,
    (Scalar.cmpi .ne (Scalar.extui (Scalar.xori b 1#1) : BitVec 32) 0#32 = 1#1 ↔ b = 0#1)
    ∧ (Scalar.cmpi .ne (Scalar.extui b : BitVec 32) 0#32 = 1#1 ↔ b = 1#1) := by decide

theorem or_bit : ∀ a b c : BitVec 1, Scalar.cmpi .ne (Scalar.extui (Scalar.andi a (Scalar.ori b c)) : BitVec 32) 0#32 = 1#1
    ↔ a = 1#1 ∧ (b = 1#1 ∨ c = 1#1) := by decide

theorem bit_cases : ∀ b : BitVec 1, b = 0#1 ∨ b = 1#1 := by decide

theorem cond1_iff (i : grid0.Coords) (v : BitVec 32) : k0_cond1 i v = 1#1 ↔ Scalar.cmpi .slt (BitVec.ofNat 32 (i 0).val) v = 0#1 :=
  (one_bit _).1
theorem cond3_iff (i : grid0.Coords) (v : BitVec 32) : k0_cond3 i v = 1#1 ↔ Scalar.cmpi .slt (BitVec.ofNat 32 (i 0).val) v = 1#1 :=
  (one_bit _).2
theorem recast_iff (i : grid0.Coords) (T0 : S174.Idx → BitVec 32) (T1 : S1.Idx → BitVec 32) :
    recast i T0 T1 = 1#1 ↔ Scalar.cmpi .slt (BitVec.ofNat 32 (i 0).val) (wN T1) = 1#1
      ∧ (Scalar.cmpi .eq (BitVec.ofNat 32 (i 0).val) 0#32 = 1#1 ∨ Scalar.cmpi .ne (wC i T0) (wP i T0) = 1#1) :=
  or_bit _ _ _

theorem PB_notA (t : Fin (cfgA T).N) (h : PB T t) : ¬PA T t := fun h' => by
  have a := (cond1_iff _ _).1 h
  have b := ((recast_iff _ _ _).1 h').1
  rw [a] at b; exact absurd b (by decide)
theorem PB_notC (t : Fin (cfgA T).N) (h : PB T t) : ¬(k0_cond3 (crd T t) (wN T.nt) = 1#1) := fun h' => by
  have a := (cond1_iff _ _).1 h
  have b := (cond3_iff _ _).1 h'
  rw [a] at b; exact absurd b (by decide)
theorem notPB_C (t : Fin (cfgA T).N) (h : ¬PB T t) : k0_cond3 (crd T t) (wN T.nt) = 1#1 :=
  (cond3_iff _ _).2 ((bit_cases _).resolve_left fun h' => h ((cond1_iff _ _).2 h'))

theorem points : grid0.N ≤ 174 := by decide +kernel

theorem crd_val (t : Fin (cfgA T).N) : ((crd T t) 0).val = t.val := by
  rw [Pipeline.Grid.coords_val (G := grid0) t 0 (S := 1) (B := 174) (by decide +kernel) rfl, Nat.div_one]
  exact Nat.mod_eq_of_lt (Nat.lt_of_lt_of_le t.isLt points)

theorem active_iff (t : Fin (cfgA T).N) : ¬PB T t ↔ t.val < (wN T.nt).toNat := by
  have hv : (wN T.nt).toNat ≤ 174 := T.nt_le _
  have hi := coord_lt (crd T t)
  have e := slt_small (BitVec.ofNat 32 ((crd T t) 0).val) (wN T.nt) (by rw [word_toNat]; omega) (by omega)
  rw [word_toNat, crd_val] at e
  rw [← e, PB, cond1_iff]
  rcases bit_cases (Scalar.cmpi .slt (BitVec.ofNat 32 ((crd T t) 0).val) (wN T.nt)) with h | h
  · rw [crd_val] at h; rw [crd_val, h]; decide
  · rw [crd_val] at h; rw [crd_val, h]; decide

/-- The first point is active and casts. -/
theorem first_not_PB (t : Fin (cfgA T).N) (h : t.val = 0) : ¬PB T t :=
  (active_iff T t).2 (by rw [h]; exact T.nt_pos _)
theorem first_PA (t : Fin (cfgA T).N) (h : t.val = 0) : PA T t := by
  refine (recast_iff _ _ _).2 ⟨(cond3_iff _ _).1 (notPB_C T t (first_not_PB T t h)), .inl ?_⟩
  rw [crd_val, h]; decide

/-- The output window is stored at every point, -/
theorem idle4 (t : Fin (cfgA T).N) : (cfgA T).idle (4 : Fin 5) ((cfgA T).grid.coords t) = false := by
  have key : ∀ v : BitVec 32, (!(k0_cond1 (crd T t) v == 1#1) && !(k0_cond3 (crd T t) v == 1#1)) = false := fun v => by
    rcases bit_cases (Scalar.cmpi .slt (BitVec.ofNat 32 ((crd T t) 0).val) v) with h | h
    · rw [(cond1_iff _ _).2 h]; rfl
    · rw [(cond3_iff _ _).2 h]; exact Bool.and_false _
  exact key _
/-- and written back at every point. -/
theorem flush4 (t : Fin (cfgA T).N) : ((cfgA T).win (4 : Fin 5)).flush t = true := by
  refine (Pipeline.Window.flush_reads ((cfgA T).win (4 : Fin 5)) rfl (0 : Fin 1) (show 1 < grid0.bound 0 by decide) (show grid0.fixedAfter reads0_4 0 = true by decide +kernel) (fun i i' h => ?_) (P := 1) (m := 0)
    (show grid0.stride 0 = 1 by decide +kernel) rfl t).2 (Nat.mod_one _)
  have e : (BitVec.ofNat 32 (i 0).val).toNat = (BitVec.ofNat 32 (i' 0).val).toNat := congrFun h (0 : Fin 2)
  rw [word_toNat, word_toNat] at e
  exact Fin.ext e

/-! ## What the output block and the scratch buffers hold after each point -/

/-- The three runs at a point. -/
abbrev runAt_A (c : Dev nD) (t : Fin (cfgA T).N) (hb : ¬PB T t) (ha : PA T t) :=
  kernelRun0_A c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb)
abbrev runAt_B (c : Dev nD) (t : Fin (cfgA T).N) (prev : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2)) (hb : PB T t) :=
  kernelRun0_B c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb (PB_notA T t hb) (PB_notC T t hb)
abbrev runAt_C (c : Dev nD) (t : Fin (cfgA T).N) (prev : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2)) (hb : ¬PB T t) (ha : ¬PA T t) :=
  runC c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb ha (notPB_C T t hb)

/-- What the output block and the scratch buffers hold after point `t`, from what they held before it. -/
def step0 (c : Dev nD) (t : Fin (cfgA T).N) (prev : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2)) : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if hb : PB T t then
    (out0_B_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb (PB_notA T t hb) (PB_notC T t hb),
      (runAt_B T m ρ c t prev hb).2.1, (runAt_B T m ρ c t prev hb).2.2.1, (runAt_B T m ρ c t prev hb).2.2.2.1)
  else if ha : PA T t then
    (out0_A_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb),
      (runAt_A T m ρ c t hb ha).2.1, (runAt_A T m ρ c t hb ha).2.2.1, (runAt_A T m ρ c t hb ha).2.2.2.1)
  else
    (outC c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb ha (notPB_C T t hb),
      (runAt_C T m ρ c t prev hb ha).2.1, (runAt_C T m ρ c t prev hb ha).2.2.1, (runAt_C T m ρ c t prev hb ha).2.2.2.1)

/-- The same along the grid: after point `n`. -/
def traj0 (c : Dev nD) : (n : ℕ) → n < (cfgA T).N → (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2)
  | 0, h => step0 T m ρ c ⟨0, h⟩ (default, default, default, default)
  | n + 1, h => step0 T m ρ c ⟨n + 1, h⟩ (traj0 c n (Nat.lt_of_succ_lt h))

/-- Before point `t` (nothing determined before the first). -/
def prev0 (c : Dev nD) (t : Fin (cfgA T).N) : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

theorem step0_B (c : Dev nD) (t : Fin (cfgA T).N) (prev : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2)) (hb : PB T t) :
    step0 T m ρ c t prev = (out0_B_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb (PB_notA T t hb) (PB_notC T t hb),
      (runAt_B T m ρ c t prev hb).2.1, (runAt_B T m ρ c t prev hb).2.2.1, (runAt_B T m ρ c t prev hb).2.2.2.1) := by
  unfold step0; simp only [dif_pos hb]
theorem step0_A (c : Dev nD) (t : Fin (cfgA T).N) (prev : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2)) (hb : ¬PB T t) (ha : PA T t) :
    step0 T m ρ c t prev = (out0_A_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb),
      (runAt_A T m ρ c t hb ha).2.1, (runAt_A T m ρ c t hb ha).2.2.1, (runAt_A T m ρ c t hb ha).2.2.2.1) := by
  unfold step0; simp only [dif_neg hb, dif_pos ha]
theorem step0_C (c : Dev nD) (t : Fin (cfgA T).N) (prev : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2)) (hb : ¬PB T t) (ha : ¬PA T t) :
    step0 T m ρ c t prev = (outC c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb ha (notPB_C T t hb),
      (runAt_C T m ρ c t prev hb ha).2.1, (runAt_C T m ρ c t prev hb ha).2.2.1, (runAt_C T m ρ c t prev hb ha).2.2.2.1) := by
  unfold step0; simp only [dif_neg hb, dif_neg ha]

/-! ## The pipeline's proof data -/

/-- What the buffers held before position `t` of the grid with its end. -/
def prev0T (c : Dev nD) (t : Fin ((cfgA T).N + 1)) : (S512x1024.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- The invariant before point `t`: after the first point the scratch buffers hold what the points before left there; the
    body's halves of the tables. -/
def Phi (m : (ℓ : Loc nD τ sig) → Buf (Elt Bits) ℓ) (ρ : Dev nD → PrngReg) (c : Dev nD) (t : Fin ((cfgA T).N + 1)) : sProp 𝕄 :=
  iprop((∃ a, ⌜t.val ≠ 0 → a = (prev0T T m ρ c t).2.1⌝ ∗ (scM0_0.view.loc (c : Thread nD τ) ↦{fullShare} a)) ∗ (∃ a, ⌜t.val ≠ 0 → a = (prev0T T m ρ c t).2.2.1⌝ ∗ (scM0_1.view.loc (c : Thread nD τ) ↦{fullShare} a)) ∗ (∃ a, ⌜t.val ≠ 0 → a = (prev0T T m ρ c t).2.2.2⌝ ∗ (scM0_2.view.loc (c : Thread nD τ) ↦{fullShare} a)) ∗ (tbM0_0.view.loc (c : Thread nD τ) ↦{fullShare.right} T.te) ∗ (tbM0_1.view.loc (c : Thread nD τ) ↦{fullShare.right} T.nt))

/-- The proof data of the pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt).1
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt).1 := rfl

/-- Each input window holds its block when the body runs. -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds nothing determined: it was written back the point before. -/
theorem fresh4 (t : Fin (cfgA T).N) : (cfgA T).fresh (4 : Fin 5) t.val = true :=
  Pipeline.Cfg.fresh_tab (cfgA T) (4 : Fin 5) (fun _ => true) rfl (fun t => by rw [flush4 T t]; rfl) t.val (Nat.le_of_lt t.isLt)
theorem before0_4 (c : Dev nD) (t : Fin (cfgA T).N) (d) : (dats T m ρ 0 c).before (4 : Fin 5) t d = d := by
  rw [(dats T m ρ 0 c).before_out_traj (4 : Fin 5) rfl (fun _ _ => rfl) (fun t _ hi _ => absurd ((idle4 T t).symm.trans hi) Bool.false_ne_true) t.val t rfl d,
    if_pos (fresh4 T t)]

/-! ## The body at a point -/

/-- The body at point `t` on its staging buffers. -/
abbrev bodyAt0 (t : Fin (cfgA T).N) : Prog (TpuEff nD τ sig (Elt Bits) Λ₀ .tc) PUnit :=
  cc0_moe_expert_ffn (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _) (Memref.whole cc0_scratch1) (Memref.isWhole_whole _) (Memref.whole cc0_scratch2) (Memref.isWhole_whole _)

set_option maxHeartbeats 8000000 in
/-- From the invariant and the blocks the body at point `t` runs to the invariant at the next point, on whichever path. -/
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i4 := idle4 T t
  have f4 := flush4 T t
  by_cases hb : PB T t
  · have h0 : t.val ≠ 0 := fun h => first_not_PB T t h hb
    rewrite [i4]
    simp only [before0_0, before0_1, before0_2, before0_3, before0_4, after0_0, after0_1, after0_2, after0_3, after0_4, f4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_B T m ρ c t _ hb]
    unfold Phi; simp only [prev0T_castSucc, prev0T_succ, traj0_eq, step0_B T m ρ c t _ hb, Fin.val_castSucc, Fin.val_succ]
    simp only [exists_held h0]
    iintro ⟨⟨HS0, HS1, HS2, HT0, HT1⟩, Ho, ⟨%d0, H0⟩, ⟨%d1, H1⟩, ⟨%d2, H2⟩, ⟨%d3, H3⟩, ⟨%d4, H4⟩⟩
    iapply ((runAt_B T m ρ c t (prev0 T m ρ c t) hb).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; rfl
      isplitl [HS1]
      · iexists _; isplitr; swap
        · iexact HS1
        · ipureintro; intro hn; rfl
      isplitl [HS2]
      · iexists _; isplitr; swap
        · iexact HS2
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _ _ _ _ _)
  by_cases ha : PA T t
  ·
    rewrite [i4]
    simp only [before0_0, before0_1, before0_2, before0_3, before0_4, after0_0, after0_1, after0_2, after0_3, after0_4, f4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_A T m ρ c t _ hb ha]
    unfold Phi; simp only [prev0T_castSucc, prev0T_succ, traj0_eq, step0_A T m ρ c t _ hb ha, Fin.val_castSucc, Fin.val_succ]
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((runAt_A T m ρ c t hb ha).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; rfl
      isplitl [HS1]
      · iexists _; isplitr; swap
        · iexact HS1
        · ipureintro; intro hn; rfl
      isplitl [HS2]
      · iexists _; isplitr; swap
        · iexact HS2
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _ _)
  · have h0 : t.val ≠ 0 := fun h => ha (first_PA T t h)
    rewrite [i4]
    simp only [before0_0, before0_1, before0_2, before0_3, before0_4, after0_0, after0_1, after0_2, after0_3, after0_4, f4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_C T m ρ c t _ hb ha]
    unfold Phi; simp only [prev0T_castSucc, prev0T_succ, traj0_eq, step0_C T m ρ c t _ hb ha, Fin.val_castSucc, Fin.val_succ]
    simp only [exists_held h0]
    iintro ⟨⟨HS0, HS1, HS2, HT0, HT1⟩, Ho, ⟨%d0, H0⟩, ⟨%d1, H1⟩, ⟨%d2, H2⟩, ⟨%d3, H3⟩, ⟨%d4, H4⟩⟩
    iapply ((runAt_C T m ρ c t (prev0 T m ρ c t) hb ha).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; rfl
      isplitl [HS1]
      · iexists _; isplitr; swap
        · iexact HS1
        · ipureintro; intro hn; rfl
      isplitl [HS2]
      · iexists _; isplitr; swap
        · iexact HS2
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverC c _ _ _ _ _ _ _ _ _ _ _ _ _ _ _ _ _ _ _ _ _ _ _)

/-- The obligation at every point. -/
theorem body_obligation (c : Dev nD) : BodyObligation (dats T m ρ 0 c) (defs₀ (F := Bits)) Variants.none () Set.univ := fun t => by
  rw [bigSep_W0]
  exact sound_body T m ρ c t

/-! ## The launch -/

/-- The launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- at the end it gives the scratch buffers back. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array at what the pipeline computes, every table unchanged. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- The run from any memory holding these tables. -/
theorem run_main_quiescent (hp : Pinned T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: the run ends, its arguments unchanged and every semaphore at zero. -/
theorem frame (hp : Pinned T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp.1 c).symm, ((h.1 c).2 1).trans (hp.2 c).symm, ((h.1 c).1 (0 : Fin 5)).trans ((dats T m ρ 0 c).arrAt_in (0 : Fin 5) rfl _), ((h.1 c).1 (1 : Fin 5)).trans ((dats T m ρ 0 c).arrAt_in (1 : Fin 5) rfl _), ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩)
    (run_main_quiescent T m ρ hp)

end Cert.Ffn.Hand

end
-- ==== Proof.FfnIdealRun.lean ====
/- The expert kernel at a point that is active and keeps the weights already cast: the run of its body there, next to the
   two runs of the generated part (the point that casts, the idle point), and names for the words the body reads. -/
module

public import proofs.«01_k».proof.Proof.Gen.FfnIdeal.Flash.Runs
public import proofs.«01_k».proof.Proof.Gen.FfnIdeal.Skeleton
public import proofs.«01_k».proof.Proof.Gen.FfnIdeal.Flash.Pins

@[expose] public section

set_option maxRecDepth 16384
set_option Elab.async false

noncomputable section

namespace Cert.FfnIdeal.Hand

open Cert.FfnIdeal.Gen
open Cert.FfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The word the body reads as the number of active tiles. -/
abbrev wN (T1 : S1.Idx → Elt Ideal .i32) : BitVec 32 :=
  (View.readAt (Elt Ideal) (tbM0_1).view (Rect.unit (s := S1) ![0] S1.size inb_S1_S1_0).toLoadRect T1 (Shape.Idx.first (numel1_S1.symm ▸ Nat.one_pos)))
/-- The word it reads as this tile's expert. -/
abbrev wC (i : grid0.Coords) (T0 : S174.Idx → Elt Ideal .i32) : BitVec 32 :=
  (View.readAt (Elt Ideal) (tbM0_0).view (Rect.unit (s := S174) (k0_off1 i) S1.size (k0_off1_inb i)).toLoadRect T0 (Shape.Idx.first (numel1_S1.symm ▸ Nat.one_pos)))
/-- The word it reads as the expert of the tile before. -/
abbrev wP (i : grid0.Coords) (T0 : S174.Idx → Elt Ideal .i32) : BitVec 32 :=
  (View.readAt (Elt Ideal) (tbM0_0).view (Rect.unit (s := S174) (k0_off2 i) S1.size (k0_off2_inb i)).toLoadRect T0 (Shape.Idx.first (numel1_S1.symm ▸ Nat.one_pos)))
/-- The condition under which it casts the expert's weights. -/
abbrev recast (i : grid0.Coords) (T0 : S174.Idx → Elt Ideal .i32) (T1 : S1.Idx → Elt Ideal .i32) : BitVec 1 :=
  (Scalar.cmpi .ne (Scalar.extui (Scalar.andi (Scalar.cmpi .slt (BitVec.ofNat 32 (i 0).val) (wN T1)) (Scalar.ori (Scalar.cmpi .eq (BitVec.ofNat 32 (i 0).val) 0#32) (Scalar.cmpi .ne (wC i T0) (wP i T0))))) 0#32)

set_option backward.proofsInPublic true in
set_option maxHeartbeats 8000000 in
/-- What the body leaves at a point that is active and casts nothing (the pieces it stores, what its three scratch buffers
    hold), with the proof that it runs from the blocks, the tables and the scratch buffers to all of that. -/
noncomputable def runC (c : Dev nD) (i : grid0.Coords) (arg3 : Memref sig .tc .vmem S512x1152 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole) (T0 : (S174.Idx → Elt Ideal .i32)) (T1 : (S1.Idx → Elt Ideal .i32))
     (x0 : (S512x1152.Idx → Elt Ideal .bf16)) (x1 : (S1x1x1024x512.Idx → Elt Ideal .f32)) (x2 : (S1x1x1024x512.Idx → Elt Ideal .f32)) (x3 : (S1x1x512x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬(k0_cond1 i (wN T1) = 1#1)) (hc1 : ¬(recast i T0 T1 = 1#1)) (k0_h3 : k0_cond3 i (wN T1) = 1#1) :
    Σ' (out0 : List (View.Piece (Elt Ideal) S512x1024 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_moe_expert_ffn i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_moe_expert_ffn_eq_skeleton]; unfold cc0_moe_expert_ffn_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The two stores of such a point cover the block. -/
theorem coverC (c : Dev nD) (i : grid0.Coords) (arg3 : Memref sig .tc .vmem S512x1152 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole) (T0 : (S174.Idx → Elt Ideal .i32)) (T1 : (S1.Idx → Elt Ideal .i32))
     (x0 : (S512x1152.Idx → Elt Ideal .bf16)) (x1 : (S1x1x1024x512.Idx → Elt Ideal .f32)) (x2 : (S1x1x1024x512.Idx → Elt Ideal .f32)) (x3 : (S1x1x512x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬(k0_cond1 i (wN T1) = 1#1)) (hc1 : ¬(recast i T0 T1 = 1#1)) (k0_h3 : k0_cond3 i (wN T1) = 1#1) (y : S512x1024.Idx) :
    ∃ pc ∈ (runC c i arg3 harg3 arg4 harg4 arg5 harg5 arg6 harg6 arg7 harg7 T0 T1 x0 x1 x2 x3 xa0 xa1 xa2 k0_h1 hc1 k0_h3).1, y ∈ pc.1.set :=
  View.cover_of_tiledL (runC c i arg3 harg3 arg4 harg4 arg5 harg5 arg6 harg6 arg7 harg7 T0 T1 x0 x1 x2 x3 xa0 xa1 xa2 k0_h1 hc1 k0_h3).1 S256x1024.size (by sl_kernel_rfl) y

/-- What they leave in the block. -/
def outC (c : Dev nD) (i : grid0.Coords) (arg3 : Memref sig .tc .vmem S512x1152 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole) (T0 : (S174.Idx → Elt Ideal .i32)) (T1 : (S1.Idx → Elt Ideal .i32))
     (x0 : (S512x1152.Idx → Elt Ideal .bf16)) (x1 : (S1x1x1024x512.Idx → Elt Ideal .f32)) (x2 : (S1x1x1024x512.Idx → Elt Ideal .f32)) (x3 : (S1x1x512x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬(k0_cond1 i (wN T1) = 1#1)) (hc1 : ¬(recast i T0 T1 = 1#1)) (k0_h3 : k0_cond3 i (wN T1) = 1#1) : (S512x1024.Idx → Elt Ideal .bf16) :=
  VO0_4.read (Elt Ideal) (VO0_4.writes (Elt Ideal) VO0_4.junk (runC c i arg3 harg3 arg4 harg4 arg5 harg5 arg6 harg6 arg7 harg7 T0 T1 x0 x1 x2 x3 xa0 xa1 xa2 k0_h1 hc1 k0_h3).1)

end Cert.FfnIdeal.Hand

end

end
-- ==== Proof.FfnIdealFrame.lean ====
/- The frame of the expert kernel at any tables its precondition admits: every expert index below 16, between one and 174
   active tiles. At a point the body takes one of three paths: past the active tiles it stores zeros; at a tile whose expert
   differs from the one before (and at the first) it casts the expert's weights into three scratch buffers and uses them;
   at any other tile it uses what the scratch buffers hold. What the output block and the scratch buffers hold after each
   point is therefore followed along the grid. -/
module

public import proofs.«01_k».proof.Proof.FfnIdealRun
public import proofs.«01_k».proof.Proof.Gen.FfnIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.FfnIdeal.Hand

open Cert.FfnIdeal.Gen
open Cert.FfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the staging cells. -/
abbrev EP : Emb (UR sig nD τ) 𝕄 := emb₁

/-- Tables the kernel may be given: each tile's expert, and the number of active tiles. -/
structure Tab where
  te : S174.Idx → BitVec 32
  nt : S1.Idx → BitVec 32
  te_lt : ∀ x, (te x).toNat < 16
  nt_pos : ∀ x, 1 ≤ (nt x).toNat
  nt_le : ∀ x, (nt x).toNat ≤ 174

variable (T : Tab)

set_option backward.proofsInPublic true in
/-- The tables as the contents of the two prefetched arrays. -/
def pfT : pre0.Contents (Elt Ideal) := fun | ⟨0, _⟩ => T.te | ⟨1, _⟩ => T.nt | ⟨_ + 2, h⟩ => absurd h (by simp)

/-- A coordinate of the grid is below 174. -/
theorem coord_lt (i : grid0.Coords) : (i 0).val < 174 := (i 0).isLt

/-- The word of a coordinate. -/
theorem word_toNat (i : grid0.Coords) : (BitVec.ofNat 32 (i 0).val).toNat = (i 0).val := by
  rw [BitVec.toNat_ofNat]; exact Nat.mod_eq_of_lt (by have := coord_lt i; omega)

/-- A word below 2³¹ reads the same signed. -/
theorem toInt_small (v : BitVec 32) (h : v.toNat < 2 ^ 31) : v.toInt = v.toNat := by
  rw [BitVec.toInt_eq_toNat_cond, if_pos (by omega)]

/-- The signed comparison of a coordinate with a small word. -/
theorem slt_small (a b : BitVec 32) (ha : a.toNat < 2 ^ 31) (hb : b.toNat < 2 ^ 31) :
    Scalar.cmpi .slt a b = 1#1 ↔ a.toNat < b.toNat := by
  have e : Scalar.cmpi .slt a b = BitVec.ofBool (a.slt b) := rfl
  rw [e, BitVec.slt_eq_decide, toInt_small a ha, toInt_small b hb]
  by_cases h : a.toNat < b.toNat
  · simp [h]
  · simp [h]

/-- The row block a point reads of the gathered rows: its own while it is active. -/
theorem min_word (i : grid0.Coords) (v : BitVec 32) (h1 : 1 ≤ v.toNat) (h2 : v.toNat ≤ 174) :
    (Scalar.minsi (BitVec.ofNat 32 (i 0).val) (Scalar.subi v 1#32)).toNat = min (i 0).val (v.toNat - 1) := by
  have hi := coord_lt i
  have hs : (v - 1#32).toNat = v.toNat - 1 := by
    rw [BitVec.toNat_sub]; simp only [BitVec.toNat_ofNat]; omega
  have e : Scalar.minsi (BitVec.ofNat 32 (i 0).val) (Scalar.subi v 1#32)
      = if (BitVec.ofNat 32 (i 0).val).slt (v - 1#32) then BitVec.ofNat 32 (i 0).val else v - 1#32 := rfl
  rw [e, BitVec.slt_eq_decide, toInt_small _ (by rw [word_toNat]; omega), toInt_small _ (by rw [hs]; omega), word_toNat, hs]
  by_cases h : (i 0).val < v.toNat - 1
  · rw [if_pos (by simpa using h), word_toNat]; omega
  · rw [if_neg (by simpa using h), hs]; omega

theorem rows_in (i : grid0.Coords) (v : BitVec 32) (h1 : 1 ≤ v.toNat) (h2 : v.toNat ≤ 174) :
    ((Scalar.minsi (BitVec.ofNat 32 (i 0).val) (Scalar.subi v 1#32)).toNat + 1) * 512 ≤ 89088 := by
  rw [min_word i v h1 h2]; have := coord_lt i; omega

theorem expert_in (n : ℕ) (h : n < 16) : (n + 1) * 1 ≤ 16 := by omega

theorem inb_0 (i : grid0.Coords) : ∀ a, (cc0_transform_0 inb_S1_S1_0 numel1_S1 (pfT T) i a + 1) * S512x1152.size a ≤ S89088x1152.size a := by
  intro a
  fin_cases a
  · exact rows_in i _ (T.nt_pos _) (T.nt_le _)
  · exact (by decide : (0 + 1) * 1152 ≤ 1152)

theorem inb_1 (i : grid0.Coords) : ∀ a, (cc0_transform_1 k0_off1_inb numel1_S1 (pfT T) i a + 1) * S1x1x1024x512.size a ≤ S2x16x1024x512.size a := by
  intro a
  fin_cases a
  · exact (by decide : (1 + 1) * 1 ≤ 2)
  · exact expert_in _ (T.te_lt _)
  · exact (by decide : (0 + 1) * 1024 ≤ 1024)
  · exact (by decide : (0 + 1) * 512 ≤ 512)

theorem inb_2 (i : grid0.Coords) : ∀ a, (cc0_transform_2 k0_off1_inb numel1_S1 (pfT T) i a + 1) * S1x1x1024x512.size a ≤ S2x16x1024x512.size a := by
  intro a
  fin_cases a
  · exact (by decide : (1 + 1) * 1 ≤ 2)
  · exact expert_in _ (T.te_lt _)
  · exact (by decide : (0 + 1) * 1024 ≤ 1024)
  · exact (by decide : (0 + 1) * 512 ≤ 512)

theorem inb_3 (i : grid0.Coords) : ∀ a, (cc0_transform_3 k0_off1_inb numel1_S1 (pfT T) i a + 1) * S1x1x512x1024.size a ≤ S2x16x512x1024.size a := by
  intro a
  fin_cases a
  · exact (by decide : (1 + 1) * 1 ≤ 2)
  · exact expert_in _ (T.te_lt _)
  · exact (by decide : (0 + 1) * 512 ≤ 512)
  · exact (by decide : (0 + 1) * 1024 ≤ 1024)

/-- Every block the tables lead to lies inside its array. -/
theorem okT : ok0 (F := Ideal) (pfT T) :=
  ⟨fun i => ⟨inb_0 T i, .inr (Affine.block_words_dvd (s := S89088x1152) (p := EltTy.packing .bf16) (by decide) (by decide))⟩,
    fun i => ⟨inb_1 T i, .inl rfl⟩, fun i => ⟨inb_2 T i, .inl rfl⟩, fun i => ⟨inb_3 T i, .inl rfl⟩⟩

/-- The pipeline at the tables. -/
def adm : (pcfg0 (F := Ideal)).Adm := ⟨pfT T, okT T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- The launch memory holds these tables. -/
def Pinned (m : (ℓ : Loc nD τ sig) → Buf (Elt Ideal) ℓ) : Prop :=
  (∀ c : Dev nD, m ((c : Thread nD τ).loc main_arg0) = T.te)
  ∧ (∀ c : Dev nD, m ((c : Thread nD τ).loc main_arg1) = T.nt)

/-- Point `t`'s coordinates. -/
abbrev crd (t : Fin (cfgA T).N) : (cfgA T).grid.Coords := (cfgA T).grid.coords t

/-- Each window's current staging buffer. -/
abbrev ms0_0 (t : Fin (cfgA T).N) : Memref sig .tc .vmem S512x1152 .bf16 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x1x1024x512 .f32 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x1x1024x512 .f32 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x1x512x1024 .f32 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S512x1024 .bf16 := spec0_4.stage ((cfgA T).slots t (4 : Fin 5))
abbrev hs0_4 (t : Fin (cfgA T).N) : (ms0_4 T t).IsWhole := hstage0_4 (((cfgA T).slots t (4 : Fin 5)).cast nbuf0_4)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## Which path a point takes -/

/-- The point lies past the active tiles. -/
abbrev PB (t : Fin (cfgA T).N) : Prop := k0_cond1 (crd T t) (wN T.nt) = 1#1
/-- The point casts its expert's weights. -/
abbrev PA (t : Fin (cfgA T).N) : Prop := recast (crd T t) T.te T.nt = 1#1

theorem one_bit : ∀ b : BitVec 1,
    (Scalar.cmpi .ne (Scalar.extui (Scalar.xori b 1#1) : BitVec 32) 0#32 = 1#1 ↔ b = 0#1)
    ∧ (Scalar.cmpi .ne (Scalar.extui b : BitVec 32) 0#32 = 1#1 ↔ b = 1#1) := by decide

theorem or_bit : ∀ a b c : BitVec 1, Scalar.cmpi .ne (Scalar.extui (Scalar.andi a (Scalar.ori b c)) : BitVec 32) 0#32 = 1#1
    ↔ a = 1#1 ∧ (b = 1#1 ∨ c = 1#1) := by decide

theorem bit_cases : ∀ b : BitVec 1, b = 0#1 ∨ b = 1#1 := by decide

theorem cond1_iff (i : grid0.Coords) (v : BitVec 32) : k0_cond1 i v = 1#1 ↔ Scalar.cmpi .slt (BitVec.ofNat 32 (i 0).val) v = 0#1 :=
  (one_bit _).1
theorem cond3_iff (i : grid0.Coords) (v : BitVec 32) : k0_cond3 i v = 1#1 ↔ Scalar.cmpi .slt (BitVec.ofNat 32 (i 0).val) v = 1#1 :=
  (one_bit _).2
theorem recast_iff (i : grid0.Coords) (T0 : S174.Idx → BitVec 32) (T1 : S1.Idx → BitVec 32) :
    recast i T0 T1 = 1#1 ↔ Scalar.cmpi .slt (BitVec.ofNat 32 (i 0).val) (wN T1) = 1#1
      ∧ (Scalar.cmpi .eq (BitVec.ofNat 32 (i 0).val) 0#32 = 1#1 ∨ Scalar.cmpi .ne (wC i T0) (wP i T0) = 1#1) :=
  or_bit _ _ _

theorem PB_notA (t : Fin (cfgA T).N) (h : PB T t) : ¬PA T t := fun h' => by
  have a := (cond1_iff _ _).1 h
  have b := ((recast_iff _ _ _).1 h').1
  rw [a] at b; exact absurd b (by decide)
theorem PB_notC (t : Fin (cfgA T).N) (h : PB T t) : ¬(k0_cond3 (crd T t) (wN T.nt) = 1#1) := fun h' => by
  have a := (cond1_iff _ _).1 h
  have b := (cond3_iff _ _).1 h'
  rw [a] at b; exact absurd b (by decide)
theorem notPB_C (t : Fin (cfgA T).N) (h : ¬PB T t) : k0_cond3 (crd T t) (wN T.nt) = 1#1 :=
  (cond3_iff _ _).2 ((bit_cases _).resolve_left fun h' => h ((cond1_iff _ _).2 h'))

theorem points : grid0.N ≤ 174 := by decide +kernel

theorem crd_val (t : Fin (cfgA T).N) : ((crd T t) 0).val = t.val := by
  rw [Pipeline.Grid.coords_val (G := grid0) t 0 (S := 1) (B := 174) (by decide +kernel) rfl, Nat.div_one]
  exact Nat.mod_eq_of_lt (Nat.lt_of_lt_of_le t.isLt points)

theorem active_iff (t : Fin (cfgA T).N) : ¬PB T t ↔ t.val < (wN T.nt).toNat := by
  have hv : (wN T.nt).toNat ≤ 174 := T.nt_le _
  have hi := coord_lt (crd T t)
  have e := slt_small (BitVec.ofNat 32 ((crd T t) 0).val) (wN T.nt) (by rw [word_toNat]; omega) (by omega)
  rw [word_toNat, crd_val] at e
  rw [← e, PB, cond1_iff]
  rcases bit_cases (Scalar.cmpi .slt (BitVec.ofNat 32 ((crd T t) 0).val) (wN T.nt)) with h | h
  · rw [crd_val] at h; rw [crd_val, h]; decide
  · rw [crd_val] at h; rw [crd_val, h]; decide

/-- The first point is active and casts. -/
theorem first_not_PB (t : Fin (cfgA T).N) (h : t.val = 0) : ¬PB T t :=
  (active_iff T t).2 (by rw [h]; exact T.nt_pos _)
theorem first_PA (t : Fin (cfgA T).N) (h : t.val = 0) : PA T t := by
  refine (recast_iff _ _ _).2 ⟨(cond3_iff _ _).1 (notPB_C T t (first_not_PB T t h)), .inl ?_⟩
  rw [crd_val, h]; decide

/-- The output window is stored at every point, -/
theorem idle4 (t : Fin (cfgA T).N) : (cfgA T).idle (4 : Fin 5) ((cfgA T).grid.coords t) = false := by
  have key : ∀ v : BitVec 32, (!(k0_cond1 (crd T t) v == 1#1) && !(k0_cond3 (crd T t) v == 1#1)) = false := fun v => by
    rcases bit_cases (Scalar.cmpi .slt (BitVec.ofNat 32 ((crd T t) 0).val) v) with h | h
    · rw [(cond1_iff _ _).2 h]; rfl
    · rw [(cond3_iff _ _).2 h]; exact Bool.and_false _
  exact key _
/-- and written back at every point. -/
theorem flush4 (t : Fin (cfgA T).N) : ((cfgA T).win (4 : Fin 5)).flush t = true := by
  refine (Pipeline.Window.flush_reads ((cfgA T).win (4 : Fin 5)) rfl (0 : Fin 1) (show 1 < grid0.bound 0 by decide) (show grid0.fixedAfter reads0_4 0 = true by decide +kernel) (fun i i' h => ?_) (P := 1) (m := 0)
    (show grid0.stride 0 = 1 by decide +kernel) rfl t).2 (Nat.mod_one _)
  have e : (BitVec.ofNat 32 (i 0).val).toNat = (BitVec.ofNat 32 (i' 0).val).toNat := congrFun h (0 : Fin 2)
  rw [word_toNat, word_toNat] at e
  exact Fin.ext e

/-! ## What the output block and the scratch buffers hold after each point -/

/-- The three runs at a point. -/
abbrev runAt_A (c : Dev nD) (t : Fin (cfgA T).N) (hb : ¬PB T t) (ha : PA T t) :=
  kernelRun0_A c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb)
abbrev runAt_B (c : Dev nD) (t : Fin (cfgA T).N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (hb : PB T t) :=
  kernelRun0_B c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb (PB_notA T t hb) (PB_notC T t hb)
abbrev runAt_C (c : Dev nD) (t : Fin (cfgA T).N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (hb : ¬PB T t) (ha : ¬PA T t) :=
  runC c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb ha (notPB_C T t hb)

/-- What the output block and the scratch buffers hold after point `t`, from what they held before it. -/
def step0 (c : Dev nD) (t : Fin (cfgA T).N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if hb : PB T t then
    (out0_B_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb (PB_notA T t hb) (PB_notC T t hb),
      (runAt_B T m ρ c t prev hb).2.1, (runAt_B T m ρ c t prev hb).2.2.1, (runAt_B T m ρ c t prev hb).2.2.2.1)
  else if ha : PA T t then
    (out0_A_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb),
      (runAt_A T m ρ c t hb ha).2.1, (runAt_A T m ρ c t hb ha).2.2.1, (runAt_A T m ρ c t hb ha).2.2.2.1)
  else
    (outC c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb ha (notPB_C T t hb),
      (runAt_C T m ρ c t prev hb ha).2.1, (runAt_C T m ρ c t prev hb ha).2.2.1, (runAt_C T m ρ c t prev hb ha).2.2.2.1)

/-- The same along the grid: after point `n`. -/
def traj0 (c : Dev nD) : (n : ℕ) → n < (cfgA T).N → (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)
  | 0, h => step0 T m ρ c ⟨0, h⟩ (default, default, default, default)
  | n + 1, h => step0 T m ρ c ⟨n + 1, h⟩ (traj0 c n (Nat.lt_of_succ_lt h))

/-- Before point `t` (nothing determined before the first). -/
def prev0 (c : Dev nD) (t : Fin (cfgA T).N) : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

theorem step0_B (c : Dev nD) (t : Fin (cfgA T).N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (hb : PB T t) :
    step0 T m ρ c t prev = (out0_B_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb (PB_notA T t hb) (PB_notC T t hb),
      (runAt_B T m ρ c t prev hb).2.1, (runAt_B T m ρ c t prev hb).2.2.1, (runAt_B T m ρ c t prev hb).2.2.2.1) := by
  unfold step0; simp only [dif_pos hb]
theorem step0_A (c : Dev nD) (t : Fin (cfgA T).N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (hb : ¬PB T t) (ha : PA T t) :
    step0 T m ρ c t prev = (out0_A_4 c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb),
      (runAt_A T m ρ c t hb ha).2.1, (runAt_A T m ρ c t hb ha).2.2.1, (runAt_A T m ρ c t hb ha).2.2.2.1) := by
  unfold step0; simp only [dif_neg hb, dif_pos ha]
theorem step0_C (c : Dev nD) (t : Fin (cfgA T).N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (hb : ¬PB T t) (ha : ¬PA T t) :
    step0 T m ρ c t prev = (outC c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) prev.2.1 prev.2.2.1 prev.2.2.2 hb ha (notPB_C T t hb),
      (runAt_C T m ρ c t prev hb ha).2.1, (runAt_C T m ρ c t prev hb ha).2.2.1, (runAt_C T m ρ c t prev hb ha).2.2.2.1) := by
  unfold step0; simp only [dif_neg hb, dif_neg ha]

/-! ## The pipeline's proof data -/

/-- What the buffers held before position `t` of the grid with its end. -/
def prev0T (c : Dev nD) (t : Fin ((cfgA T).N + 1)) : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- The invariant before point `t`: after the first point the scratch buffers hold what the points before left there; the
    body's halves of the tables. -/
def Phi (m : (ℓ : Loc nD τ sig) → Buf (Elt Ideal) ℓ) (ρ : Dev nD → PrngReg) (c : Dev nD) (t : Fin ((cfgA T).N + 1)) : sProp 𝕄 :=
  iprop((∃ a, ⌜t.val ≠ 0 → a = (prev0T T m ρ c t).2.1⌝ ∗ (scM0_0.view.loc (c : Thread nD τ) ↦{fullShare} a)) ∗ (∃ a, ⌜t.val ≠ 0 → a = (prev0T T m ρ c t).2.2.1⌝ ∗ (scM0_1.view.loc (c : Thread nD τ) ↦{fullShare} a)) ∗ (∃ a, ⌜t.val ≠ 0 → a = (prev0T T m ρ c t).2.2.2⌝ ∗ (scM0_2.view.loc (c : Thread nD τ) ↦{fullShare} a)) ∗ (tbM0_0.view.loc (c : Thread nD τ) ↦{fullShare.right} T.te) ∗ (tbM0_1.view.loc (c : Thread nD τ) ↦{fullShare.right} T.nt))

/-- The proof data of the pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt).1
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt).1 := rfl

/-- Each input window holds its block when the body runs. -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds nothing determined: it was written back the point before. -/
theorem fresh4 (t : Fin (cfgA T).N) : (cfgA T).fresh (4 : Fin 5) t.val = true :=
  Pipeline.Cfg.fresh_tab (cfgA T) (4 : Fin 5) (fun _ => true) rfl (fun t => by rw [flush4 T t]; rfl) t.val (Nat.le_of_lt t.isLt)
theorem before0_4 (c : Dev nD) (t : Fin (cfgA T).N) (d) : (dats T m ρ 0 c).before (4 : Fin 5) t d = d := by
  rw [(dats T m ρ 0 c).before_out_traj (4 : Fin 5) rfl (fun _ _ => rfl) (fun t _ hi _ => absurd ((idle4 T t).symm.trans hi) Bool.false_ne_true) t.val t rfl d,
    if_pos (fresh4 T t)]

/-! ## The body at a point -/

/-- The body at point `t` on its staging buffers. -/
abbrev bodyAt0 (t : Fin (cfgA T).N) : Prog (TpuEff nD τ sig (Elt Ideal) Λ₀ .tc) PUnit :=
  cc0_moe_expert_ffn (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _) (Memref.whole cc0_scratch1) (Memref.isWhole_whole _) (Memref.whole cc0_scratch2) (Memref.isWhole_whole _)

set_option maxHeartbeats 8000000 in
/-- From the invariant and the blocks the body at point `t` runs to the invariant at the next point, on whichever path. -/
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i4 := idle4 T t
  have f4 := flush4 T t
  by_cases hb : PB T t
  · have h0 : t.val ≠ 0 := fun h => first_not_PB T t h hb
    rewrite [i4]
    simp only [before0_0, before0_1, before0_2, before0_3, before0_4, after0_0, after0_1, after0_2, after0_3, after0_4, f4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_B T m ρ c t _ hb]
    unfold Phi; simp only [prev0T_castSucc, prev0T_succ, traj0_eq, step0_B T m ρ c t _ hb, Fin.val_castSucc, Fin.val_succ]
    simp only [exists_held h0]
    iintro ⟨⟨HS0, HS1, HS2, HT0, HT1⟩, Ho, ⟨%d0, H0⟩, ⟨%d1, H1⟩, ⟨%d2, H2⟩, ⟨%d3, H3⟩, ⟨%d4, H4⟩⟩
    iapply ((runAt_B T m ρ c t (prev0 T m ρ c t) hb).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; rfl
      isplitl [HS1]
      · iexists _; isplitr; swap
        · iexact HS1
        · ipureintro; intro hn; rfl
      isplitl [HS2]
      · iexists _; isplitr; swap
        · iexact HS2
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _ _ _ _ _)
  by_cases ha : PA T t
  ·
    rewrite [i4]
    simp only [before0_0, before0_1, before0_2, before0_3, before0_4, after0_0, after0_1, after0_2, after0_3, after0_4, f4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_A T m ρ c t _ hb ha]
    unfold Phi; simp only [prev0T_castSucc, prev0T_succ, traj0_eq, step0_A T m ρ c t _ hb ha, Fin.val_castSucc, Fin.val_succ]
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((runAt_A T m ρ c t hb ha).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; rfl
      isplitl [HS1]
      · iexists _; isplitr; swap
        · iexact HS1
        · ipureintro; intro hn; rfl
      isplitl [HS2]
      · iexists _; isplitr; swap
        · iexact HS2
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _ _)
  · have h0 : t.val ≠ 0 := fun h => ha (first_PA T t h)
    rewrite [i4]
    simp only [before0_0, before0_1, before0_2, before0_3, before0_4, after0_0, after0_1, after0_2, after0_3, after0_4, f4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_C T m ρ c t _ hb ha]
    unfold Phi; simp only [prev0T_castSucc, prev0T_succ, traj0_eq, step0_C T m ρ c t _ hb ha, Fin.val_castSucc, Fin.val_succ]
    simp only [exists_held h0]
    iintro ⟨⟨HS0, HS1, HS2, HT0, HT1⟩, Ho, ⟨%d0, H0⟩, ⟨%d1, H1⟩, ⟨%d2, H2⟩, ⟨%d3, H3⟩, ⟨%d4, H4⟩⟩
    iapply ((runAt_C T m ρ c t (prev0 T m ρ c t) hb ha).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; rfl
      isplitl [HS1]
      · iexists _; isplitr; swap
        · iexact HS1
        · ipureintro; intro hn; rfl
      isplitl [HS2]
      · iexists _; isplitr; swap
        · iexact HS2
        · ipureintro; intro hn; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverC c _ _ _ _ _ _ _ _ _ _ _ _ _ _ _ _ _ _ _ _ _ _ _)

/-- The obligation at every point. -/
theorem body_obligation (c : Dev nD) : BodyObligation (dats T m ρ 0 c) (defs₀ (F := Ideal)) Variants.none () Set.univ := fun t => by
  rw [bigSep_W0]
  exact sound_body T m ρ c t

/-! ## The launch -/

/-- The launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- at the end it gives the scratch buffers back. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array at what the pipeline computes, every table unchanged. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- The run from any memory holding these tables. -/
theorem run_main_quiescent (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: the run ends, its arguments unchanged and every semaphore at zero. -/
theorem frame (hp : Pinned T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp.1 c).symm, ((h.1 c).2 1).trans (hp.2 c).symm, ((h.1 c).1 (0 : Fin 5)).trans ((dats T m ρ 0 c).arrAt_in (0 : Fin 5) rfl _), ((h.1 c).1 (1 : Fin 5)).trans ((dats T m ρ 0 c).arrAt_in (1 : Fin 5) rfl _), ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩)
    (run_main_quiescent T m ρ hp)

end Cert.FfnIdeal.Hand

end
-- ==== Proof.FfnCell.lean ====
/- What one tile of the experts holds: an entry of the result from a row of the tile, its tag columns and an expert's
   three weight matrices; and that the kernel's payloads compute it. -/
module

public import proofs.«01_k».proof.Proof.Gen.FfnIdeal.Skeleton
public import Idealize.ShloMosaic.Lib.Pipeline.ValueKit

@[expose] public section

set_option maxRecDepth 16384

noncomputable section

namespace Cert.FfnIdeal.Hand

open Cert.FfnIdeal Cert.FfnIdeal.Gen
open Idealize.ShloMosaic Idealize.ShloMosaic.TcCoe Idealize.SL.Sem

/-- The combine weight of a row for expert `e`, from the row's tag columns: the parts of the first choice where its expert
    is `e`, else those of the second. -/
def weight (e : BitVec 32) (tg : Fin 128 → EReal) : EReal :=
  Scalar.select (Ideal.cmp .oeq (tg 6) ((e.toInt : ℝ) : EReal)) (tg 0 + tg 1 + tg 2) (tg 3 + tg 4 + tg 5)

/-- One entry of a tile's result: the gated product of a row with two matrices, weighted, against a column of the third. -/
def cell (e : BitVec 32) (r : Fin 1024 → EReal) (tg : Fin 128 → EReal) (g u : Fin 1024 → Fin 512 → EReal) (d : Fin 512 → EReal) : EReal :=
  ∑ f : Fin 512, (∑ k : Fin 1024, r k * g k f) * Ideal.logistic (∑ k : Fin 1024, r k * g k f) * (∑ k : Fin 1024, r k * u k f)
    * weight e tg * d f

/-- The payloads of the first half of the rows compute such entries, -/
theorem first_half (e : BitVec 32) (x : Vec Ideal S256x1024 .bf16) (tg : Vec Ideal S256x128 .bf16) (g u : Vec Ideal S1024x512 .bf16)
    (d : Vec Ideal S512x1024 .bf16) (y : S256x1024.Idx) :
    k0_pay5 (F := Ideal) (k0_pay9 (F := Ideal) e x g x u tg) d y
      = cell e (fun k => x (ix2 (y 0) k)) (fun j => tg (ix2 (y 0) j)) (fun k f => g (ix2 k f)) (fun k f => u (ix2 k f)) (fun f => d (ix2 f (y 1))) := by
  pointwise [k0_pay5, k0_pay9, cell, weight]

/-- and so do those of the second half. -/
theorem second_half (e : BitVec 32) (x : Vec Ideal S256x1024 .bf16) (tg : Vec Ideal S256x128 .bf16) (g u : Vec Ideal S1024x512 .bf16)
    (d : Vec Ideal S512x1024 .bf16) (y : S256x1024.Idx) :
    k0_pay6 (F := Ideal) e (k0_pay7 (F := Ideal) x g) (k0_pay8 (F := Ideal) x u) tg d y
      = cell e (fun k => x (ix2 (y 0) k)) (fun j => tg (ix2 (y 0) j)) (fun k f => g (ix2 k f)) (fun k f => u (ix2 k f)) (fun f => d (ix2 f (y 1))) := by
  pointwise [k0_pay6, k0_pay7, k0_pay8, cell, weight]

/-- The weights cast at a change of expert are the expert's own. -/
theorem cast_gate (w : Vec Ideal S1x1x1024x512 .f32) (k : Fin 1024) (f : Fin 512) : k0_pay2 (F := Ideal) w (ix2 k f) = w (ix4 0 0 k f) := by
  pointwise [k0_pay2]
  blk_ext
theorem cast_up (w : Vec Ideal S1x1x1024x512 .f32) (k : Fin 1024) (f : Fin 512) : k0_pay3 (F := Ideal) w (ix2 k f) = w (ix4 0 0 k f) := by
  pointwise [k0_pay3]
  blk_ext
theorem cast_down (w : Vec Ideal S1x1x512x1024 .f32) (f : Fin 512) (d : Fin 1024) : k0_pay4 (F := Ideal) w (ix2 f d) = w (ix4 0 0 f d) := by
  pointwise [k0_pay4]
  blk_ext

/-- A tile past the active ones holds zeros. -/
theorem idle_zero (y : S512x1024.Idx) : k0_pay1 (F := Ideal) y = (0 : EReal) := by
  pointwise [k0_pay1]

end Cert.FfnIdeal.Hand

end

end
-- ==== Proof.FfnTile.lean ====
/- What the expert kernel's body leaves at a point, read at an index: the tile's entries when the point is active, from the
   point's row block and the weights its scratch buffers hold; zeros when it is not. -/
module

public import proofs.«01_k».proof.Proof.FfnIdealFrame
public import proofs.«01_k».proof.Proof.FfnCell
public import Idealize.ShloMosaic.Lib.Pipeline.ValueKit
public import Idealize.ShloMosaic.Lib.VecWindow

@[expose] public section

set_option maxRecDepth 16384

noncomputable section

namespace Cert.FfnIdeal.Hand

open Cert.FfnIdeal Cert.FfnIdeal.Gen
open Idealize.ShloMosaic Idealize.ShloMosaic.TcCoe Idealize.SL.Sem
open Idealize.ShloMosaic.Pipeline (Dat)

/-- An entry of the block, from a row block and three matrices. -/
abbrev entry (e : BitVec 32) (x0 : Vec Ideal S512x1152 .bf16) (g u : Vec Ideal S1024x512 .bf16) (d : Vec Ideal S512x1024 .bf16)
    (y : S512x1024.Idx) : EReal :=
  cell e (fun k => x0 (ix2 (y 0) ⟨k.val, by omega⟩)) (fun j => x0 (ix2 (y 0) ⟨1024 + j.val, by omega⟩)) (fun k f => g (ix2 k f))
    (fun k f => u (ix2 k f)) (fun f => d (ix2 f (y 1)))

/-- The entry depends on its row, tag, weights and column alone. -/
theorem cell_congr {e : BitVec 32} {r r' : Fin 1024 → EReal} {t t' : Fin 128 → EReal} {g g' u u' : Fin 1024 → Fin 512 → EReal}
    {d d' : Fin 512 → EReal} (hr : ∀ k, r k = r' k) (ht : ∀ j, t j = t' j) (hg : ∀ k f, g k f = g' k f) (hu : ∀ k f, u k f = u' k f)
    (hd : ∀ f, d f = d' f) : cell e r t g u d = cell e r' t' g' u' d' := by
  obtain rfl : r = r' := funext hr
  obtain rfl : t = t' := funext ht
  obtain rfl : g = g' := funext fun k => funext (hg k)
  obtain rfl : u = u' := funext fun k => funext (hu k)
  obtain rfl : d = d' := funext hd
  rfl

/-- A row of a part of the row block is a row of the block. -/
theorem part_row (arg3 : Memref sig .tc .vmem S512x1152 .bf16) (x0 : Vec Ideal S512x1152 .bf16) {off size : Fin 2 → ℕ}
    (inb : ∀ a, off a + size a ≤ S512x1152.size a) (i : (⟨2, size⟩ : Shape).Idx) (r : Fin 512) (k : Fin 1152)
    (h0 : r.val = off 0 + (i 0).val) (h1 : k.val = off 1 + (i 1).val) :
    View.readAt (Elt Ideal) arg3.view (Rect.unit (s := S512x1152) off size inb).toLoadRect (arg3.view.rep x0) i = x0 (ix2 r k) := by
  rw [View.readAt_rep]
  refine congrArg x0 (funext fun a => Fin.ext ?_)
  match a with
  | ⟨0, _⟩ => show off 0 + 1 * (i 0).val = r.val; omega
  | ⟨1, _⟩ => show off 1 + 1 * (i 1).val = k.val; omega

/-- The two stores of an active point hold the tile's entries. -/
theorem tile (arg3 : Memref sig .tc .vmem S512x1152 .bf16) (e : BitVec 32) (x0 : Vec Ideal S512x1152 .bf16) (g u : Vec Ideal S1024x512 .bf16)
    (d : Vec Ideal S512x1024 .bf16) (y : S512x1024.Idx) :
    View.canon (Val := Elt Ideal) (s := S512x1024) (e := .bf16) [⟨Rect.unit ![256, 0] S256x1024.size inb_S512x1024_S256x1024_256_0,
        k0_pay6 (F := Ideal) e
          (k0_pay7 (F := Ideal) (View.readAt (Elt Ideal) arg3.view (Rect.unit (s := S512x1152) ![256, 0] S256x1024.size inb_S512x1152_S256x1024_256_0).toLoadRect (arg3.view.rep x0)) g)
          (k0_pay8 (F := Ideal) (View.readAt (Elt Ideal) arg3.view (Rect.unit (s := S512x1152) ![256, 0] S256x1024.size inb_S512x1152_S256x1024_256_0).toLoadRect (arg3.view.rep x0)) u)
          (View.readAt (Elt Ideal) arg3.view (Rect.unit (s := S512x1152) ![256, 1024] S256x128.size inb_S512x1152_S256x128_256_1024).toLoadRect (arg3.view.rep x0)) d⟩,
      ⟨Rect.unit ![0, 0] S256x1024.size inb_S512x1024_S256x1024_0_0,
        k0_pay5 (F := Ideal) (k0_pay9 (F := Ideal) e
          (View.readAt (Elt Ideal) arg3.view (Rect.unit (s := S512x1152) ![0, 0] S256x1024.size inb_S512x1152_S256x1024_0_0).toLoadRect (arg3.view.rep x0)) g
          (View.readAt (Elt Ideal) arg3.view (Rect.unit (s := S512x1152) ![0, 0] S256x1024.size inb_S512x1152_S256x1024_0_0).toLoadRect (arg3.view.rep x0)) u
          (View.readAt (Elt Ideal) arg3.view (Rect.unit (s := S512x1152) ![0, 1024] S256x128.size inb_S512x1152_S256x128_0_1024).toLoadRect (arg3.view.rep x0))) d⟩] y
      = entry e x0 g u d y := by
  canon_tiles x h
  · refine (second_half e _ _ g u d _).trans ?_
    refine cell_congr (fun k => part_row arg3 x0 _ _ (y 0) ⟨k.val, by omega⟩ h0 (Nat.zero_add _).symm)
      (fun j => part_row arg3 x0 _ _ (y 0) ⟨1024 + j.val, by omega⟩ h0 rfl) (fun _ _ => rfl) (fun _ _ => rfl)
      (fun f => congrArg (fun z => d (ix2 f z)) (Fin.ext h1.symm))
  · refine (first_half e _ _ g u d _).trans ?_
    refine cell_congr (fun k => part_row arg3 x0 _ _ (y 0) ⟨k.val, by omega⟩ (h0.trans (Nat.zero_add _).symm) (Nat.zero_add _).symm)
      (fun j => part_row arg3 x0 _ _ (y 0) ⟨1024 + j.val, by omega⟩ (h0.trans (Nat.zero_add _).symm) rfl) (fun _ _ => rfl)
      (fun _ _ => rfl) (fun f => congrArg (fun z => d (ix2 f z)) (Fin.ext h1.symm))

/-! ## The three runs -/

variable (c : Dev nD) (i : grid0.Coords) (arg3 : Memref sig .tc .vmem S512x1152 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole)
  (T0 : S174.Idx → Elt Ideal .i32) (T1 : S1.Idx → Elt Ideal .i32)
  (x0 : S512x1152.Idx → Elt Ideal .bf16) (x1 : S1x1x1024x512.Idx → Elt Ideal .f32) (x2 : S1x1x1024x512.Idx → Elt Ideal .f32) (x3 : S1x1x512x1024.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

/-- What the first scratch buffer holds, read as the gate weights; -/
abbrev gateOf : Vec Ideal S1024x512 .bf16 := scM0_0.view.read (Elt Ideal) xa0
/-- the second, as the up weights; -/
abbrev upOf : Vec Ideal S1024x512 .bf16 := scM0_1.view.read (Elt Ideal) xa1
/-- the third, as the down weights. -/
abbrev downOf : Vec Ideal S512x1024 .bf16 := scM0_2.view.read (Elt Ideal) xa2

section A
variable (h1 : ¬(k0_cond1 i (wN T1) = 1#1)) (h2 : recast i T0 T1 = 1#1) (h3 : k0_cond3 i (wN T1) = 1#1)

/-- After a point that casts, the scratch buffers hold the cast of the point's weight blocks. -/
theorem gate_A : gateOf c (kernelRun0_A c i arg3 harg3 arg4 harg4 arg5 harg5 arg6 harg6 arg7 harg7 T0 T1 x0 x1 x2 x3 h1 h2 h3).2.1 = k0_pay2 (F := Ideal) x1 := by
  have e : (kernelRun0_A c i arg3 harg3 arg4 harg4 arg5 harg5 arg6 harg6 arg7 harg7 T0 T1 x0 x1 x2 x3 h1 h2 h3).2.1
      = scM0_0.view.writes (Elt Ideal) scM0_0.view.junk (kernelRun0_A.sl.HS0_1 arg4 x1) := by
    unfold kernelRun0_A; dsimp only
  rw [gateOf, e]; unfold kernelRun0_A.sl.HS0_1
  exact (View.read_writes_full _ _ _ _ _).trans (congrArg (k0_pay2 (F := Ideal)) (View.readAt_rep_full _ _ _))
theorem up_A : upOf c (kernelRun0_A c i arg3 harg3 arg4 harg4 arg5 harg5 arg6 harg6 arg7 harg7 T0 T1 x0 x1 x2 x3 h1 h2 h3).2.2.1 = k0_pay3 (F := Ideal) x2 := by
  have e : (kernelRun0_A c i arg3 harg3 arg4 harg4 arg5 harg5 arg6 harg6 arg7 harg7 T0 T1 x0 x1 x2 x3 h1 h2 h3).2.2.1
      = scM0_1.view.writes (Elt Ideal) scM0_1.view.junk (kernelRun0_A.sl.HS1_1 arg5 x2) := by
    unfold kernelRun0_A; dsimp only
  rw [upOf, e]; unfold kernelRun0_A.sl.HS1_1
  exact (View.read_writes_full _ _ _ _ _).trans (congrArg (k0_pay3 (F := Ideal)) (View.readAt_rep_full _ _ _))
theorem down_A : downOf c (kernelRun0_A c i arg3 harg3 arg4 harg4 arg5 harg5 arg6 harg6 arg7 harg7 T0 T1 x0 x1 x2 x3 h1 h2 h3).2.2.2.1 = k0_pay4 (F := Ideal) x3 := by
  have e : (kernelRun0_A c i arg3 harg3 arg4 harg4 arg5 harg5 arg6 harg6 arg7 harg7 T0 T1 x0 x1 x2 x3 h1 h2 h3).2.2.2.1
      = scM0_2.view.writes (Elt Ideal) scM0_2.view.junk (kernelRun0_A.sl.HS2_1 arg6 x3) := by
    unfold kernelRun0_A; dsimp only
  rw [downOf, e]; unfold kernelRun0_A.sl.HS2_1
  exact (View.read_writes_full _ _ _ _ _).trans (congrArg (k0_pay4 (F := Ideal)) (View.readAt_rep_full _ _ _))

/-- Its block holds the tile's entries under those weights. -/
theorem out_A (y : S512x1024.Idx) : out0_A_4 c i arg3 harg3 arg4 harg4 arg5 harg5 arg6 harg6 arg7 harg7 T0 T1 x0 x1 x2 x3 h1 h2 h3 y
    = entry (wC i T0) x0 (k0_pay2 (F := Ideal) x1) (k0_pay3 (F := Ideal) x2) (k0_pay4 (F := Ideal) x3) y := by
  unfold out0_A_4
  rw [View.read_writes_junk_eq_canon]
  have e0 : kernelRun0_A.sl.v20 arg4 x1 = k0_pay2 (F := Ideal) x1 :=
    (View.readCov_full _ _ _ _ _).trans (congrArg (k0_pay2 (F := Ideal)) (View.readAt_rep_full _ _ _))
  have e1 : kernelRun0_A.sl.v23 arg5 x2 = k0_pay3 (F := Ideal) x2 :=
    (View.readCov_full _ _ _ _ _).trans (congrArg (k0_pay3 (F := Ideal)) (View.readAt_rep_full _ _ _))
  have e2 : kernelRun0_A.sl.v54 arg6 x3 = k0_pay4 (F := Ideal) x3 :=
    (View.readCov_full _ _ _ _ _).trans (congrArg (k0_pay4 (F := Ideal)) (View.readAt_rep_full _ _ _))
  rw [← tile arg3, ← e0, ← e1, ← e2]
  rfl
end A

section B
variable (h1 : k0_cond1 i (wN T1) = 1#1) (h2 : ¬(recast i T0 T1 = 1#1)) (h3 : ¬(k0_cond3 i (wN T1) = 1#1))

/-- Past the active tiles the block is zero. -/
theorem out_B (y : S512x1024.Idx) : out0_B_4 c i arg3 harg3 arg4 harg4 arg5 harg5 arg6 harg6 arg7 harg7 T0 T1 x0 x1 x2 x3 xa0 xa1 xa2 h1 h2 h3 y = (0 : EReal) := by
  unfold out0_B_4
  exact (congrFun (View.read_writes_full _ _ _ _ _) y).trans (idle_zero y)
end B

section C
variable (h1 : ¬(k0_cond1 i (wN T1) = 1#1)) (h2 : ¬(recast i T0 T1 = 1#1)) (h3 : k0_cond3 i (wN T1) = 1#1)

/-- A point that casts nothing leaves the scratch buffers as they were. -/
theorem gate_C : (runC c i arg3 harg3 arg4 harg4 arg5 harg5 arg6 harg6 arg7 harg7 T0 T1 x0 x1 x2 x3 xa0 xa1 xa2 h1 h2 h3).2.1 = xa0 := rfl
theorem up_C : (runC c i arg3 harg3 arg4 harg4 arg5 harg5 arg6 harg6 arg7 harg7 T0 T1 x0 x1 x2 x3 xa0 xa1 xa2 h1 h2 h3).2.2.1 = xa1 := rfl
theorem down_C : (runC c i arg3 harg3 arg4 harg4 arg5 harg5 arg6 harg6 arg7 harg7 T0 T1 x0 x1 x2 x3 xa0 xa1 xa2 h1 h2 h3).2.2.2.1 = xa2 := rfl

/-- Its block holds the tile's entries under the weights they hold. -/
theorem out_C (y : S512x1024.Idx) : outC c i arg3 harg3 arg4 harg4 arg5 harg5 arg6 harg6 arg7 harg7 T0 T1 x0 x1 x2 x3 xa0 xa1 xa2 h1 h2 h3 y
    = entry (wC i T0) x0 (gateOf c xa0) (upOf c xa1) (downOf c xa2) y := by
  unfold outC
  rw [View.read_writes_junk_eq_canon]
  have e0 := View.readAt_full (Val := Elt Ideal) scM0_0.view xa0 inb_S1024x512_S1024x512_0_0
  have e1 := View.readAt_full (Val := Elt Ideal) scM0_1.view xa1 inb_S1024x512_S1024x512_0_0
  have e2 := View.readAt_full (Val := Elt Ideal) scM0_2.view xa2 inb_S512x1024_S512x1024_0_0
  rw [← tile arg3, gateOf, upOf, downOf, ← e0, ← e1, ← e2]
  rfl
end C

end Cert.FfnIdeal.Hand

end

end
-- ==== Proof.FfnRead.lean ====
/- The reference of the experts, read at an index: an entry of an active tile is that tile's row against its expert's
   matrices, an entry of a tile past them is zero. -/
module

public import proofs.«01_k».proof.Proof.Gen.FfnRefIdeal.Read
public import proofs.«01_k».proof.Proof.FfnCell
public import Idealize.ShloMosaic.Lib.Pipeline.ValueKit

@[expose] public section

set_option maxRecDepth 16384

noncomputable section

namespace Cert.FfnRefIdeal.Hand

open Cert.FfnRefIdeal Cert.FfnRefIdeal.Gen Cert.FfnRefIdeal.Read
open Idealize.ShloMosaic Idealize.ShloMosaic.TcCoe Idealize.SL.Sem
open Cert.FfnIdeal.Hand (cell weight)

/-- A gather along the first axis of a rank-3 array, one index per slice, read at an index. -/
theorem gather_slice {N R A B : ℕ} (d : GatherDims ⟨3, ![N, A, B]⟩ ⟨2, ![R, 1]⟩ ⟨3, ![R, A, B]⟩)
    (h1 : d.offsetDims = [1, 2]) (h2 : d.collapsedSliceDims = [0]) (h3 : d.operandBatchingDims = []) (h4 : d.startIndicesBatchingDims = [])
    (h5 : d.startIndexMap = [0]) (h6 : d.indexVectorDim = 1) (h7 : d.sliceSizes = ![1, A, B])
    (x : (⟨3, ![N, A, B]⟩ : Shape).Idx → EReal) (idx : IVec ⟨2, ![R, 1]⟩ 32) (t : Fin R) (a : Fin A) (b : Fin B) (e : Fin N)
    (he : min (idx (ix2 t 0)).toInt.toNat (N - 1) = e.val) :
    Host.gather d x idx (ix3 t a b) = x (ix3 e a b) := by
  obtain ⟨o, cs, ob, sb, sm, iv, ss, wf⟩ := d
  simp only at h1 h2 h3 h4 h5 h6 h7
  subst h1 h2 h3 h4 h5 h6 h7
  unfold Host.gather
  refine congrArg x (funext fun z => Fin.ext ?_)
  set D : GatherDims ⟨3, ![N, A, B]⟩ ⟨2, ![R, 1]⟩ ⟨3, ![R, A, B]⟩ := ⟨[1, 2], [0], [], [], [0], 1, ![1, A, B], wf⟩ with hD
  show D.start (ix3 t a b) idx z + D.batchCoord (ix3 t a b) z + D.offCoord (ix3 t a b) z = _
  rw [GatherDims.batchCoord_eq_zero _ _ _ List.not_mem_nil, Nat.add_zero]
  have hz : z = 0 ∨ z = 1 ∨ z = 2 := by
    match z with
    | ⟨0, _⟩ => exact .inl rfl
    | ⟨1, _⟩ => exact .inr (.inl rfl)
    | ⟨2, _⟩ => exact .inr (.inr rfl)
  rcases hz with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ D.startIndexMap from List.mem_singleton.mpr rfl)]
    have hsi : D.siIdx (ix3 t a b) ⟨List.idxOf (0 : Fin 3) D.startIndexMap, List.idxOf_lt_length_iff.2 (List.mem_singleton.mpr rfl)⟩ = ix2 t 0 := by
      funext q; refine Fin.ext ?_
      match q with
      | ⟨0, _⟩ => rfl
      | ⟨1, _⟩ => rfl
    rw [hsi]
    exact he
  · unfold GatherDims.start
    rw [dif_neg (show ¬(1 : Fin 3) ∈ D.startIndexMap from by simp [hD]), Nat.zero_add]
    rfl
  · unfold GatherDims.start
    rw [dif_neg (show ¬(2 : Fin 3) ∈ D.startIndexMap from by simp [hD]), Nat.zero_add]
    rfl

variable (te : IVec S174 32) (nt : IVec S1 32) (xs : Vec Ideal S89088x1152 .bf16)
  (wg wu : Vec Ideal S2x16x1024x512 .f32) (wd : Vec Ideal S2x16x512x1024 .f32)

/-- The row of the gathered array that row `r` of tile `t` is. -/
abbrev row (t : Fin 174) (r : Fin 512) : Fin 89088 := ⟨t.val * 512 + r.val, by omega⟩

theorem one_bits : Ideal.ofBits FTy.f32 0x3F800000#32 = (1 : EReal) := by simp
theorem zero_bits : Ideal.ofBits FTy.f32 0x00000000#32 = (0 : EReal) := by simp

/-- A token entry of a tile, -/
theorem token (t : Fin 174) (r : Fin 512) (k : Fin 1024) :
    val_main_v2 (F := Ideal) xs (ix3 t r k) = xs (ix2 (row t r) ⟨k.val, by omega⟩) := by
  rw [val_main_v2_apply, val_main_v1_apply, val_main_v0_apply]
  refine congrArg xs (funext fun a => Fin.ext ?_)
  have ht := t.isLt; have hr := r.isLt; have hk := k.isLt
  match a with
  | ⟨0, _⟩ => show ((t.val * 512 + r.val) * 1152 + k.val) / 1152 = t.val * 512 + r.val; omega
  | ⟨1, _⟩ => show ((t.val * 512 + r.val) * 1152 + k.val) % 1152 = k.val; omega

/-- and a tag entry. -/
theorem tag (t : Fin 174) (r : Fin 512) (j : Fin 128) :
    val_main_v3 (F := Ideal) xs (ix3 t r j) = xs (ix2 (row t r) ⟨1024 + j.val, by omega⟩) := by
  rw [val_main_v3_apply, val_main_v1_apply, val_main_v0_apply]
  refine congrArg xs (funext fun a => Fin.ext ?_)
  have ht := t.isLt; have hr := r.isLt; have hj := j.isLt
  match a with
  | ⟨0, _⟩ => show ((t.val * 512 + r.val) * 1152 + (1024 + j.val)) / 1152 = t.val * 512 + r.val; omega
  | ⟨1, _⟩ => show ((t.val * 512 + r.val) * 1152 + (1024 + j.val)) % 1152 = 1024 + j.val; omega

/-- A small word read as an index: not wrapped, not clamped. -/
theorem small_index (v : BitVec 32) (h : v.toNat < 16) :
    min (Scalar.select (IntOp.cmpi .slt v 0#32) (IntOp.addi v 16#32) v).toInt.toNat (16 - 1) = v.toNat := by
  have hi : v.toInt = v.toNat := by rw [BitVec.toInt_eq_toNat_cond, if_pos (by omega)]
  have hc : IntOp.cmpi .slt v 0#32 = 0#1 := by
    have e : IntOp.cmpi .slt v 0#32 = BitVec.ofBool (v.slt 0#32) := rfl
    rw [e, BitVec.slt_eq_decide, hi]
    have : ¬((v.toNat : ℤ) < (0#32 : BitVec 32).toInt) := by simp
    rw [decide_eq_false this]; rfl
  rw [hc]
  show min (v.toInt.toNat) 15 = v.toNat
  rw [hi]; simp; omega

/-- The index a tile gathers with. -/
theorem index_11 (t : Fin 174) : val_main_v11 (F := Ideal) te (ix2 t 0) = Scalar.select (IntOp.cmpi .slt (te (ix1 t)) 0#32) (IntOp.addi (te (ix1 t)) 16#32) (te (ix1 t)) := by
  have ei : idx_main_v11 (ix2 t 0) = ix1 t := funext fun a => Fin.ext (match a with | ⟨0, _⟩ => rfl)
  rw [val_main_v11_apply, ei]
  rfl
theorem index_20 (t : Fin 174) : val_main_v20 (F := Ideal) te (ix2 t 0) = Scalar.select (IntOp.cmpi .slt (te (ix1 t)) 0#32) (IntOp.addi (te (ix1 t)) 16#32) (te (ix1 t)) := by
  have ei : idx_main_v20 (ix2 t 0) = ix1 t := funext fun a => Fin.ext (match a with | ⟨0, _⟩ => rfl)
  rw [val_main_v20_apply, ei]
  rfl
theorem index_29 (t : Fin 174) : val_main_v29 (F := Ideal) te (ix2 t 0) = Scalar.select (IntOp.cmpi .slt (te (ix1 t)) 0#32) (IntOp.addi (te (ix1 t)) 16#32) (te (ix1 t)) := by
  have ei : idx_main_v29 (ix2 t 0) = ix1 t := funext fun a => Fin.ext (match a with | ⟨0, _⟩ => rfl)
  rw [val_main_v29_apply, ei]
  rfl

theorem lidx_31 (t : Fin 174) (r f : Fin 512) (k : Fin 1024) : lidx_main_v31 (ix3 t r f) k = ix3 t r k :=
  funext fun a => Fin.ext (match a with | ⟨0, _⟩ => rfl | ⟨1, _⟩ => rfl | ⟨2, _⟩ => rfl)
theorem ridx_31 (t : Fin 174) (r f : Fin 512) (k : Fin 1024) : ridx_main_v31 (ix3 t r f) k = ix3 t k f :=
  funext fun a => Fin.ext (match a with | ⟨0, _⟩ => rfl | ⟨1, _⟩ => rfl | ⟨2, _⟩ => rfl)
theorem lidx_32 (t : Fin 174) (r f : Fin 512) (k : Fin 1024) : lidx_main_v32 (ix3 t r f) k = ix3 t r k :=
  funext fun a => Fin.ext (match a with | ⟨0, _⟩ => rfl | ⟨1, _⟩ => rfl | ⟨2, _⟩ => rfl)
theorem ridx_32 (t : Fin 174) (r f : Fin 512) (k : Fin 1024) : ridx_main_v32 (ix3 t r f) k = ix3 t k f :=
  funext fun a => Fin.ext (match a with | ⟨0, _⟩ => rfl | ⟨1, _⟩ => rfl | ⟨2, _⟩ => rfl)
theorem lidx_61 (t : Fin 174) (r f : Fin 512) (d : Fin 1024) : lidx_main_v61 (ix3 t r d) f = ix3 t r f :=
  funext fun a => Fin.ext (match a with | ⟨0, _⟩ => rfl | ⟨1, _⟩ => rfl | ⟨2, _⟩ => rfl)
theorem ridx_61 (t : Fin 174) (r f : Fin 512) (d : Fin 1024) : ridx_main_v61 (ix3 t r d) f = ix3 t f d :=
  funext fun a => Fin.ext (match a with | ⟨0, _⟩ => rfl | ⟨1, _⟩ => rfl | ⟨2, _⟩ => rfl)
theorem idx_58 (t : Fin 174) (r f : Fin 512) : idx_main_v58 (idx_main_v59 (ix3 t r f)) = ix2 t r :=
  funext fun a => Fin.ext (match a with | ⟨0, _⟩ => rfl | ⟨1, _⟩ => rfl)
theorem idx_37 (t : Fin 174) (r : Fin 512) : idx_main_v36 (idx_main_v37 (ix2 t r)) = ix1 t :=
  funext fun a => Fin.ext (match a with | ⟨0, _⟩ => rfl)

variable (hte : ∀ x, (te x).toNat < 16)
include hte

/-- The gate matrix a tile takes is its expert's, -/
theorem gate_of (t : Fin 174) (k : Fin 1024) (f : Fin 512) :
    val_main_v12 (F := Ideal) te wg (ix3 t k f) = wg (ix4 1 ⟨(te (ix1 t)).toNat, hte _⟩ k f) := by
  unfold val_main_v12
  rw [gather_slice _ rfl rfl rfl rfl rfl rfl rfl _ _ t k f ⟨(te (ix1 t)).toNat, hte _⟩ (by rw [index_11]; exact small_index _ (hte _)), val_main_v5_apply, val_main_v4_apply]
  refine congrArg wg (funext fun a => Fin.ext ?_)
  have h := hte (ix1 t); have hk := k.isLt; have hf := f.isLt
  match a with
  | ⟨0, _⟩ => rfl
  | ⟨1, _⟩ => show (((te (ix1 t)).toNat * 1024 + k.val) * 512 + f.val) / 524288 % 16 = (te (ix1 t)).toNat; omega
  | ⟨2, _⟩ => show (((te (ix1 t)).toNat * 1024 + k.val) * 512 + f.val) / 512 % 1024 = k.val; omega
  | ⟨3, _⟩ => show (((te (ix1 t)).toNat * 1024 + k.val) * 512 + f.val) % 512 = f.val; omega

/-- so is the up matrix, -/
theorem up_of (t : Fin 174) (k : Fin 1024) (f : Fin 512) :
    val_main_v21 (F := Ideal) te wu (ix3 t k f) = wu (ix4 1 ⟨(te (ix1 t)).toNat, hte _⟩ k f) := by
  unfold val_main_v21
  rw [gather_slice _ rfl rfl rfl rfl rfl rfl rfl _ _ t k f ⟨(te (ix1 t)).toNat, hte _⟩ (by rw [index_20]; exact small_index _ (hte _)), val_main_v14_apply, val_main_v13_apply]
  refine congrArg wu (funext fun a => Fin.ext ?_)
  have h := hte (ix1 t); have hk := k.isLt; have hf := f.isLt
  match a with
  | ⟨0, _⟩ => rfl
  | ⟨1, _⟩ => show (((te (ix1 t)).toNat * 1024 + k.val) * 512 + f.val) / 524288 % 16 = (te (ix1 t)).toNat; omega
  | ⟨2, _⟩ => show (((te (ix1 t)).toNat * 1024 + k.val) * 512 + f.val) / 512 % 1024 = k.val; omega
  | ⟨3, _⟩ => show (((te (ix1 t)).toNat * 1024 + k.val) * 512 + f.val) % 512 = f.val; omega

/-- and the down matrix. -/
theorem down_of (t : Fin 174) (f : Fin 512) (d : Fin 1024) :
    val_main_v30 (F := Ideal) te wd (ix3 t f d) = wd (ix4 1 ⟨(te (ix1 t)).toNat, hte _⟩ f d) := by
  unfold val_main_v30
  rw [gather_slice _ rfl rfl rfl rfl rfl rfl rfl _ _ t f d ⟨(te (ix1 t)).toNat, hte _⟩ (by rw [index_29]; exact small_index _ (hte _)), val_main_v23_apply, val_main_v22_apply]
  refine congrArg wd (funext fun a => Fin.ext ?_)
  have h := hte (ix1 t); have hd := d.isLt; have hf := f.isLt
  match a with
  | ⟨0, _⟩ => rfl
  | ⟨1, _⟩ => show (((te (ix1 t)).toNat * 512 + f.val) * 1024 + d.val) / 524288 % 16 = (te (ix1 t)).toNat; omega
  | ⟨2, _⟩ => show (((te (ix1 t)).toNat * 512 + f.val) * 1024 + d.val) / 1024 % 512 = f.val; omega
  | ⟨3, _⟩ => show (((te (ix1 t)).toNat * 512 + f.val) * 1024 + d.val) % 1024 = d.val; omega

/-- A gate entry: a row against a column of the expert's gate matrix. -/
theorem gate_at (t : Fin 174) (r : Fin 512) (f : Fin 512) :
    val_main_v31 (F := Ideal) te xs wg (ix3 t r f)
      = ∑ k : Fin 1024, (xs (ix2 (row t r) ⟨k.val, by omega⟩) : EReal) * (wg (ix4 1 ⟨(te (ix1 t)).toNat, hte _⟩ k f) : EReal) := by
  rw [val_main_v31_apply]
  refine Finset.sum_congr rfl fun k _ => ?_
  rw [lidx_31, ridx_31, token, gate_of te wg hte]

/-- An up entry. -/
theorem up_at (t : Fin 174) (r : Fin 512) (f : Fin 512) :
    val_main_v32 (F := Ideal) te xs wu (ix3 t r f)
      = ∑ k : Fin 1024, (xs (ix2 (row t r) ⟨k.val, by omega⟩) : EReal) * (wu (ix4 1 ⟨(te (ix1 t)).toNat, hte _⟩ k f) : EReal) := by
  rw [val_main_v32_apply]
  refine Finset.sum_congr rfl fun k _ => ?_
  rw [lidx_32, ridx_32, token, up_of te wu hte]

omit hte in
/-- The combine weight of a row. -/
theorem weight_at (t : Fin 174) (r : Fin 512) :
    val_main_v55 (F := Ideal) te xs (ix2 t r) = weight (te (ix1 t)) (fun j => xs (ix2 (row t r) ⟨1024 + j.val, by omega⟩)) := by
  have col : ∀ (j : Fin 128) (i : S174x512x128.Idx), (i 0).val = t.val → (i 1).val = r.val → (i 2).val = j.val →
      val_main_v3 (F := Ideal) xs i = xs (ix2 (row t r) ⟨1024 + j.val, by omega⟩) := fun j i h0 h1 h2 => by
    rw [← tag xs t r j]
    exact congrArg _ (funext fun a => Fin.ext (match a with | ⟨0, _⟩ => h0 | ⟨1, _⟩ => h1 | ⟨2, _⟩ => h2))
  have hr := r.isLt; have ht := t.isLt
  have q0 : (t.val * 512 + r.val) / 512 = t.val := by omega
  have q1 : (t.val * 512 + r.val) / 1 % 512 = r.val := by omega
  rw [val_main_v55_apply, val_main_v38_apply, val_main_v46_apply, val_main_v54_apply, val_main_v43_apply, val_main_v51_apply,
    val_main_v34_apply, val_main_v40_apply, val_main_v42_apply, val_main_v45_apply, val_main_v48_apply, val_main_v50_apply, val_main_v53_apply,
    val_main_v33_apply, val_main_v39_apply, val_main_v41_apply, val_main_v44_apply, val_main_v47_apply, val_main_v49_apply, val_main_v52_apply,
    val_main_v37_apply, val_main_v36_apply, val_main_v35_apply, idx_37,
    col 6 _ q0 q1 rfl, col 0 _ q0 q1 rfl, col 1 _ q0 q1 rfl, col 2 _ q0 q1 rfl, col 3 _ q0 q1 rfl, col 4 _ q0 q1 rfl, col 5 _ q0 q1 rfl]
  rfl

/-- An entry before the mask. -/
theorem cell_at (t : Fin 174) (r : Fin 512) (d : Fin 1024) :
    val_main_v61 (F := Ideal) te xs wg wu wd (ix3 t r d)
      = cell (te (ix1 t)) (fun k => xs (ix2 (row t r) ⟨k.val, by omega⟩)) (fun j => xs (ix2 (row t r) ⟨1024 + j.val, by omega⟩))
          (fun k f => wg (ix4 1 ⟨(te (ix1 t)).toNat, hte _⟩ k f)) (fun k f => wu (ix4 1 ⟨(te (ix1 t)).toNat, hte _⟩ k f))
          (fun f => wd (ix4 1 ⟨(te (ix1 t)).toNat, hte _⟩ f d)) := by
  rw [val_main_v61_apply]
  refine Finset.sum_congr rfl fun f _ => ?_
  have one : FloatOps.ofBits (F := Ideal) .f32 0x3F800000#32 = (1 : EReal) := one_bits
  rw [lidx_61, ridx_61, down_of te wd hte, val_main_v60_apply, val_main_v57_apply, val_main_v56_apply, val_main_call1_v5_apply, val_main_call1_v3_apply,
    val_main_call1_v1_apply, val_main_call1_v0_apply, val_main_call1_v2_apply, val_main_call1_v4_apply, val_main_call1_cst_apply,
    val_main_call1_cst_0_apply, one, gate_at te xs wg hte t r f, up_at te xs wu hte t r f, val_main_v59_apply, val_main_v58_apply, idx_58, weight_at]
  rfl

omit hte in
/-- The mask: a tile is active while its number is below the count. -/
theorem mask_at (hnt : ∀ x, (nt x).toNat ≤ 174) (t : Fin 174) (r : Fin 512) (d : Fin 1024) (z : S1.Idx) :
    val_main_call2_v1 (F := Ideal) nt (ix3 t r d) = if t.val < (nt z).toNat then 1#1 else 0#1 := by
  have e63 : ∀ i, val_main_v63 (F := Ideal) nt i = nt z := fun i => by
    unfold val_main_v63
    exact shapeCast_apply nt shapeCasts_S1_S_ i z (by
      have h : (z 0).val < 1 := (z 0).isLt
      rewrite [Shape.rowMajor_val_one]
      exact (Nat.lt_one_iff.1 h).trans (Nat.lt_one_iff.1 (Shape.rowMajor _ i).isLt).symm)
  rw [val_main_call2_v1_apply, val_main_v66_apply, val_main_v65_apply, val_main_v64_apply, val_main_v62_apply, e63]
  have hz := hnt z; have ht := t.isLt
  have hw : (BitVec.ofNat 32 t.val).toNat = t.val := by rw [BitVec.toNat_ofNat]; exact Nat.mod_eq_of_lt (by omega)
  have e : IntOp.cmpi .slt (BitVec.ofNat 32 t.val) (nt z) = BitVec.ofBool ((BitVec.ofNat 32 t.val).slt (nt z)) := rfl
  have i1 : (BitVec.ofNat 32 t.val).toInt = t.val := by rw [BitVec.toInt_eq_toNat_cond, if_pos (by omega), hw]
  have i2 : (nt z).toInt = (nt z).toNat := by rw [BitVec.toInt_eq_toNat_cond, if_pos (by omega)]
  refine e.trans ?_
  rw [BitVec.slt_eq_decide, i1, i2]
  by_cases h : t.val < (nt z).toNat
  · rw [if_pos h]; simp [h]
  · rw [if_neg h]; simp [h]

/-- An entry of the result. -/
theorem ref_at (hnt : ∀ x, (nt x).toNat ≤ 174) (z : S1.Idx) (t : Fin 174) (r : Fin 512) (d : Fin 1024) :
    val_main_v69 (F := Ideal) te nt xs wg wu wd (ix2 (row t r) d)
      = if t.val < (nt z).toNat then
          cell (te (ix1 t)) (fun k => xs (ix2 (row t r) ⟨k.val, by omega⟩)) (fun j => xs (ix2 (row t r) ⟨1024 + j.val, by omega⟩))
            (fun k f => wg (ix4 1 ⟨(te (ix1 t)).toNat, hte _⟩ k f)) (fun k f => wu (ix4 1 ⟨(te (ix1 t)).toNat, hte _⟩ k f))
            (fun f => wd (ix4 1 ⟨(te (ix1 t)).toNat, hte _⟩ f d))
        else 0 := by
  have hr := r.isLt; have ht := t.isLt; have hd := d.isLt
  have ei : idx_main_v68 (ix2 (row t r) d) = ix3 t r d := funext fun a => Fin.ext (match a with
    | ⟨0, _⟩ => by show ((t.val * 512 + r.val) * 1024 + d.val) / 524288 = t.val; omega
    | ⟨1, _⟩ => by show ((t.val * 512 + r.val) * 1024 + d.val) / 1024 % 512 = r.val; omega
    | ⟨2, _⟩ => by show ((t.val * 512 + r.val) * 1024 + d.val) % 1024 = d.val; omega)
  rw [val_main_v69_apply, val_main_v68_apply, ei, val_main_v67_apply, mask_at nt hnt t r d z, cell_at te xs wg wu wd hte t r d,
    val_main_call2_v2_apply, val_main_call2_v0_apply, val_main_cst_apply]
  by_cases h : t.val < (nt z).toNat
  · rw [if_pos h, if_pos h]; rfl
  · rw [if_neg h, if_neg h]
    have zero : FloatOps.ofBits (F := Ideal) .f32 0x00000000#32 = (0 : EReal) := zero_bits
    rw [zero]; rfl

end Cert.FfnRefIdeal.Hand

end

end
-- ==== Proof.FfnValue.lean ====
/- The value of the experts: what the tiled kernel leaves in its result array is the reference's term of the same arguments,
   at the ideal values. The three scratch buffers hold, after every active point, the cast of that point's own weight
   blocks: a point that casts nothing has the expert of the point before. -/
module

public import proofs.«01_k».proof.Proof.FfnTile
public import proofs.«01_k».proof.Proof.FfnRead

@[expose] public section

set_option maxRecDepth 16384

noncomputable section

namespace Cert.FfnIdeal.Hand

open Cert.FfnIdeal Cert.FfnIdeal.Gen
open Idealize.ShloMosaic Idealize.ShloMosaic.TcCoe Idealize.SL.Sem
open Idealize.ShloMosaic.Pipeline (Dat)
open Cert.FfnRefIdeal.Hand (row)

variable (T : Tab) (m : (ℓ : Loc nD τ sig) → Buf (Elt Ideal) ℓ) (ρ : Dev nD → PrngReg) (c : Dev nD)

/-- A point as the tile it computes. -/
abbrev tl (t : Fin (cfgA T).N) : Fin 174 := ⟨t.val, Nat.lt_of_lt_of_le t.isLt points⟩

/-- A word that counts a point is the point's number, also where the word one less is taken. -/
theorem off1_val (i : grid0.Coords) : k0_off1 i 0 = (i 0).val := word_toNat i
theorem off2_val (i : grid0.Coords) (h : (i 0).val ≠ 0) : k0_off2 i 0 = (i 0).val - 1 := by
  have hi := coord_lt i
  have hs : (BitVec.ofNat 32 (i 0).val - 1#32).toNat = (i 0).val - 1 := by
    rw [BitVec.toNat_sub, word_toNat]; simp only [BitVec.toNat_ofNat]; omega
  show (Scalar.maxsi (BitVec.ofNat 32 (i 0).val - 1#32) 0#32).toNat = (i 0).val - 1
  have e : Scalar.maxsi (BitVec.ofNat 32 (i 0).val - 1#32) 0#32
      = if (0#32).slt (BitVec.ofNat 32 (i 0).val - 1#32) then BitVec.ofNat 32 (i 0).val - 1#32 else 0#32 := rfl
  rw [e]
  split
  · exact hs
  · rename_i h'
    rw [BitVec.slt_eq_decide, toInt_small (BitVec.ofNat 32 (i 0).val - 1#32) (by rw [hs]; omega), hs] at h'
    have h0 : (0#32).toInt = 0 := by decide
    have hz : (0#32).toNat = 0 := by decide
    rw [h0, decide_eq_true_eq] at h'
    rw [hz]; omega

/-- The expert word a point reads is its tile's, -/
theorem wC_eq (t : Fin (cfgA T).N) : wC (crd T t) T.te = T.te (ix1 (tl T t)) := by
  refine congrArg T.te (funext fun a => Fin.ext ?_)
  match a with
  | ⟨0, _⟩ =>
    show k0_off1 (crd T t) 0 + 1 * 0 = t.val
    rw [off1_val, crd_val]; omega
/-- and the other one that of the tile before. -/
theorem wP_eq (t s : Fin (cfgA T).N) (h : t.val = s.val + 1) : wP (crd T t) T.te = T.te (ix1 (tl T s)) := by
  refine congrArg T.te (funext fun a => Fin.ext ?_)
  match a with
  | ⟨0, _⟩ =>
    show k0_off2 (crd T t) 0 + 1 * 0 = s.val
    rw [off2_val _ (by rw [crd_val]; omega), crd_val]; omega
/-- The number of active tiles, at any index of its one-word array. -/
theorem wN_eq (z : S1.Idx) : wN T.nt = T.nt z :=
  congrArg T.nt (funext fun a => Fin.ext (by have := (z a).isLt; match a with | ⟨0, _⟩ => show 0 + 1 * 0 = _; have : (z 0).val < 1 := (z 0).isLt; show 0 = (z 0).val; omega))

/-- A point that is active and casts nothing has the expert of the point before. -/
theorem same_expert (t s : Fin (cfgA T).N) (h : t.val = s.val + 1) (hb : ¬PB T t) (ha : ¬PA T t) :
    T.te (ix1 (tl T t)) = T.te (ix1 (tl T s)) := by
  rw [← wC_eq, ← wP_eq T t s h]
  by_contra hne
  refine ha ((recast_iff _ _ _).2 ⟨(cond3_iff _ _).1 (notPB_C T t hb), .inr ?_⟩)
  show BitVec.ofBool (wC (crd T t) T.te != wP (crd T t) T.te) = 1#1
  rw [bne_iff_ne.2 hne]; rfl

/-- The row block of an active point. -/
theorem rows_at (t : Fin (cfgA T).N) (h : ¬PB T t) (r : Fin 512) (k : Fin 1152) :
    iblk T m ρ c (0 : Fin 5) t (ix2 r k) = m ((c : Thread nD τ).loc main_arg2) (ix2 (row (tl T t) r) k) := by
  unfold iblk
  refine congrArg (m ((c : Thread nD τ).loc main_arg2)) (funext fun a => Fin.ext ?_)
  match a with
  | ⟨0, _⟩ =>
    show (Scalar.minsi (BitVec.ofNat 32 ((crd T t) 0).val) (Scalar.subi (wN T.nt) 1#32)).toNat * 512 + 1 * r.val = t.val * 512 + r.val
    have ht := (active_iff T t).1 h
    have hm := min_word (crd T t) (wN T.nt) (T.nt_pos _) (T.nt_le _)
    rw [hm, crd_val]; omega
  | ⟨1, _⟩ =>
    show 0 * 1152 + 1 * k.val = k.val
    omega

/-- The expert of a point. -/
abbrev ex (t : Fin (cfgA T).N) : Fin 16 := ⟨(T.te (ix1 (tl T t))).toNat, T.te_lt _⟩

/-- The weight blocks of a point are its expert's weights. -/
theorem gate_at (t : Fin (cfgA T).N) (y : S1x1x1024x512.Idx) :
    iblk T m ρ c (1 : Fin 5) t y = m ((c : Thread nD τ).loc main_arg3) (ix4 1 (ex T t) (y 2) (y 3)) := by
  unfold iblk
  refine congrArg (m ((c : Thread nD τ).loc main_arg3)) (funext fun a => Fin.ext ?_)
  have h0 : (y 0).val < 1 := (y 0).isLt
  have h1 : (y 1).val < 1 := (y 1).isLt
  match a with
  | ⟨0, _⟩ => show 1 * 1 + 1 * (y 0).val = 1; omega
  | ⟨1, _⟩ => show (wC (crd T t) T.te).toNat * 1 + 1 * (y 1).val = (T.te (ix1 (tl T t))).toNat; rw [wC_eq]; omega
  | ⟨2, _⟩ => show 0 * 1024 + 1 * (y 2).val = (y 2).val; omega
  | ⟨3, _⟩ => show 0 * 512 + 1 * (y 3).val = (y 3).val; omega
theorem up_at (t : Fin (cfgA T).N) (y : S1x1x1024x512.Idx) :
    iblk T m ρ c (2 : Fin 5) t y = m ((c : Thread nD τ).loc main_arg4) (ix4 1 (ex T t) (y 2) (y 3)) := by
  unfold iblk
  refine congrArg (m ((c : Thread nD τ).loc main_arg4)) (funext fun a => Fin.ext ?_)
  have h0 : (y 0).val < 1 := (y 0).isLt
  have h1 : (y 1).val < 1 := (y 1).isLt
  match a with
  | ⟨0, _⟩ => show 1 * 1 + 1 * (y 0).val = 1; omega
  | ⟨1, _⟩ => show (wC (crd T t) T.te).toNat * 1 + 1 * (y 1).val = (T.te (ix1 (tl T t))).toNat; rw [wC_eq]; omega
  | ⟨2, _⟩ => show 0 * 1024 + 1 * (y 2).val = (y 2).val; omega
  | ⟨3, _⟩ => show 0 * 512 + 1 * (y 3).val = (y 3).val; omega
theorem down_at (t : Fin (cfgA T).N) (y : S1x1x512x1024.Idx) :
    iblk T m ρ c (3 : Fin 5) t y = m ((c : Thread nD τ).loc main_arg5) (ix4 1 (ex T t) (y 2) (y 3)) := by
  unfold iblk
  refine congrArg (m ((c : Thread nD τ).loc main_arg5)) (funext fun a => Fin.ext ?_)
  have h0 : (y 0).val < 1 := (y 0).isLt
  have h1 : (y 1).val < 1 := (y 1).isLt
  match a with
  | ⟨0, _⟩ => show 1 * 1 + 1 * (y 0).val = 1; omega
  | ⟨1, _⟩ => show (wC (crd T t) T.te).toNat * 1 + 1 * (y 1).val = (T.te (ix1 (tl T t))).toNat; rw [wC_eq]; omega
  | ⟨2, _⟩ => show 0 * 512 + 1 * (y 2).val = (y 2).val; omega
  | ⟨3, _⟩ => show 0 * 1024 + 1 * (y 3).val = (y 3).val; omega

/-- Two points of one expert have the same weight blocks. -/
theorem gate_same (t s : Fin (cfgA T).N) (h : T.te (ix1 (tl T t)) = T.te (ix1 (tl T s))) :
    iblk T m ρ c (1 : Fin 5) t = iblk T m ρ c (1 : Fin 5) s := funext fun y => by
  rw [gate_at, gate_at, show ex T t = ex T s from Fin.ext (congrArg BitVec.toNat h)]
theorem up_same (t s : Fin (cfgA T).N) (h : T.te (ix1 (tl T t)) = T.te (ix1 (tl T s))) :
    iblk T m ρ c (2 : Fin 5) t = iblk T m ρ c (2 : Fin 5) s := funext fun y => by
  rw [up_at, up_at, show ex T t = ex T s from Fin.ext (congrArg BitVec.toNat h)]
theorem down_same (t s : Fin (cfgA T).N) (h : T.te (ix1 (tl T t)) = T.te (ix1 (tl T s))) :
    iblk T m ρ c (3 : Fin 5) t = iblk T m ρ c (3 : Fin 5) s := funext fun y => by
  rw [down_at, down_at, show ex T t = ex T s from Fin.ext (congrArg BitVec.toNat h)]

/-- The scratch buffers hold the cast of point `t`'s weight blocks. -/
abbrev Holds (t : Fin (cfgA T).N) (x : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) : Prop :=
  gateOf c x.2.1 = k0_pay2 (F := Ideal) (iblk T m ρ c (1 : Fin 5) t) ∧ upOf c x.2.2.1 = k0_pay3 (F := Ideal) (iblk T m ρ c (2 : Fin 5) t)
    ∧ downOf c x.2.2.2 = k0_pay4 (F := Ideal) (iblk T m ρ c (3 : Fin 5) t)

theorem holds_A (t : Fin (cfgA T).N) (p) (hb : ¬PB T t) (ha : PA T t) : Holds T m ρ c t (step0 T m ρ c t p) := by
  rw [step0_A T m ρ c t p hb ha]
  unfold Holds; dsimp only
  refine And.intro ?_ (And.intro ?_ ?_)
  · exact gate_A c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb)
  · exact up_A c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb)
  · exact down_A c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb)

theorem holds_C (t : Fin (cfgA T).N) (p) (hb : ¬PB T t) (ha : ¬PA T t) (hp : Holds T m ρ c t p) : Holds T m ρ c t (step0 T m ρ c t p) := by
  rw [step0_C T m ρ c t p hb ha]
  exact hp

/-- Before an active point that casts nothing they hold its weights already, if they held those of the point before. -/
theorem holds_prev (t s : Fin (cfgA T).N) (h : t.val = s.val + 1) (hb : ¬PB T t) (ha : ¬PA T t) (p) (hp : Holds T m ρ c s p) : Holds T m ρ c t p := by
  have e := same_expert T t s h hb ha
  unfold Holds
  rw [gate_same T m ρ c t s e, up_same T m ρ c t s e, down_same T m ρ c t s e]
  exact hp

/-- After every active point they hold its weights. -/
theorem holds : ∀ (n : ℕ) (hn : n < (cfgA T).N), ¬PB T ⟨n, hn⟩ → Holds T m ρ c ⟨n, hn⟩ (traj0 T m ρ c n hn)
  | 0, hn, hb => holds_A T m ρ c ⟨0, hn⟩ _ hb (first_PA T _ rfl)
  | n + 1, hn, hb => by
    show Holds T m ρ c ⟨n + 1, hn⟩ (step0 T m ρ c ⟨n + 1, hn⟩ (traj0 T m ρ c n (Nat.lt_of_succ_lt hn)))
    by_cases ha : PA T ⟨n + 1, hn⟩
    · exact holds_A T m ρ c _ _ hb ha
    · refine holds_C T m ρ c _ _ hb ha (holds_prev T m ρ c _ ⟨n, Nat.lt_of_succ_lt hn⟩ rfl hb ha _ (holds n _ ?_))
      refine (active_iff T _).2 ?_
      have := (active_iff T _).1 hb
      exact Nat.lt_of_succ_lt this

/-- The block of an active point: its tile's entries under its expert's weights. -/
theorem block_active (t : Fin (cfgA T).N) (hb : ¬PB T t) (y : S512x1024.Idx) :
    (traj0 T m ρ c t.val t.isLt).1 y
      = entry (wC (crd T t) T.te) (iblk T m ρ c (0 : Fin 5) t) (k0_pay2 (F := Ideal) (iblk T m ρ c (1 : Fin 5) t))
          (k0_pay3 (F := Ideal) (iblk T m ρ c (2 : Fin 5) t)) (k0_pay4 (F := Ideal) (iblk T m ρ c (3 : Fin 5) t)) y := by
  rw [traj0_eq]
  by_cases ha : PA T t
  · rw [step0_A T m ρ c t _ hb ha]; dsimp only
    exact out_A c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) hb ha (notPB_C T t hb) y
  · rw [step0_C T m ρ c t _ hb ha]; dsimp only
    have h0 : t.val ≠ 0 := fun h => ha (first_PA T t h)
    have hs : t.val - 1 < (cfgA T).N := by have := t.isLt; omega
    have hh : Holds T m ρ c t (prev0 T m ρ c t) := by
      unfold prev0; rw [dif_neg h0]
      refine holds_prev T m ρ c t ⟨t.val - 1, hs⟩ (show t.val = t.val - 1 + 1 by omega) hb ha _ (holds T m ρ c _ hs ?_)
      refine (active_iff T _).2 ?_
      have := (active_iff T _).1 hb
      exact Nat.lt_of_le_of_lt (Nat.sub_le _ _) this
    refine (out_C c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) (prev0 T m ρ c t).2.1 (prev0 T m ρ c t).2.2.1 (prev0 T m ρ c t).2.2.2 hb ha (notPB_C T t hb) y).trans ?_
    rw [hh.1, hh.2.1, hh.2.2]

/-- The block of any other point: zero. -/
theorem block_idle (t : Fin (cfgA T).N) (hb : PB T t) (y : S512x1024.Idx) : (traj0 T m ρ c t.val t.isLt).1 y = (0 : EReal) := by
  rw [traj0_eq, step0_B T m ρ c t _ hb]; dsimp only
  exact out_B c (crd T t) (ms0_0 T t) (hs0_0 T t) (ms0_1 T t) (hs0_1 T t) (ms0_2 T t) (hs0_2 T t) (ms0_3 T t) (hs0_3 T t) (ms0_4 T t) (hs0_4 T t) T.te T.nt (iblk T m ρ c (0 : Fin 5) t) (iblk T m ρ c (1 : Fin 5) t) (iblk T m ρ c (2 : Fin 5) t) (iblk T m ρ c (3 : Fin 5) t) (prev0 T m ρ c t).2.1 (prev0 T m ρ c t).2.2.1 (prev0 T m ρ c t).2.2.2 hb (PB_notA T t hb) (PB_notC T t hb) y

/-! ## The array -/

/-- Where the output block of a point sits. -/
theorem out_index (t : Fin (cfgA T).N) : ((cfgA T).win (4 : Fin 5)).index t 0 = t.val ∧ ((cfgA T).win (4 : Fin 5)).index t 1 = 0 :=
  ⟨(word_toNat (crd T t)).trans (crd_val T t), rfl⟩
theorem out_emb (t : Fin (cfgA T).N) (y : S512x1024.Idx) : ((((cfgA T).win (4 : Fin 5)).blk t).view.emb y) = (ix2 (row (tl T t) (y 0)) (y 1) : S89088x1024.Idx) := by
  refine funext fun a => Fin.ext ?_
  match a with
  | ⟨0, _⟩ =>
    show (BitVec.ofNat 32 ((crd T t) 0).val).toNat * 512 + 1 * (y 0).val = t.val * 512 + (y 0).val
    rw [word_toNat, crd_val]; omega
  | ⟨1, _⟩ => show 0 * 1024 + 1 * (y 1).val = (y 1).val; omega

theorem many : grid0.N = 174 := by decide +kernel

/-- The output blocks cover the array. -/
theorem covers : ((cfgA T).win (4 : Fin 5)).Covers := by
  refine ⟨fun a => ?_, fun β => ?_⟩
  · match a with
    | ⟨0, _⟩ => exact (by decide : 0 < 512)
    | ⟨1, _⟩ => exact (by decide : 0 < 1024)
  · have h0 : (β (0 : Fin 2)).val < 174 := lt_of_lt_of_eq (β (0 : Fin 2)).isLt (show (89088 + 512 - 1) / 512 = 174 by decide)
    have h1 : (β (1 : Fin 2)).val < 1 := lt_of_lt_of_eq (β (1 : Fin 2)).isLt (show (1024 + 1024 - 1) / 1024 = 1 by decide)
    refine ⟨⟨(β (0 : Fin 2)).val, many.symm ▸ h0⟩, flush4 T _, fun a => ⟨?_, .inl rfl⟩⟩
    match a with
    | ⟨0, _⟩ => exact (out_index T _).1
    | ⟨1, _⟩ => exact (out_index T _).2.trans (Nat.lt_one_iff.1 h1).symm

/-- An active tile's entries, from its blocks, are those of the tile's rows under its expert's weights. -/
theorem entry_eq (t : Fin (cfgA T).N) (hb : ¬PB T t) (y : S512x1024.Idx) :
    entry (wC (crd T t) T.te) (iblk T m ρ c (0 : Fin 5) t) (k0_pay2 (F := Ideal) (iblk T m ρ c (1 : Fin 5) t))
        (k0_pay3 (F := Ideal) (iblk T m ρ c (2 : Fin 5) t)) (k0_pay4 (F := Ideal) (iblk T m ρ c (3 : Fin 5) t)) y
      = cell (T.te (ix1 (tl T t)))
          (fun k => m ((c : Thread nD τ).loc main_arg2) (ix2 (row (tl T t) (y 0)) ⟨k.val, by omega⟩))
          (fun j => m ((c : Thread nD τ).loc main_arg2) (ix2 (row (tl T t) (y 0)) ⟨1024 + j.val, by omega⟩))
          (fun k f => m ((c : Thread nD τ).loc main_arg3) (ix4 1 (ex T t) k f)) (fun k f => m ((c : Thread nD τ).loc main_arg4) (ix4 1 (ex T t) k f))
          (fun f => m ((c : Thread nD τ).loc main_arg5) (ix4 1 (ex T t) f (y 1))) := by
  unfold entry
  rw [wC_eq]
  exact cell_congr (fun k => rows_at T m ρ c t hb (y 0) _) (fun j => rows_at T m ρ c t hb (y 0) _)
    (fun k f => (cast_gate _ k f).trans (gate_at T m ρ c t _)) (fun k f => (cast_up _ k f).trans (up_at T m ρ c t _))
    (fun f => (cast_down _ f (y 1)).trans (down_at T m ρ c t _))

/-- The whole result array after the run is the reference's. -/
theorem final : (dats T m ρ 0 c).arrAt (4 : Fin 5) (cfgA T).N
    = Cert.FfnRefIdeal.Read.val_main_v69 (F := Ideal) T.te T.nt (m ((c : Thread nD τ).loc main_arg2)) (m ((c : Thread nD τ).loc main_arg3))
        (m ((c : Thread nD τ).loc main_arg4)) (m ((c : Thread nD τ).loc main_arg5)) := by
  refine (dats T m ρ 0 c).arrAt_eq_of_covers (4 : Fin 5) _ (covers T) fun t _ y => ?_
  refine Eq.trans (?_ : _ = (traj0 T m ρ c t.val t.isLt).1 y) ?_
  · rfl
  refine Eq.trans ?_ (congrArg _ (out_emb T t y).symm)
  refine Eq.trans ?_ (Cert.FfnRefIdeal.Hand.ref_at T.te T.nt _ _ _ _ T.te_lt T.nt_le (ix1 0) (tl T t) (y 0) (y 1)).symm
  by_cases hb : PB T t
  · rw [block_idle T m ρ c t hb, if_neg]
    intro h
    exact (active_iff T t).2 (by rw [wN_eq T (ix1 0)]; exact h) hb
  · rw [block_active T m ρ c t hb, entry_eq T m ρ c t hb, if_pos (by have h := (active_iff T t).1 hb; rw [wN_eq T (ix1 0)] at h; exact h)]

end Cert.FfnIdeal.Hand

end

end
-- ==== Proof.FfnPre.lean ====
/- What the experts' precondition says of the two tables: every expert index is below 16, and there are between one and 174
   active tiles. -/
module

public import proofs.«01_k».proof.Defs
public import proofs.«01_k».proof.Proof.Gen.Pre_in_range
public import Idealize.ShloMosaic.Lib.ReduceAll

@[expose] public section

noncomputable section

namespace Cert.Pre_in_range.Hand

open Cert.Pre_in_range Cert.Pre_in_range.Gen
open Idealize.ShloMosaic

variable {F : FTy → Type} [FloatOps F]

/-- A signed comparison of words that holds, between the integers they stand for. -/
theorem sge_of (a b : BitVec 32) (h : IntOp.cmpi .sge a b = 1#1) : b.toInt ≤ a.toInt := by
  have h' : BitVec.ofBool (b.sle a) = 1#1 := h
  cases e : b.sle a with
  | true => exact BitVec.sle_iff_toInt_le.1 e
  | false => rw [e] at h'; exact absurd h' (by decide)
theorem sle_of (a b : BitVec 32) (h : IntOp.cmpi .sle a b = 1#1) : a.toInt ≤ b.toInt := by
  have h' : BitVec.ofBool (a.sle b) = 1#1 := h
  cases e : a.sle b with
  | true => exact BitVec.sle_iff_toInt_le.1 e
  | false => rw [e] at h'; exact absurd h' (by decide)
theorem slt_of (a b : BitVec 32) (h : IntOp.cmpi .slt a b = 1#1) : a.toInt < b.toInt := by
  have h' : BitVec.ofBool (a.slt b) = 1#1 := h
  cases e : a.slt b with
  | true => exact BitVec.slt_iff_toInt_lt.1 e
  | false => rw [e] at h'; exact absurd h' (by decide)

/-- A word between two small integers reads the same unsigned. -/
theorem nat_of_int (v : BitVec 32) (l u : ℕ) (hl : (l : ℤ) ≤ v.toInt) (hu : v.toInt ≤ u) : l ≤ v.toNat ∧ v.toNat ≤ u := by
  have hv := v.isLt
  rw [BitVec.toInt_eq_toNat_cond] at hl hu
  split at hl <;> rename_i h
  · rw [if_pos h] at hu; omega
  · omega

/-- The one index of the one-word array. -/
theorem one_index (x y : S1.Idx) : x = y := funext fun a => Fin.ext (by
  match a with
  | ⟨0, _⟩ =>
    have hx : (x 0).val < 1 := (x 0).isLt
    have hy : (y 0).val < 1 := (y 0).isLt
    show (x 0).val = (y 0).val
    omega)

theorem bounds (te : IVec S174 32) (nt : IVec S1 32) (xs : FVec F S89088x1152 .bf16) (wg wu : FVec F S2x16x1024x512 .f32)
    (wd : FVec F S2x16x512x1024 .f32) (h : fn (F := F) te nt xs wg wu wd = fun _ => 1#1) :
    (∀ x, (te x).toNat < 16) ∧ (∀ x, 1 ≤ (nt x).toNat) ∧ ∀ x, (nt x).toNat ≤ 174 := by
  have e := congrFun h (fun a => a.elim0)
  dsimp only [fn] at e
  obtain ⟨e0, e1⟩ := IntOp.andi_eq_one.1 e
  obtain ⟨e2, e3⟩ := IntOp.andi_eq_one.1 e0
  have hn : ∀ x : S1.Idx, 1 ≤ (nt x).toNat ∧ (nt x).toNat ≤ 174 := fun x => by
    have a := sge_of _ _ e3
    have b := sle_of _ _ e1
    have hx : nt x = shapeCast S_ nt Facts.shapeCasts_S1_S_ (fun a => a.elim0) := congrArg nt (one_index _ _)
    rw [hx]
    exact nat_of_int _ 1 174 a b
  refine ⟨fun x => ?_, fun x => (hn x).1, fun x => (hn x).2⟩
  have k := Host.reduce_andi_all _ _ _ _ _ e2 x
  obtain ⟨k0, k1⟩ := IntOp.andi_eq_one.1 k
  have a := sge_of _ _ k0
  have b := slt_of _ _ k1
  have a' : (0 : ℤ) ≤ (te x).toInt := a
  have b' : (te x).toInt < 16 := b
  have := (nat_of_int (te x) 0 15 a' (by omega)).2
  omega

end Cert.Pre_in_range.Hand

end
-- ==== Proof.FfnClaims.lean ====
/- The experts' claims, from any memory their precondition admits: the two frames, at the tables the memory holds, and the
   result array, the reference's term of the arguments. -/
module

public import proofs.«01_k».proof.Proof.FfnFrame
public import proofs.«01_k».proof.Proof.FfnValue
public import proofs.«01_k».proof.Proof.FfnPre
public import proofs.«01_k».proof.Proof.Gen.FfnRefIdeal.Run
public import proofs.«01_k».proof.Proof.Gen.FfnRefIdeal.Read
public import Idealize.ShloMosaic.Lib.Quiescent

@[expose] public section

set_option maxRecDepth 16384

noncomputable section

namespace Cert.Ffn.Hand

open Cert.Ffn Cert.Ffn.Gen
open Idealize.ShloMosaic Idealize.ShloMosaic.TcCoe Idealize.SL.Sem

/-- The tables a memory holds. -/
def tab (m : (ℓ : Loc nD τ sig) → Buf (Elt Bits) ℓ) (h : Cert.Pre_Ffn m) : Tab :=
  ⟨m (((0 : Dev nD) : Thread nD τ).loc main_arg0), m (((0 : Dev nD) : Thread nD τ).loc main_arg1),
    (Cert.Pre_in_range.Hand.bounds _ _ _ _ _ _ (h 0)).1, (Cert.Pre_in_range.Hand.bounds _ _ _ _ _ _ (h 0)).2.1,
    (Cert.Pre_in_range.Hand.bounds _ _ _ _ _ _ (h 0)).2.2⟩

theorem one_dev (c : Dev nD) : c = 0 := Fin.ext (by have := c.isLt; have e : nD = 1 := rfl; show c.val = 0; omega)

theorem pinned (m : (ℓ : Loc nD τ sig) → Buf (Elt Bits) ℓ) (h : Cert.Pre_Ffn m) : Pinned (tab m h) m :=
  ⟨fun c => by rw [one_dev c]; rfl, fun c => by rw [one_dev c]; rfl⟩

end Cert.Ffn.Hand

namespace Cert.FfnIdeal.Hand

open Cert.FfnIdeal Cert.FfnIdeal.Gen
open Idealize.ShloMosaic Idealize.ShloMosaic.TcCoe Idealize.SL.Sem

/-- The tables a memory holds. -/
def tab (m : (ℓ : Loc nD τ sig) → Buf (Elt Ideal) ℓ) (h : Cert.Pre_FfnIdeal m) : Tab :=
  ⟨m (((0 : Dev nD) : Thread nD τ).loc main_arg0), m (((0 : Dev nD) : Thread nD τ).loc main_arg1),
    (Cert.Pre_in_range.Hand.bounds _ _ _ _ _ _ (h 0)).1, (Cert.Pre_in_range.Hand.bounds _ _ _ _ _ _ (h 0)).2.1,
    (Cert.Pre_in_range.Hand.bounds _ _ _ _ _ _ (h 0)).2.2⟩

theorem one_dev (c : Dev nD) : c = 0 := Fin.ext (by have := c.isLt; have e : nD = 1 := rfl; show c.val = 0; omega)

theorem pinned (m : (ℓ : Loc nD τ sig) → Buf (Elt Ideal) ℓ) (h : Cert.Pre_FfnIdeal m) : Pinned (tab m h) m :=
  ⟨fun c => by rw [one_dev c]; rfl, fun c => by rw [one_dev c]; rfl⟩

/-- The run, its result array and its arguments. -/
theorem run_value (T : Tab) (m : (ℓ : Loc nD τ sig) → Buf (Elt Ideal) ℓ) (ρ : Dev nD → PrngReg) (hp : Pinned T m) :
    θ_run (defs (F := Ideal)) (onTc (τ := τ) (main (F := Ideal))) ⟨m, fun _ => 0, ρ⟩ (fun r => ∀ c : Dev nD,
      r.2.mem ((c.tc : Thread nD τ).loc main_v0)
          = Cert.FfnRefIdeal.Read.val_main_v69 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨by
      rw [hp.1 c, hp.2 c]; exact ((h.1 c).1 (4 : Fin 5)).trans (final T m ρ c),
      ((h.1 c).2 0).trans (hp.1 c).symm, ((h.1 c).2 1).trans (hp.2 c).symm,
      ((h.1 c).1 (0 : Fin 5)).trans ((dats T m ρ 0 c).arrAt_in (0 : Fin 5) rfl _), ((h.1 c).1 (1 : Fin 5)).trans ((dats T m ρ 0 c).arrAt_in (1 : Fin 5) rfl _),
      ((h.1 c).1 (2 : Fin 5)).trans ((dats T m ρ 0 c).arrAt_in (2 : Fin 5) rfl _), ((h.1 c).1 (3 : Fin 5)).trans ((dats T m ρ 0 c).arrAt_in (3 : Fin 5) rfl _)⟩)
    (run_main_quiescent T m ρ hp)

/-- The experts: the same values as the reference, where every expert index is below 16 and there are between one and 174
    active tiles. -/
theorem ffn : Cert.algebraic_FfnIdeal_FfnRefIdeal := by
  intro m g m' g' hpre hagree
  refine ⟨fun c => Cert.FfnRefIdeal.Read.val_main_v69 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)), run_value (tab m hpre) m g (pinned m hpre), ?_⟩
  refine (θ_run Cert.FfnRefIdeal.defs _ _).mono (fun r h c => ⟨(h c).1.trans ?_, (h c).2⟩) (Cert.FfnRefIdeal.Value.run (F := Ideal) m' g')
  obtain ⟨a0, a1, a2, a3, a4, a5⟩ := hagree c
  refine (Cert.FfnRefIdeal.Read.val_main_v69_eq m' c).trans ?_
  rw [a0, a1, a2, a3, a4, a5]

end Cert.FfnIdeal.Hand

end

end
-- ==== Proof.RoutePre.lean ====
/- What the precondition of the routing says: the gains, the router's weight and its bias hold real numbers. -/
module

public import proofs.«01_k».proof.Defs
public import proofs.«01_k».proof.Proof.Gen.Pre_finite_rt
public import proofs.«01_k».proof.Proof.Reals
public import Idealize.ShloMosaic.Lib.ReduceAll

@[expose] public section

noncomputable section

namespace Cert.Pre_finite_rt.Hand

open Cert.Pre_finite_rt Cert.Pre_finite_rt.Gen Cert.Reals
open Idealize.ShloMosaic

theorem reals (a0 a1 a2 : FVec Ideal S32768x512 .bf16) (a3 : FVec Ideal S32768x7168 .bf16) (a4 : FVec Ideal S32768x1024 .f32)
    (a5 : FVec Ideal S3x512x1024 .f32) (a6 : FVec Ideal S1024x1024 .f32) (a7 : FVec Ideal S1024 .f32) (a8 : FVec Ideal S1024x16 .f32)
    (a9 : FVec Ideal S16 .f32) (h : fn (F := Ideal) a0 a1 a2 a3 a4 a5 a6 a7 a8 a9 = fun _ => 1#1) :
    (∀ i, Re (a7 i)) ∧ (∀ i, Re (a8 i)) ∧ (∀ i, Re (a9 i)) := by
  have e := congrFun h (fun a => a.elim0)
  dsimp only [fn] at e
  obtain ⟨e0, e2⟩ := IntOp.andi_eq_one.1 e
  obtain ⟨e0, e1⟩ := IntOp.andi_eq_one.1 e0
  exact ⟨fun i => re_of_cmp (Host.reduce_andi_all _ _ _ _ _ e0 i), fun i => re_of_cmp (Host.reduce_andi_all _ _ _ _ _ e1 i),
    fun i => re_of_cmp (Host.reduce_andi_all _ _ _ _ _ e2 i)⟩

end Cert.Pre_finite_rt.Hand

end

end
-- ==== Proof.RouteRun.lean ====
/- The routing's reference as it runs: its three results by the names of its stages. -/
module

public import proofs.«01_k».proof.Proof.Gen.RouteRefIdeal.Run
public import proofs.«01_k».proof.Proof.Gen.RouteRefIdeal.Read

@[expose] public section

noncomputable section

namespace Cert.RouteRefIdeal.Hand

open Cert.RouteRefIdeal Cert.RouteRefIdeal.Gen Cert.RouteRefIdeal.Read
open Idealize.ShloMosaic Idealize.SL Idealize.ShloMosaic.StableHlo

/-- The reference's run, its three results by the stages' names. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v189) = val_main_v189 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v196) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (val_main_v189_eq (launchContents m c)), (h c).2.1.trans (val_main_v196_eq (launchContents m c)),
    (h c).2.2.1.trans (val_main_v193_eq (launchContents m c)), (h c).2.2.2⟩)
    (Cert.RouteRefIdeal.Value.run (F := Ideal) m ρ)

end Cert.RouteRefIdeal.Hand

end

end
-- ==== Proof.RouteCell.lean ====
/- The payloads of the routing's body that compute a row of the merge and its norm. -/
module

public import proofs.«01_k».proof.Proof.Gen.RouteIdeal.Frame
public import proofs.«01_k».proof.Proof.MergeCell
public import Idealize.ShloMosaic.Lib.Pipeline.ValueKit

@[expose] public section

set_option maxRecDepth 16384

noncomputable section

namespace Cert.RouteIdeal.Hand

open Cert.RouteIdeal Cert.RouteIdeal.Gen
open Cert.MergeIdeal.Hand (mix xrow hrow)
open Idealize.ShloMosaic Idealize.ShloMosaic.TcCoe Idealize.SL.Sem

/-- The payloads of the first half of the rows compute the row, -/
theorem half_a (a b c : Vec Ideal S256x512 .bf16) (w0 w1 w2 : Vec Ideal S1x512x1024 .bf16) (ga gb gc : Vec Ideal S256x1024 .bf16)
    (x : Vec Ideal S256x1024 .f32) (wo : Vec Ideal S1024x1024 .bf16) (y : S256x1024.Idx) :
    k0_pay9 (F := Ideal) (k0_pay2 a w0) (k0_pay3 b w1) (k0_pay4 c w2) ga gb gc x wo y
      = xrow (fun j => a (ix2 (y 0) j)) (fun j => b (ix2 (y 0) j)) (fun j => c (ix2 (y 0) j)) (fun k => ga (ix2 (y 0) k)) (fun k => gb (ix2 (y 0) k))
          (fun k => gc (ix2 (y 0) k)) (fun k => x (ix2 (y 0) k)) (fun i j k => ![w0 (ix3 0 j k), w1 (ix3 0 j k), w2 (ix3 0 j k)] i) (fun k d => wo (ix2 k d)) (y 1) := by
  pointwise [k0_pay9, k0_pay2, k0_pay3, k0_pay4, xrow, mix]

/-- and so do those of the second half. -/
theorem half_b (a b c : Vec Ideal S256x512 .bf16) (w0 w1 w2 : Vec Ideal S1x512x1024 .bf16) (ga gb gc : Vec Ideal S256x1024 .bf16)
    (x : Vec Ideal S256x1024 .f32) (wo : Vec Ideal S1024x1024 .bf16) (y : S256x1024.Idx) :
    k0_pay10 (F := Ideal) (k0_pay8 (k0_pay5 a w0) (k0_pay6 b w1) c (k0_pay7 w2) (constant S256x1024 .f32 0x00000000#32) ga gb gc) x wo y
      = xrow (fun j => a (ix2 (y 0) j)) (fun j => b (ix2 (y 0) j)) (fun j => c (ix2 (y 0) j)) (fun k => ga (ix2 (y 0) k)) (fun k => gb (ix2 (y 0) k))
          (fun k => gc (ix2 (y 0) k)) (fun k => x (ix2 (y 0) k)) (fun i j k => ![w0 (ix3 0 j k), w1 (ix3 0 j k), w2 (ix3 0 j k)] i) (fun k d => wo (ix2 k d)) (y 1) := by
  pointwise [k0_pay10, k0_pay8, k0_pay5, k0_pay6, k0_pay7, xrow, mix]

/-- The norm of either half. -/
theorem norm_a (v : Vec Ideal S256x1024 .f32) (g : Vec Ideal S1x1024 .f32) (y : S256x1024.Idx) :
    k0_pay11 (F := Ideal) v g y = hrow (fun k => v (ix2 (y 0) k)) (fun k => g (ix2 0 k)) (y 1) := by
  pointwise [k0_pay11, hrow]
theorem norm_b (v : Vec Ideal S256x1024 .f32) (g : Vec Ideal S1x1024 .f32) (y : S256x1024.Idx) :
    k0_pay16 (F := Ideal) v g y = hrow (fun k => v (ix2 (y 0) k)) (fun k => g (ix2 0 k)) (y 1) := by
  pointwise [k0_pay16, hrow]

theorem lead_a (v : Vec Ideal S256x1024 .f32) (g : Vec Ideal S1x1024 .f32) (w : Vec Ideal S1024x128 .bf16) (r : Fin 256) (c : Fin 128) :
    k0_pay14 (F := Ideal) v g w (ix2 r c) = ∑ d : Fin 1024, k0_pay11 (F := Ideal) v g (ix2 r d) * (w (ix2 d c) : EReal) := by
  pointwise [k0_pay14, k0_pay13]

theorem rest_a (v : Vec Ideal S256x1024 .f32) (g : Vec Ideal S1x1024 .f32) (wl wh : Vec Ideal S1024x128 .bf16) (r : Fin 256) (c : Fin 128) :
    k0_pay15 (F := Ideal) v g wl wh (ix2 r c) = (∑ d : Fin 1024, k0_pay11 (F := Ideal) v g (ix2 r d) * (wl (ix2 d c) : EReal))
      + ∑ d : Fin 1024, (k0_pay11 (F := Ideal) v g (ix2 r d) - k0_pay11 (F := Ideal) v g (ix2 r d)) * (wh (ix2 d c) : EReal) := by
  pointwise [k0_pay15, k0_pay13]

theorem logit_a (v : Vec Ideal S256x1024 .f32) (g : Vec Ideal S1x1024 .f32) (a b : Vec Ideal S256x128 .f32) (w1 w2 w3 : Vec Ideal S1024x128 .bf16) (e : Fin 16) (r : Fin 512)
    (h : r.val < 256) : k0_pay18 (F := Ideal) v a b g w1 w2 w3 (ix2 e r)
      = a (ix2 (⟨r.val, h⟩ : Fin 256) (⟨e.val, by have := e.isLt; omega⟩ : Fin 128)) + b (ix2 (⟨r.val, h⟩ : Fin 256) (⟨e.val, by have := e.isLt; omega⟩ : Fin 128)) := by
  pointwise [k0_pay18, h]

theorem logit_b (v : Vec Ideal S256x1024 .f32) (g : Vec Ideal S1x1024 .f32) (a b : Vec Ideal S256x128 .f32) (w1 w2 w3 : Vec Ideal S1024x128 .bf16) (e : Fin 16) (r : Fin 512)
    (q : Fin 256) (h : r.val = 256 + q.val) : k0_pay18 (F := Ideal) v a b g w1 w2 w3 (ix2 e r)
      = (∑ d : Fin 1024, k0_pay16 (F := Ideal) v g (ix2 q d) * (w1 (ix2 d (⟨e.val, by have := e.isLt; omega⟩ : Fin 128)) : EReal))
        + ((∑ d : Fin 1024, k0_pay16 (F := Ideal) v g (ix2 q d) * (w2 (ix2 d (⟨e.val, by have := e.isLt; omega⟩ : Fin 128)) : EReal))
          + ∑ d : Fin 1024, (k0_pay16 (F := Ideal) v g (ix2 q d) - k0_pay16 (F := Ideal) v g (ix2 q d)) * (w3 (ix2 d (⟨e.val, by have := e.isLt; omega⟩ : Fin 128)) : EReal)) := by
  pointwise [k0_pay18, h]

end Cert.RouteIdeal.Hand

end

end
-- ==== Proof.RouteLane.lean ====
/- Choosing two experts of one token: the places of four numbers among themselves, the first largest by comparisons, the two
   largest by a network of maxima and minima, and how these agree. -/
module

public import proofs.«01_k».proof.Proof.Reals

@[expose] public section

noncomputable section

namespace Cert.Lane

open Idealize.ShloMosaic Cert.Reals

/-- How many of four numbers come before the `i`-th: those greater, and those equal and earlier. -/
def place {α : Type} [LinearOrder α] (v : Fin 4 → α) (i : Fin 4) : ℕ := ∑ j : Fin 4, if v i < v j ∨ (v j = v i ∧ j < i) then 1 else 0

/-- The first largest of four, found by three comparisons. -/
def first {α : Type} [LinearOrder α] (v : Fin 4 → α) : Fin 4 :=
  let a : Fin 4 := if v 0 < v 1 then 1 else 0
  let b : Fin 4 := if v a < v 2 then 2 else a
  if v b < v 3 then 3 else b

/-- The first largest once the index `i` is left out. -/
def next {α : Type} [LinearOrder α] (v : Fin 4 → α) (i : Fin 4) : Fin 4 :=
  let lt : Fin 4 → Fin 4 → Prop := fun j k => k ≠ i ∧ (j = i ∨ v j < v k)
  haveI : ∀ j k, Decidable (lt j k) := fun j k => inferInstanceAs (Decidable (k ≠ i ∧ (j = i ∨ v j < v k)))
  let a : Fin 4 := if lt 0 1 then 1 else 0
  let b : Fin 4 := if lt a 2 then 2 else a
  if lt b 3 then 3 else b

/-- The rank of each of four numbers: how many are smaller. -/
def rank {α : Type} [LinearOrder α] (v : Fin 4 → α) (i : Fin 4) : Fin 4 :=
  ⟨(Finset.univ.filter fun j => v j < v i).card, by
    have h : (Finset.univ.filter fun j => v j < v i) ⊆ Finset.univ.erase i := fun j hj => by
      simp only [Finset.mem_filter, Finset.mem_univ, true_and] at hj
      simp only [Finset.mem_erase, Finset.mem_univ, and_true]
      rintro rfl
      exact lt_irrefl _ hj
    have := Finset.card_le_card h
    simp at this
    omega⟩

theorem rank_lt {α : Type} [LinearOrder α] (v : Fin 4 → α) (i j : Fin 4) : v i < v j ↔ rank v i < rank v j := by
  constructor
  · intro h
    refine Fin.lt_def.2 (show (Finset.univ.filter fun k => v k < v i).card < (Finset.univ.filter fun k => v k < v j).card from Finset.card_lt_card ⟨fun k hk => ?_, fun hs => ?_⟩)
    · simp only [Finset.mem_filter, Finset.mem_univ, true_and] at hk ⊢
      exact hk.trans h
    · have := hs (Finset.mem_filter.2 ⟨Finset.mem_univ i, h⟩)
      simp at this
  · intro h
    by_contra hn
    refine absurd h (not_lt.2 (Fin.le_def.2 (show (Finset.univ.filter fun k => v k < v j).card ≤ (Finset.univ.filter fun k => v k < v i).card from Finset.card_le_card fun k hk => ?_)))
    simp only [Finset.mem_filter, Finset.mem_univ, true_and] at hk ⊢
    exact lt_of_lt_of_le hk (not_lt.1 hn)

theorem rank_eq {α : Type} [LinearOrder α] (v : Fin 4 → α) (i j : Fin 4) : v i = v j ↔ rank v i = rank v j := by
  rw [le_antisymm_iff, le_antisymm_iff, ← not_lt, ← not_lt, ← not_lt, ← not_lt, rank_lt v, rank_lt v]

theorem place_rank {α : Type} [LinearOrder α] (v : Fin 4 → α) (i : Fin 4) : place v i = place (rank v) i := by
  simp only [place, rank_lt v, rank_eq v]

theorem first_rank {α : Type} [LinearOrder α] (v : Fin 4 → α) : first v = first (rank v) := by
  simp only [first, rank_lt v]

theorem next_rank {α : Type} [LinearOrder α] (v : Fin 4 → α) (i : Fin 4) : next v i = next (rank v) i := by
  simp only [next, rank_lt v]

theorem ranks : ∀ f : Fin 4 → Fin 4, (∀ i, (place f i = 0 ↔ i = first f) ∧ (place f i = 1 ↔ i = next f (first f)))
    ∧ ∃ p q : Fin 4, p ≠ q ∧ (∀ i, place f i < 2 ↔ i = p ∨ i = q)
      ∧ f p = max (max (f 0) (f 1)) (max (f 2) (f 3))
      ∧ f q = max (min (max (f 0) (f 1)) (max (f 2) (f 3))) (max (min (f 0) (f 1)) (min (f 2) (f 3))) := by
  decide +kernel

/-- The entry no other comes before is the first largest, -/
theorem place_zero {α : Type} [LinearOrder α] (v : Fin 4 → α) (i : Fin 4) : place v i = 0 ↔ i = first v := by
  rw [place_rank, first_rank]
  exact ((ranks (rank v)).1 i).1

/-- and the entry one other comes before is the first largest of the rest. -/
theorem place_one {α : Type} [LinearOrder α] (v : Fin 4 → α) (i : Fin 4) : place v i = 1 ↔ i = next v (first v) := by
  rw [place_rank, next_rank, first_rank]
  exact ((ranks (rank v)).1 i).2

theorem rank_le {α : Type} [LinearOrder α] (v : Fin 4 → α) (i j : Fin 4) : v i ≤ v j ↔ rank v i ≤ rank v j := by
  rw [← not_lt, ← not_lt, rank_lt]

/-- The two largest by maxima and minima. -/
def hi {α : Type} [LinearOrder α] (a b c d : α) : α := max (max a b) (max c d)
def lo {α : Type} [LinearOrder α] (a b c d : α) : α := max (min (max a b) (max c d)) (max (min a b) (min c d))

theorem max_at {α : Type} [LinearOrder α] (v : Fin 4 → α) (i j : Fin 4) : ∃ k, v k = max (v i) (v j) ∧ rank v k = max (rank v i) (rank v j) := by
  rcases le_total (v i) (v j) with h | h
  · exact ⟨j, (max_eq_right h).symm, (max_eq_right ((rank_le v i j).1 h)).symm⟩
  · exact ⟨i, (max_eq_left h).symm, (max_eq_left ((rank_le v j i).1 h)).symm⟩

theorem min_at {α : Type} [LinearOrder α] (v : Fin 4 → α) (i j : Fin 4) : ∃ k, v k = min (v i) (v j) ∧ rank v k = min (rank v i) (rank v j) := by
  rcases le_total (v i) (v j) with h | h
  · exact ⟨i, (min_eq_left h).symm, (min_eq_left ((rank_le v i j).1 h)).symm⟩
  · exact ⟨j, (min_eq_right h).symm, (min_eq_right ((rank_le v j i).1 h)).symm⟩

theorem hi_lo_at {α : Type} [LinearOrder α] (v : Fin 4 → α) :
    ∃ p q : Fin 4, p ≠ q ∧ (∀ i, place v i < 2 ↔ i = p ∨ i = q) ∧ v p = hi (v 0) (v 1) (v 2) (v 3) ∧ v q = lo (v 0) (v 1) (v 2) (v 3) := by
  obtain ⟨p, q, hne, hpl, hp, hq⟩ := (ranks (rank v)).2
  obtain ⟨a, a1, a2⟩ := max_at v 0 1
  obtain ⟨b, b1, b2⟩ := max_at v 2 3
  obtain ⟨c, c1, c2⟩ := min_at v 0 1
  obtain ⟨d, d1, d2⟩ := min_at v 2 3
  obtain ⟨e, e1, e2⟩ := max_at v a b
  obtain ⟨f, f1, f2⟩ := min_at v a b
  obtain ⟨g, g1, g2⟩ := max_at v c d
  obtain ⟨k, k1, k2⟩ := max_at v f g
  refine ⟨p, q, hne, fun i => by rw [place_rank]; exact hpl i, ?_, ?_⟩
  · unfold hi
    rw [← a1, ← b1, ← e1, rank_eq, e2, a2, b2, hp]
  · unfold lo
    rw [← a1, ← b1, ← c1, ← d1, ← f1, ← g1, ← k1, rank_eq, k2, f2, g2, a2, b2, c2, d2, hq]

/-- The sum of the two largest of four. -/
theorem top_two (v : Fin 4 → EReal) :
    (∑ i : Fin 4, if place v i < 2 then v i else 0) = hi (v 0) (v 1) (v 2) (v 3) + lo (v 0) (v 1) (v 2) (v 3) := by
  obtain ⟨p, q, hne, hpl, hp, hq⟩ := hi_lo_at v
  simp only [hpl]
  rw [← hp, ← hq, ← Finset.sum_filter, show (Finset.univ.filter fun i => i = p ∨ i = q) = {p, q} from by ext; simp,
    Finset.sum_pair hne]

/-- A small whole number as a value. -/
def lit (n : ℕ) : EReal := ((n : ℝ) : EReal)

theorem lit_inj {a b : ℕ} : lit a = lit b ↔ a = b := by simp [lit]

theorem lit_lt {a b : ℕ} : lit a < lit b ↔ a < b := by simp [lit]

theorem lit_zero : lit 0 = 0 := by simp [lit]

theorem lit_one : lit 1 = 1 := by simp [lit]

theorem bits_zero : Ideal.ofBits .f32 0x00000000#32 = lit 0 := by simp [Ideal.ofBits, Ideal.ieee, lit]

theorem bits_one : Ideal.ofBits .f32 0x3F800000#32 = lit 1 := by simp [Ideal.ofBits, Ideal.ieee, lit]; rw [← EReal.coe_mul]; norm_num

theorem bits_two : Ideal.ofBits .f32 0x40000000#32 = lit 2 := by simp [Ideal.ofBits, Ideal.ieee, lit]; rw [← EReal.coe_mul]; norm_num

theorem bits_three : Ideal.ofBits .f32 0x40400000#32 = lit 3 := by simp [Ideal.ofBits, Ideal.ieee, lit]; rw [← EReal.coe_mul]; norm_num

theorem bits_four : Ideal.ofBits .f32 0x40800000#32 = lit 4 := by simp [Ideal.ofBits, Ideal.ieee, lit]; rw [← EReal.coe_mul]; norm_num

theorem sel_gt {α : Type} (x y : EReal) (a b : α) : Scalar.select (Ideal.cmp .ogt x y) a b = if y < x then a else b := by
  by_cases h : y < x <;> simp [Scalar.select, Ideal.cmp, h]

theorem sel_eq {α : Type} (x y : EReal) (a b : α) : Scalar.select (Ideal.cmp .oeq x y) a b = if x = y then a else b := by
  by_cases h : x = y <;> simp [Scalar.select, Ideal.cmp, h]

/-- The first largest's number, as the kernel's chain of choices keeps it. -/
def argf (a b c d : EReal) : EReal :=
  Scalar.select (Ideal.cmp .ogt d (Scalar.select (Ideal.cmp .ogt c (Scalar.select (Ideal.cmp .ogt b a) b a)) c (Scalar.select (Ideal.cmp .ogt b a) b a)))
    (Ideal.ofBits .f32 0x40400000#32)
    (Scalar.select (Ideal.cmp .ogt c (Scalar.select (Ideal.cmp .ogt b a) b a)) (Ideal.ofBits .f32 0x40000000#32)
      (Scalar.select (Ideal.cmp .ogt b a) (Ideal.ofBits .f32 0x3F800000#32) (Ideal.ofBits .f32 0x00000000#32)))

theorem argf_first (v : Fin 4 → EReal) : argf (v 0) (v 1) (v 2) (v 3) = lit (first v).val := by
  unfold argf first
  simp only [sel_gt, bits_zero, bits_one, bits_two, bits_three]
  split_ifs <;> first | rfl | simp_all

/-- The entry a number names, as the kernel's chain of choices picks it. -/
def pickf (n a b c d : EReal) : EReal :=
  Scalar.select (Ideal.cmp .oeq n (Ideal.ofBits .f32 0x40400000#32)) d
    (Scalar.select (Ideal.cmp .oeq n (Ideal.ofBits .f32 0x40000000#32)) c
      (Scalar.select (Ideal.cmp .oeq n (Ideal.ofBits .f32 0x3F800000#32)) b a))

theorem pickf_lit (i : Fin 4) (v : Fin 4 → EReal) : pickf (lit i.val) (v 0) (v 1) (v 2) (v 3) = v i := by
  unfold pickf
  simp only [sel_eq, bits_one, bits_two, bits_three, lit_inj]
  match i with
  | 0 => simp
  | 1 => simp
  | 2 => simp
  | 3 => simp

/-- An entry, or minus infinity where its number is the one left out. -/
def maskf (n : EReal) (w : BitVec 32) (a : EReal) : EReal :=
  Scalar.select (Ideal.cmp .oeq n (Ideal.ofBits .f32 w)) (Ideal.ofBits .f32 0xFF800000#32) a

theorem mask_lt (v : Fin 4 → EReal) (h : ∀ i, Re (v i)) (i j k : Fin 4) :
    ((if i = j then (⊥ : EReal) else v j) < (if i = k then ⊥ else v k)) ↔ (k ≠ i ∧ (j = i ∨ v j < v k)) := by
  have hb : ∀ i, (⊥ : EReal) < v i := fun i => by
    obtain ⟨r, hr⟩ := h i
    rw [hr]; exact EReal.bot_lt_coe r
  by_cases hk : i = k
  · simp [hk]
  · have hk' : k ≠ i := fun e => hk e.symm
    by_cases hj : i = j
    · subst hj; simp [hk, hk', hb]
    · have hj' : j ≠ i := fun e => hj e.symm
      simp [hj, hk, hk', hj']

theorem first_mask (v : Fin 4 → EReal) (h : ∀ i, Re (v i)) (i : Fin 4) : first (fun j => if i = j then (⊥ : EReal) else v j) = next v i := by
  unfold first next
  simp only [mask_lt v h]

theorem next_lit (v : Fin 4 → EReal) (h : ∀ i, Re (v i)) (i : Fin 4) :
    argf (maskf (lit i.val) 0x00000000#32 (v 0)) (maskf (lit i.val) 0x3F800000#32 (v 1)) (maskf (lit i.val) 0x40000000#32 (v 2))
      (maskf (lit i.val) 0x40400000#32 (v 3)) = lit (next v i).val := by
  rw [← first_mask v h i, ← argf_first]
  unfold maskf
  simp only [sel_eq, bits_zero, bits_one, bits_two, bits_three, lit_inj, negInf]
  congr 1 <;> (refine if_congr ?_ rfl rfl; rw [Fin.ext_iff]; rfl)

/-- An expert's number from its group's and its place in the group. -/
def ge (g k : Fin 4) : Fin 16 := ⟨g.val * 4 + k.val, by have := g.isLt; have := k.isLt; omega⟩

variable (s : Fin 16 → EReal)

def grp (g : Fin 4) : Fin 4 → EReal := fun k => s (ge g k)

/-- A group's mark: the sum of its two largest. -/
def mark (g : Fin 4) : EReal := hi (grp s g 0) (grp s g 1) (grp s g 2) (grp s g 3) + lo (grp s g 0) (grp s g 1) (grp s g 2) (grp s g 3)

/-- The best group, and the two experts chosen in it. -/
def best : Fin 4 := first (mark s)
def in1 : Fin 4 := first (grp s (best s))
def in2 : Fin 4 := next (grp s (best s)) (in1 s)
def exp1 : Fin 16 := ge (best s) (in1 s)
def exp2 : Fin 16 := ge (best s) (in2 s)

/-- One where an expert is the one named, else zero. -/
def pick (e' e : Fin 16) : EReal := if e = e' then 1 else 0

theorem lit_exp (g k : Fin 4) : lit g.val * lit 4 + lit k.val = lit (ge g k).val := by
  simp only [lit, ge, ← EReal.coe_mul, ← EReal.coe_add]
  congr 1
  push_cast
  ring

theorem ge_eq (g k g' k' : Fin 4) : ge g k = ge g' k' ↔ g = g' ∧ k = k' := by
  have := g.isLt; have := k.isLt; have := g'.isLt; have := k'.isLt
  simp only [ge, Fin.ext_iff]
  omega

/-- The number that comes before, counted in the values. -/
theorem place_sum (v : Fin 4 → EReal) (i : Fin 4) :
    (∑ j : Fin 4, if v i < v j ∨ (v j = v i ∧ j < i) then (1 : EReal) else 0) = lit (place v i) := by
  have h : ∀ (t : Finset (Fin 4)) (p : Fin 4 → Prop) [DecidablePred p], (∑ j ∈ t, if p j then (1 : EReal) else 0) = lit (∑ j ∈ t, if p j then 1 else 0) := by
    intro t p _
    induction t using Finset.induction_on with
    | empty => simp [lit]
    | insert a u ha ih =>
      rw [Finset.sum_insert ha, Finset.sum_insert ha, ih]
      by_cases hp : p a <;> simp [hp, lit]
  exact h _ _

theorem mark_eq (g : Fin 4) : (∑ k : Fin 4, if place (grp s g) k < 2 then grp s g k else 0) = mark s g := top_two (grp s g)

theorem pick_one (g k : Fin 4) : (if place (mark s) g = 0 ∧ place (grp s g) k = 0 then (1 : EReal) else 0) = pick (exp1 s) (ge g k) := by
  unfold pick exp1
  refine if_congr ?_ rfl rfl
  rw [ge_eq, place_zero, place_zero]
  constructor
  · rintro ⟨rfl, h⟩; exact ⟨rfl, h⟩
  · rintro ⟨rfl, h⟩; exact ⟨rfl, h⟩

theorem pick_two (g k : Fin 4) : (if place (mark s) g = 0 ∧ place (grp s g) k = 1 then (1 : EReal) else 0) = pick (exp2 s) (ge g k) := by
  unfold pick exp2
  refine if_congr ?_ rfl rfl
  rw [ge_eq, place_zero, place_one]
  constructor
  · rintro ⟨rfl, h⟩; exact ⟨rfl, h⟩
  · rintro ⟨rfl, h⟩; exact ⟨rfl, h⟩

theorem pick_sum (e' : Fin 16) (f : Fin 16 → EReal) : (∑ e : Fin 16, pick e' e * f e) = f e' := by
  rw [Finset.sum_eq_single e']
  · simp [pick]
  · intro e _ he; simp [pick, he]
  · simp

end Cert.Lane

end

end
-- ==== Proof.RouteSpec.lean ====
/- What the routing of one row holds, from the row's scores; and that the scores are finite. -/
module

public import proofs.«01_k».proof.Proof.RouteLane
public import proofs.«01_k».proof.Proof.MergeCell

@[expose] public section

set_option maxRecDepth 16384

noncomputable section

namespace Cert.Lane

open Cert.MergeIdeal.Hand (hrow)
open Idealize.ShloMosaic Cert.Reals

theorem sq_nonneg (x : EReal) : 0 ≤ x * x := by
  rcases le_total 0 x with h | h
  · exact mul_nonneg h h
  · rw [← neg_mul_neg]; exact mul_nonneg (EReal.neg_nonneg.2 h) (EReal.neg_nonneg.2 h)

/-- The row over the root of its mean square is finite whatever the row holds: of an infinite entry the mean square is infinite, and
    the root's reciprocal zero. -/
theorem hrow_re (v g : Fin 1024 → EReal) (hg : ∀ k, Re (g k)) (d : Fin 1024) : Re (hrow v g d) := by
  obtain ⟨e, he⟩ : Re (Ideal.ofBits FTy.f32 897988541#32) := ofBits_re _ (by decide)
  have hk : Ideal.ofBits FTy.f32 1149239296#32 = ((1024 : ℝ) : EReal) := by
    simp [Ideal.ofBits, Ideal.ieee]; rw [← EReal.coe_mul]; norm_num
  have hpos : 0 < e := by
    have : (0 : EReal) < Ideal.ofBits FTy.f32 897988541#32 := by
      simp [Ideal.ofBits, Ideal.ieee]
      rw [← EReal.coe_mul]
      exact EReal.coe_pos.2 (by norm_num)
    rw [he] at this
    exact EReal.coe_pos.1 this
  unfold hrow
  rw [hk, div_pos_real _ (by norm_num : (0 : ℝ) < 1024), he]
  by_cases hv : ∀ k, Re (v k)
  · obtain ⟨r, hr⟩ := Re.sum (s := Finset.univ) (f := fun l => v l * v l) fun l _ => (hv l).mul (hv l)
    have hr0 : 0 ≤ r := EReal.coe_nonneg.1 (hr ▸ Finset.sum_nonneg fun l _ => sq_nonneg (v l))
    rw [hr, ← EReal.coe_mul, ← EReal.coe_add]
    refine ((hv d).mul ?_).mul (hg d)
    have hp : 0 < r * (1024 : ℝ)⁻¹ + e := by positivity
    have : Ideal.rsqrt ((r * (1024 : ℝ)⁻¹ + e : ℝ) : EReal) = (((Real.sqrt (r * (1024 : ℝ)⁻¹ + e))⁻¹ : ℝ) : EReal) := by
      show (if r * (1024 : ℝ)⁻¹ + e < 0 then (⊥ : EReal) else if r * (1024 : ℝ)⁻¹ + e = 0 then ⊤ else _) = _
      rw [if_neg (not_lt.2 hp.le), if_neg hp.ne']
    rw [this]
    exact Re.coe _
  · obtain ⟨k, hk'⟩ := not_forall.1 hv
    have hsq : v k * v k = ⊤ := by
      generalize v k = x at hk'
      induction x using EReal.rec with
      | bot => rfl
      | top => rfl
      | coe r => exact absurd (Re.coe r) hk'
    have hsum : (∑ l : Fin 1024, v l * v l) = ⊤ := by
      refine top_le_iff.1 (hsq ▸ Finset.single_le_sum (f := fun l => v l * v l) (fun l _ => ?_) (Finset.mem_univ k))
      exact sq_nonneg (v l)
    rw [hsum, EReal.top_mul_coe_of_pos (by norm_num), EReal.top_add_coe, show Ideal.rsqrt (⊤ : EReal) = 0 from rfl, mul_zero, zero_mul]
    exact Re.zero

theorem logistic_re {x : EReal} (h : Re x) : Re (Ideal.logistic x) := by
  obtain ⟨r, rfl⟩ := h
  have e : Ideal.exp (-(r : EReal)) = ((Real.exp (-r) : ℝ) : EReal) := rfl
  show Re (Ideal.div 1 (1 + Ideal.exp (-(r : EReal))))
  rw [e, ← EReal.coe_one, ← EReal.coe_add, div_pos_real _ (by positivity), ← EReal.coe_mul]
  exact Re.coe _

/-- An expert's score: the logistic of the row's product with its column. -/
def score (h : Fin 1024 → EReal) (w : Fin 1024 → Fin 16 → EReal) (e : Fin 16) : EReal := Ideal.logistic (∑ d : Fin 1024, h d * w d e)

theorem score_re (h : Fin 1024 → EReal) (w : Fin 1024 → Fin 16 → EReal) (hh : ∀ d, Re (h d)) (hw : ∀ d e, Re (w d e)) (e : Fin 16) :
    Re (score h w e) := logistic_re (Re.sum fun d _ => (hh d).mul (hw d e))

/-- A number less itself, times anything, adds nothing. -/
theorem sub_self_re {x : EReal} (h : Re x) : x - x = 0 := by
  obtain ⟨r, rfl⟩ := h
  rw [← EReal.coe_sub, sub_self]; rfl

/-- The product of a row in two parts, the weight's second part and the row's zero. -/
theorem parts (h w w' : Fin 1024 → EReal) (hh : ∀ d, Re (h d)) (hw : ∀ d, w' d = 0) :
    (∑ d, h d * w d) + ((∑ d, h d * w' d) + ∑ d, (h d - h d) * w d) = ∑ d, h d * w d := by
  rw [Finset.sum_congr rfl fun d _ => (by rw [hw d, mul_zero] : h d * w' d = 0),
    Finset.sum_congr rfl fun d _ => (by rw [sub_self_re (hh d), zero_mul] : (h d - h d) * w d = 0)]
  simp

theorem ge_surj (e : Fin 16) : ∃ g k, e = ge g k :=
  ⟨⟨e.val / 4, by have := e.isLt; omega⟩, ⟨e.val % 4, Nat.mod_lt _ (by decide)⟩, Fin.ext (by show e.val = e.val / 4 * 4 + e.val % 4; omega)⟩

/-- How often an expert is chosen by a row: once or not at all. -/
def picked (s : Fin 16 → EReal) (e : Fin 16) : EReal := pick (exp1 s) e + pick (exp2 s) e

/-- How many of the rows of a tile before a row choose an expert. -/
def before (S : Fin 512 → Fin 16 → EReal) (r : Fin 512) (e : Fin 16) : EReal :=
  ∑ q : Fin 512, picked (S q) e * (if q < r then 1 else 0)

/-- The columns of a row's routing: the two weights, the two experts' numbers, the two experts' ranks, zeros. -/
def cols (s w b : Fin 16 → EReal) (c : ℕ) : EReal :=
  if c = 5 then b (exp2 s) else if c = 4 then b (exp1 s) else if c = 3 then lit (exp2 s).val else if c = 2 then lit (exp1 s).val
  else if c = 1 then Ideal.div (w (exp2 s)) (w (exp1 s) + w (exp2 s)) else if c = 0 then Ideal.div (w (exp1 s)) (w (exp1 s) + w (exp2 s)) else lit 0

/-- One number comes before another where it is larger, or equal and earlier. -/
theorem sel_beats (x y : EReal) (q : Prop) [Decidable q] :
    Scalar.select (IntOp.ori (Ideal.cmp .ogt x y) (IntOp.andi (Ideal.cmp .oeq x y) (BitVec.ofBool (decide q)))) (Ideal.ofBits .f32 0x3F800000#32)
      (Ideal.ofBits .f32 0x00000000#32) = if y < x ∨ (x = y ∧ q) then (1 : EReal) else 0 := by
  rw [bits_one, bits_zero, lit_one, lit_zero]
  by_cases h : y < x <;> by_cases h' : x = y <;> by_cases h'' : q <;> simp [Scalar.select, Ideal.cmp, IntOp.ori, IntOp.andi, h, h', h'']

/-- Both of two equalities. -/
theorem sel_both (x y z w : EReal) (a b : EReal) :
    Scalar.select (IntOp.andi (Ideal.cmp .oeq x y) (Ideal.cmp .oeq z w)) a b = if x = y ∧ z = w then a else b := by
  by_cases h : x = y <;> by_cases h' : z = w <;> simp [Scalar.select, Ideal.cmp, IntOp.andi, h, h']

theorem sel_lt (x y : EReal) (a b : EReal) : Scalar.select (Ideal.cmp .olt x y) a b = if x < y then a else b := by
  by_cases h : x < y <;> simp [Scalar.select, Ideal.cmp, h]

/-- Choosing by a number below a bound. -/
theorem sel_nat {α : Type} (c k : ℕ) (hc : c < 128) (hk : k < 128) (a b : α) :
    Scalar.select (IntOp.cmpi .eq (BitVec.ofNat 32 c) (BitVec.ofNat 32 k)) a b = if c = k then a else b := by
  have : BitVec.ofNat 32 c = BitVec.ofNat 32 k ↔ c = k := by
    rw [← BitVec.toNat_inj, BitVec.toNat_ofNat, BitVec.toNat_ofNat]; omega
  by_cases h : c = k
  · subst h; simp [Scalar.select, IntOp.cmpi]
  · have h' : ¬ BitVec.ofNat 32 c = BitVec.ofNat 32 k := fun e => h (this.1 e)
    have hb : (BitVec.ofNat 32 c == BitVec.ofNat 32 k) = false := beq_eq_false_iff_ne.2 h'
    simp [Scalar.select, IntOp.cmpi, h, hb]

theorem slt_nat (a b : ℕ) (ha : a < 512) (hb : b < 512) :
    IntOp.cmpi .slt (BitVec.ofNat 32 a) (BitVec.ofNat 32 b) = BitVec.ofBool (decide (a < b)) := by
  have : (BitVec.ofNat 32 a).slt (BitVec.ofNat 32 b) = decide (a < b) := by
    rw [BitVec.slt, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  simp [IntOp.cmpi, this]

theorem sel_bool {α : Type} (q : Prop) [Decidable q] (a b : α) : Scalar.select (BitVec.ofBool (decide q)) a b = if q then a else b := by
  by_cases h : q <;> simp [Scalar.select, h]

/-- A small number as a float. -/
theorem lit_int (n : ℕ) (h : n < 512) : (((BitVec.ofNat 32 n).toInt : ℝ) : EReal) = lit n := by
  rw [BitVec.toInt_eq_toNat_of_lt (by rw [BitVec.toNat_ofNat]; omega), BitVec.toNat_ofNat, Nat.mod_eq_of_lt (by omega)]
  simp [lit]

end Cert.Lane

end

end
-- ==== Proof.RouteKer.lean ====
/- The routing's payloads, read lane by lane: each of a row's numbers from the row's scores. -/
module

public import proofs.«01_k».proof.Proof.Gen.RouteIdeal.Frame
public import proofs.«01_k».proof.Proof.RouteSpec
public import Idealize.ShloMosaic.Lib.Pipeline.ValueKit

@[expose] public section

set_option maxRecDepth 16384

noncomputable section

namespace Cert.RouteIdeal.Hand

open Cert.RouteIdeal Cert.RouteIdeal.Gen Cert.Lane Cert.Reals
open Idealize.ShloMosaic Idealize.ShloMosaic.TcCoe

variable (lg : Vec Ideal S16x512 .f32) (bs : Vec Ideal S16x1 .f32) (r : Fin 512)

/-- A lane's scores from its products, -/
def kw (r : Fin 512) (e : Fin 16) : EReal := Ideal.logistic (lg (ix2 e r))

/-- and with the biases. -/
def ks (r : Fin 512) (e : Fin 16) : EReal := kw lg r e + bs (ix2 e 0)

theorem sel_0 : k0_pay22 (F := Ideal) lg bs (ix2 0 r) = ks lg bs r 0 := by
  pointwise [k0_pay22, k0_pay21, k0_pay20, ks, kw]
theorem sel_1 : k0_pay23 (F := Ideal) lg bs (ix2 0 r) = ks lg bs r 1 := by
  pointwise [k0_pay23, k0_pay21, k0_pay20, ks, kw]
theorem sel_2 : k0_pay24 (F := Ideal) lg bs (ix2 0 r) = ks lg bs r 2 := by
  pointwise [k0_pay24, k0_pay21, k0_pay20, ks, kw]
theorem sel_3 : k0_pay25 (F := Ideal) lg bs (ix2 0 r) = ks lg bs r 3 := by
  pointwise [k0_pay25, k0_pay21, k0_pay20, ks, kw]
theorem sel_4 : k0_pay26 (F := Ideal) lg bs (ix2 0 r) = ks lg bs r 4 := by
  pointwise [k0_pay26, k0_pay21, k0_pay20, ks, kw]
theorem sel_5 : k0_pay27 (F := Ideal) lg bs (ix2 0 r) = ks lg bs r 5 := by
  pointwise [k0_pay27, k0_pay21, k0_pay20, ks, kw]
theorem sel_6 : k0_pay28 (F := Ideal) lg bs (ix2 0 r) = ks lg bs r 6 := by
  pointwise [k0_pay28, k0_pay21, k0_pay20, ks, kw]
theorem sel_7 : k0_pay29 (F := Ideal) lg bs (ix2 0 r) = ks lg bs r 7 := by
  pointwise [k0_pay29, k0_pay21, k0_pay20, ks, kw]
theorem sel_8 : k0_pay30 (F := Ideal) lg bs (ix2 0 r) = ks lg bs r 8 := by
  pointwise [k0_pay30, k0_pay21, k0_pay20, ks, kw]
theorem sel_9 : k0_pay31 (F := Ideal) lg bs (ix2 0 r) = ks lg bs r 9 := by
  pointwise [k0_pay31, k0_pay21, k0_pay20, ks, kw]
theorem sel_10 : k0_pay32 (F := Ideal) lg bs (ix2 0 r) = ks lg bs r 10 := by
  pointwise [k0_pay32, k0_pay21, k0_pay20, ks, kw]
theorem sel_11 : k0_pay33 (F := Ideal) lg bs (ix2 0 r) = ks lg bs r 11 := by
  pointwise [k0_pay33, k0_pay21, k0_pay20, ks, kw]
theorem sel_12 : k0_pay34 (F := Ideal) lg bs (ix2 0 r) = ks lg bs r 12 := by
  pointwise [k0_pay34, k0_pay21, k0_pay20, ks, kw]
theorem sel_13 : k0_pay35 (F := Ideal) lg bs (ix2 0 r) = ks lg bs r 13 := by
  pointwise [k0_pay35, k0_pay21, k0_pay20, ks, kw]
theorem sel_14 : k0_pay36 (F := Ideal) lg bs (ix2 0 r) = ks lg bs r 14 := by
  pointwise [k0_pay36, k0_pay21, k0_pay20, ks, kw]
theorem sel_15 : k0_pay37 (F := Ideal) lg bs (ix2 0 r) = ks lg bs r 15 := by
  pointwise [k0_pay37, k0_pay21, k0_pay20, ks, kw]
theorem sco_0 : k0_pay38 (F := Ideal) lg (ix2 0 r) = kw lg r 0 := by
  pointwise [k0_pay38, k0_pay20, kw]
theorem sco_1 : k0_pay39 (F := Ideal) lg (ix2 0 r) = kw lg r 1 := by
  pointwise [k0_pay39, k0_pay20, kw]
theorem sco_2 : k0_pay40 (F := Ideal) lg (ix2 0 r) = kw lg r 2 := by
  pointwise [k0_pay40, k0_pay20, kw]
theorem sco_3 : k0_pay41 (F := Ideal) lg (ix2 0 r) = kw lg r 3 := by
  pointwise [k0_pay41, k0_pay20, kw]
theorem sco_4 : k0_pay42 (F := Ideal) lg (ix2 0 r) = kw lg r 4 := by
  pointwise [k0_pay42, k0_pay20, kw]
theorem sco_5 : k0_pay43 (F := Ideal) lg (ix2 0 r) = kw lg r 5 := by
  pointwise [k0_pay43, k0_pay20, kw]
theorem sco_6 : k0_pay44 (F := Ideal) lg (ix2 0 r) = kw lg r 6 := by
  pointwise [k0_pay44, k0_pay20, kw]
theorem sco_7 : k0_pay45 (F := Ideal) lg (ix2 0 r) = kw lg r 7 := by
  pointwise [k0_pay45, k0_pay20, kw]
theorem sco_8 : k0_pay46 (F := Ideal) lg (ix2 0 r) = kw lg r 8 := by
  pointwise [k0_pay46, k0_pay20, kw]
theorem sco_9 : k0_pay47 (F := Ideal) lg (ix2 0 r) = kw lg r 9 := by
  pointwise [k0_pay47, k0_pay20, kw]
theorem sco_10 : k0_pay48 (F := Ideal) lg (ix2 0 r) = kw lg r 10 := by
  pointwise [k0_pay48, k0_pay20, kw]
theorem sco_11 : k0_pay49 (F := Ideal) lg (ix2 0 r) = kw lg r 11 := by
  pointwise [k0_pay49, k0_pay20, kw]
theorem sco_12 : k0_pay50 (F := Ideal) lg (ix2 0 r) = kw lg r 12 := by
  pointwise [k0_pay50, k0_pay20, kw]
theorem sco_13 : k0_pay51 (F := Ideal) lg (ix2 0 r) = kw lg r 13 := by
  pointwise [k0_pay51, k0_pay20, kw]
theorem sco_14 : k0_pay52 (F := Ideal) lg (ix2 0 r) = kw lg r 14 := by
  pointwise [k0_pay52, k0_pay20, kw]
theorem sco_15 : k0_pay53 (F := Ideal) lg (ix2 0 r) = kw lg r 15 := by
  pointwise [k0_pay53, k0_pay20, kw]

theorem mark_0 : k0_pay54 (F := Ideal) lg bs (ix2 0 r) = mark (ks lg bs r) 0 := by
  have h : k0_pay54 (F := Ideal) lg bs (ix2 0 r) = hi (k0_pay22 (F := Ideal) lg bs (ix2 0 r)) (k0_pay23 (F := Ideal) lg bs (ix2 0 r)) (k0_pay24 (F := Ideal) lg bs (ix2 0 r)) (k0_pay25 (F := Ideal) lg bs (ix2 0 r))
      + lo (k0_pay22 (F := Ideal) lg bs (ix2 0 r)) (k0_pay23 (F := Ideal) lg bs (ix2 0 r)) (k0_pay24 (F := Ideal) lg bs (ix2 0 r)) (k0_pay25 (F := Ideal) lg bs (ix2 0 r)) := rfl
  rw [h, sel_0, sel_1, sel_2, sel_3]
  rfl

theorem mark_1 : k0_pay55 (F := Ideal) lg bs (ix2 0 r) = mark (ks lg bs r) 1 := by
  have h : k0_pay55 (F := Ideal) lg bs (ix2 0 r) = hi (k0_pay26 (F := Ideal) lg bs (ix2 0 r)) (k0_pay27 (F := Ideal) lg bs (ix2 0 r)) (k0_pay28 (F := Ideal) lg bs (ix2 0 r)) (k0_pay29 (F := Ideal) lg bs (ix2 0 r))
      + lo (k0_pay26 (F := Ideal) lg bs (ix2 0 r)) (k0_pay27 (F := Ideal) lg bs (ix2 0 r)) (k0_pay28 (F := Ideal) lg bs (ix2 0 r)) (k0_pay29 (F := Ideal) lg bs (ix2 0 r)) := rfl
  rw [h, sel_4, sel_5, sel_6, sel_7]
  rfl

/-- The best group's number by the chain of comparisons, -/
def kbest : Vec Ideal S1x512 .f32 := k0_pay61 (F := Ideal) (k0_pay34 (F := Ideal) lg bs) (k0_pay35 (F := Ideal) lg bs) (k0_pay36 (F := Ideal) lg bs) (k0_pay37 (F := Ideal) lg bs) (k0_pay54 (F := Ideal) lg bs)
  (k0_pay55 (F := Ideal) lg bs) (k0_pay58 (F := Ideal) lg bs) (k0_pay59 (F := Ideal) lg bs) (k0_pay60 (F := Ideal) lg bs)

theorem kbest_at : kbest lg bs (ix2 0 r) = lit (best (ks lg bs r)).val := by
  have h : kbest lg bs (ix2 0 r) = argf (k0_pay54 (F := Ideal) lg bs (ix2 0 r)) (k0_pay55 (F := Ideal) lg bs (ix2 0 r))
      (hi (k0_pay30 (F := Ideal) lg bs (ix2 0 r)) (k0_pay31 (F := Ideal) lg bs (ix2 0 r)) (k0_pay32 (F := Ideal) lg bs (ix2 0 r)) (k0_pay33 (F := Ideal) lg bs (ix2 0 r))
        + lo (k0_pay30 (F := Ideal) lg bs (ix2 0 r)) (k0_pay31 (F := Ideal) lg bs (ix2 0 r)) (k0_pay32 (F := Ideal) lg bs (ix2 0 r)) (k0_pay33 (F := Ideal) lg bs (ix2 0 r)))
      (hi (k0_pay34 (F := Ideal) lg bs (ix2 0 r)) (k0_pay35 (F := Ideal) lg bs (ix2 0 r)) (k0_pay36 (F := Ideal) lg bs (ix2 0 r)) (k0_pay37 (F := Ideal) lg bs (ix2 0 r))
        + lo (k0_pay34 (F := Ideal) lg bs (ix2 0 r)) (k0_pay35 (F := Ideal) lg bs (ix2 0 r)) (k0_pay36 (F := Ideal) lg bs (ix2 0 r)) (k0_pay37 (F := Ideal) lg bs (ix2 0 r))) := rfl
  rw [h, mark_0, mark_1, sel_8, sel_9, sel_10, sel_11, sel_12, sel_13, sel_14, sel_15]
  exact argf_first (mark (ks lg bs r))

/-- the chosen group's four biased scores, -/
def kcand0 : Vec Ideal S1x512 .f32 := k0_pay62 (F := Ideal) (k0_pay22 (F := Ideal) lg bs) (k0_pay26 (F := Ideal) lg bs) (k0_pay30 (F := Ideal) lg bs) (k0_pay34 (F := Ideal) lg bs) (k0_pay35 (F := Ideal) lg bs) (k0_pay36 (F := Ideal) lg bs) (k0_pay37 (F := Ideal) lg bs) (k0_pay54 (F := Ideal) lg bs) (k0_pay55 (F := Ideal) lg bs) (k0_pay58 (F := Ideal) lg bs) (k0_pay59 (F := Ideal) lg bs) (k0_pay60 (F := Ideal) lg bs)
def kcand1 : Vec Ideal S1x512 .f32 := k0_pay63 (F := Ideal) (k0_pay23 (F := Ideal) lg bs) (k0_pay27 (F := Ideal) lg bs) (k0_pay31 (F := Ideal) lg bs) (k0_pay34 (F := Ideal) lg bs) (k0_pay35 (F := Ideal) lg bs) (k0_pay36 (F := Ideal) lg bs) (k0_pay37 (F := Ideal) lg bs) (k0_pay54 (F := Ideal) lg bs) (k0_pay55 (F := Ideal) lg bs) (k0_pay58 (F := Ideal) lg bs) (k0_pay59 (F := Ideal) lg bs) (k0_pay60 (F := Ideal) lg bs)
def kcand2 : Vec Ideal S1x512 .f32 := k0_pay65 (F := Ideal) (k0_pay36 (F := Ideal) lg bs) (kbest lg bs) (k0_pay64 (F := Ideal) (k0_pay24 (F := Ideal) lg bs) (k0_pay28 (F := Ideal) lg bs) (k0_pay32 (F := Ideal) lg bs) (k0_pay34 (F := Ideal) lg bs) (k0_pay35 (F := Ideal) lg bs) (k0_pay36 (F := Ideal) lg bs) (k0_pay37 (F := Ideal) lg bs) (k0_pay54 (F := Ideal) lg bs) (k0_pay55 (F := Ideal) lg bs) (k0_pay58 (F := Ideal) lg bs) (k0_pay59 (F := Ideal) lg bs) (k0_pay60 (F := Ideal) lg bs)) (Scalar.ofBits .f32 0x40400000#32)
def kcand3 : Vec Ideal S1x512 .f32 := k0_pay66 (F := Ideal) (k0_pay25 (F := Ideal) lg bs) (k0_pay29 (F := Ideal) lg bs) (k0_pay33 (F := Ideal) lg bs) (k0_pay37 (F := Ideal) lg bs) (kbest lg bs)
theorem kcand0_at : kcand0 lg bs (ix2 0 r) = grp (ks lg bs r) (best (ks lg bs r)) 0 := by
  have h : kcand0 lg bs (ix2 0 r) = pickf (kbest lg bs (ix2 0 r)) (k0_pay22 (F := Ideal) lg bs (ix2 0 r)) (k0_pay26 (F := Ideal) lg bs (ix2 0 r)) (k0_pay30 (F := Ideal) lg bs (ix2 0 r)) (k0_pay34 (F := Ideal) lg bs (ix2 0 r)) := rfl
  rw [h, kbest_at, sel_0, sel_4, sel_8, sel_12]
  exact pickf_lit (best (ks lg bs r)) fun g => ks lg bs r (ge g 0)
theorem kcand1_at : kcand1 lg bs (ix2 0 r) = grp (ks lg bs r) (best (ks lg bs r)) 1 := by
  have h : kcand1 lg bs (ix2 0 r) = pickf (kbest lg bs (ix2 0 r)) (k0_pay23 (F := Ideal) lg bs (ix2 0 r)) (k0_pay27 (F := Ideal) lg bs (ix2 0 r)) (k0_pay31 (F := Ideal) lg bs (ix2 0 r)) (k0_pay35 (F := Ideal) lg bs (ix2 0 r)) := rfl
  rw [h, kbest_at, sel_1, sel_5, sel_9, sel_13]
  exact pickf_lit (best (ks lg bs r)) fun g => ks lg bs r (ge g 1)
theorem kcand2_at : kcand2 lg bs (ix2 0 r) = grp (ks lg bs r) (best (ks lg bs r)) 2 := by
  have h : kcand2 lg bs (ix2 0 r) = pickf (kbest lg bs (ix2 0 r)) (k0_pay24 (F := Ideal) lg bs (ix2 0 r)) (k0_pay28 (F := Ideal) lg bs (ix2 0 r)) (k0_pay32 (F := Ideal) lg bs (ix2 0 r)) (k0_pay36 (F := Ideal) lg bs (ix2 0 r)) := rfl
  rw [h, kbest_at, sel_2, sel_6, sel_10, sel_14]
  exact pickf_lit (best (ks lg bs r)) fun g => ks lg bs r (ge g 2)
theorem kcand3_at : kcand3 lg bs (ix2 0 r) = grp (ks lg bs r) (best (ks lg bs r)) 3 := by
  have h : kcand3 lg bs (ix2 0 r) = pickf (kbest lg bs (ix2 0 r)) (k0_pay25 (F := Ideal) lg bs (ix2 0 r)) (k0_pay29 (F := Ideal) lg bs (ix2 0 r)) (k0_pay33 (F := Ideal) lg bs (ix2 0 r)) (k0_pay37 (F := Ideal) lg bs (ix2 0 r)) := rfl
  rw [h, kbest_at, sel_3, sel_7, sel_11, sel_15]
  exact pickf_lit (best (ks lg bs r)) fun g => ks lg bs r (ge g 3)

/-- and its four scores, -/
def ksc0 : Vec Ideal S1x512 .f32 := k0_pay67 (F := Ideal) (k0_pay38 (F := Ideal) lg) (k0_pay42 (F := Ideal) lg) (k0_pay46 (F := Ideal) lg) (k0_pay50 (F := Ideal) lg) (kbest lg bs)
def ksc1 : Vec Ideal S1x512 .f32 := k0_pay68 (F := Ideal) (k0_pay39 (F := Ideal) lg) (k0_pay43 (F := Ideal) lg) (k0_pay47 (F := Ideal) lg) (k0_pay51 (F := Ideal) lg) (kbest lg bs)
def ksc2 : Vec Ideal S1x512 .f32 := k0_pay69 (F := Ideal) (k0_pay40 (F := Ideal) lg) (k0_pay44 (F := Ideal) lg) (k0_pay48 (F := Ideal) lg) (k0_pay52 (F := Ideal) lg) (kbest lg bs)
def ksc3 : Vec Ideal S1x512 .f32 := k0_pay71 (F := Ideal) (k0_pay53 (F := Ideal) lg) (kbest lg bs) (k0_pay70 (F := Ideal) (k0_pay41 (F := Ideal) lg) (k0_pay45 (F := Ideal) lg) (k0_pay49 (F := Ideal) lg) (kbest lg bs)) (Scalar.ofBits .f32 0x40400000#32)
theorem ksc0_at : ksc0 lg bs (ix2 0 r) = kw lg r (ge (best (ks lg bs r)) 0) := by
  have h : ksc0 lg bs (ix2 0 r) = pickf (kbest lg bs (ix2 0 r)) (k0_pay38 (F := Ideal) lg (ix2 0 r)) (k0_pay42 (F := Ideal) lg (ix2 0 r)) (k0_pay46 (F := Ideal) lg (ix2 0 r)) (k0_pay50 (F := Ideal) lg (ix2 0 r)) := rfl
  rw [h, kbest_at, sco_0, sco_4, sco_8, sco_12]
  exact pickf_lit (best (ks lg bs r)) fun g => kw lg r (ge g 0)
theorem ksc1_at : ksc1 lg bs (ix2 0 r) = kw lg r (ge (best (ks lg bs r)) 1) := by
  have h : ksc1 lg bs (ix2 0 r) = pickf (kbest lg bs (ix2 0 r)) (k0_pay39 (F := Ideal) lg (ix2 0 r)) (k0_pay43 (F := Ideal) lg (ix2 0 r)) (k0_pay47 (F := Ideal) lg (ix2 0 r)) (k0_pay51 (F := Ideal) lg (ix2 0 r)) := rfl
  rw [h, kbest_at, sco_1, sco_5, sco_9, sco_13]
  exact pickf_lit (best (ks lg bs r)) fun g => kw lg r (ge g 1)
theorem ksc2_at : ksc2 lg bs (ix2 0 r) = kw lg r (ge (best (ks lg bs r)) 2) := by
  have h : ksc2 lg bs (ix2 0 r) = pickf (kbest lg bs (ix2 0 r)) (k0_pay40 (F := Ideal) lg (ix2 0 r)) (k0_pay44 (F := Ideal) lg (ix2 0 r)) (k0_pay48 (F := Ideal) lg (ix2 0 r)) (k0_pay52 (F := Ideal) lg (ix2 0 r)) := rfl
  rw [h, kbest_at, sco_2, sco_6, sco_10, sco_14]
  exact pickf_lit (best (ks lg bs r)) fun g => kw lg r (ge g 2)
theorem ksc3_at : ksc3 lg bs (ix2 0 r) = kw lg r (ge (best (ks lg bs r)) 3) := by
  have h : ksc3 lg bs (ix2 0 r) = pickf (kbest lg bs (ix2 0 r)) (k0_pay41 (F := Ideal) lg (ix2 0 r)) (k0_pay45 (F := Ideal) lg (ix2 0 r)) (k0_pay49 (F := Ideal) lg (ix2 0 r)) (k0_pay53 (F := Ideal) lg (ix2 0 r)) := rfl
  rw [h, kbest_at, sco_3, sco_7, sco_11, sco_15]
  exact pickf_lit (best (ks lg bs r)) fun g => kw lg r (ge g 3)

/-- the two places chosen in it, -/
def kin1 : Vec Ideal S1x512 .f32 := k0_pay72 (F := Ideal) (kcand0 lg bs) (kcand1 lg bs) (kcand2 lg bs) (kcand3 lg bs)
def kin2 : Vec Ideal S1x512 .f32 := k0_pay73 (F := Ideal) (kcand0 lg bs) (kcand1 lg bs) (kcand2 lg bs) (kcand3 lg bs)

theorem kin1_at : kin1 lg bs (ix2 0 r) = lit (in1 (ks lg bs r)).val := by
  have h : kin1 lg bs (ix2 0 r) = argf (kcand0 lg bs (ix2 0 r)) (kcand1 lg bs (ix2 0 r)) (kcand2 lg bs (ix2 0 r)) (kcand3 lg bs (ix2 0 r)) := rfl
  rw [h, kcand0_at, kcand1_at, kcand2_at, kcand3_at]
  exact argf_first (grp (ks lg bs r) (best (ks lg bs r)))

theorem second (a b c d : Vec Ideal S1x512 .f32) (y : S1x512.Idx) : k0_pay73 (F := Ideal) a b c d y
    = argf (maskf (k0_pay72 (F := Ideal) a b c d y) 0x00000000#32 (a y)) (maskf (k0_pay72 (F := Ideal) a b c d y) 0x3F800000#32 (b y))
        (maskf (k0_pay72 (F := Ideal) a b c d y) 0x40000000#32 (c y)) (maskf (k0_pay72 (F := Ideal) a b c d y) 0x40400000#32 (d y)) := rfl

theorem kin2_at (hs : ∀ e, Re (ks lg bs r e)) : kin2 lg bs (ix2 0 r) = lit (in2 (ks lg bs r)).val := by
  have h : kin2 lg bs (ix2 0 r) = argf (maskf (kin1 lg bs (ix2 0 r)) 0x00000000#32 (kcand0 lg bs (ix2 0 r))) (maskf (kin1 lg bs (ix2 0 r)) 0x3F800000#32 (kcand1 lg bs (ix2 0 r)))
      (maskf (kin1 lg bs (ix2 0 r)) 0x40000000#32 (kcand2 lg bs (ix2 0 r))) (maskf (kin1 lg bs (ix2 0 r)) 0x40400000#32 (kcand3 lg bs (ix2 0 r))) := second _ _ _ _ _
  rw [h, kin1_at, kcand0_at, kcand1_at, kcand2_at, kcand3_at]
  exact next_lit (grp (ks lg bs r) (best (ks lg bs r))) (fun k => hs _) _

/-- the two weights, -/
def kw1 : Vec Ideal S1x512 .f32 := k0_pay77 (F := Ideal) (ksc0 lg bs) (ksc1 lg bs) (ksc2 lg bs) (ksc3 lg bs) (kin1 lg bs) (kin2 lg bs) (Scalar.ofBits .f32 0x3F800000#32)
def kw2 : Vec Ideal S1x512 .f32 := k0_pay78 (F := Ideal) (ksc0 lg bs) (ksc1 lg bs) (ksc2 lg bs) (ksc3 lg bs) (kin1 lg bs) (kin2 lg bs) (Scalar.ofBits .f32 0x3F800000#32)

theorem pick_sc (i : Fin 4) : pickf (lit i.val) (ksc0 lg bs (ix2 0 r)) (ksc1 lg bs (ix2 0 r)) (ksc2 lg bs (ix2 0 r)) (ksc3 lg bs (ix2 0 r)) = kw lg r (ge (best (ks lg bs r)) i) := by
  rw [ksc0_at, ksc1_at, ksc2_at, ksc3_at]
  exact pickf_lit i fun k => kw lg r (ge (best (ks lg bs r)) k)

theorem quot_1 (a b c d n m : Vec Ideal S1x512 .f32) (y : S1x512.Idx) : k0_pay77 (F := Ideal) a b c d n m (Scalar.ofBits .f32 0x3F800000#32) y
    = Ideal.div (pickf (n y) (a y) (b y) (c y) (d y)) (pickf (n y) (a y) (b y) (c y) (d y) + pickf (m y) (a y) (b y) (c y) (d y)) := rfl
theorem quot_2 (a b c d n m : Vec Ideal S1x512 .f32) (y : S1x512.Idx) : k0_pay78 (F := Ideal) a b c d n m (Scalar.ofBits .f32 0x3F800000#32) y
    = Ideal.div (pickf (m y) (a y) (b y) (c y) (d y)) (pickf (n y) (a y) (b y) (c y) (d y) + pickf (m y) (a y) (b y) (c y) (d y)) := rfl

theorem kw1_at (hs : ∀ e, Re (ks lg bs r e)) : kw1 lg bs (ix2 0 r)
    = Ideal.div (kw lg r (exp1 (ks lg bs r))) (kw lg r (exp1 (ks lg bs r)) + kw lg r (exp2 (ks lg bs r))) := by
  have h : kw1 lg bs (ix2 0 r) = Ideal.div (pickf (kin1 lg bs (ix2 0 r)) (ksc0 lg bs (ix2 0 r)) (ksc1 lg bs (ix2 0 r)) (ksc2 lg bs (ix2 0 r)) (ksc3 lg bs (ix2 0 r)))
      (pickf (kin1 lg bs (ix2 0 r)) (ksc0 lg bs (ix2 0 r)) (ksc1 lg bs (ix2 0 r)) (ksc2 lg bs (ix2 0 r)) (ksc3 lg bs (ix2 0 r))
        + pickf (kin2 lg bs (ix2 0 r)) (ksc0 lg bs (ix2 0 r)) (ksc1 lg bs (ix2 0 r)) (ksc2 lg bs (ix2 0 r)) (ksc3 lg bs (ix2 0 r))) := quot_1 _ _ _ _ _ _ _
  rw [h, kin1_at, kin2_at lg bs r hs, pick_sc, pick_sc]
  rfl

theorem kw2_at (hs : ∀ e, Re (ks lg bs r e)) : kw2 lg bs (ix2 0 r)
    = Ideal.div (kw lg r (exp2 (ks lg bs r))) (kw lg r (exp1 (ks lg bs r)) + kw lg r (exp2 (ks lg bs r))) := by
  have h : kw2 lg bs (ix2 0 r) = Ideal.div (pickf (kin2 lg bs (ix2 0 r)) (ksc0 lg bs (ix2 0 r)) (ksc1 lg bs (ix2 0 r)) (ksc2 lg bs (ix2 0 r)) (ksc3 lg bs (ix2 0 r)))
      (pickf (kin1 lg bs (ix2 0 r)) (ksc0 lg bs (ix2 0 r)) (ksc1 lg bs (ix2 0 r)) (ksc2 lg bs (ix2 0 r)) (ksc3 lg bs (ix2 0 r))
        + pickf (kin2 lg bs (ix2 0 r)) (ksc0 lg bs (ix2 0 r)) (ksc1 lg bs (ix2 0 r)) (ksc2 lg bs (ix2 0 r)) (ksc3 lg bs (ix2 0 r))) := quot_2 _ _ _ _ _ _ _
  rw [h, kin1_at, kin2_at lg bs r hs, pick_sc, pick_sc]
  rfl

/-- the two experts' numbers, -/
def ke1 : Vec Ideal S1x512 .f32 := k0_pay79 (F := Ideal) (kbest lg bs) (kin1 lg bs)
def ke2 : Vec Ideal S1x512 .f32 := k0_pay80 (F := Ideal) (kbest lg bs) (kin2 lg bs)

theorem ke1_at : ke1 lg bs (ix2 0 r) = lit (exp1 (ks lg bs r)).val := by
  have h : ke1 lg bs (ix2 0 r) = kbest lg bs (ix2 0 r) * Ideal.ofBits .f32 0x40800000#32 + kin1 lg bs (ix2 0 r) := rfl
  rw [h, kbest_at, kin1_at, bits_four, lit_exp]
  rfl

theorem ke2_at (hs : ∀ e, Re (ks lg bs r e)) : ke2 lg bs (ix2 0 r) = lit (exp2 (ks lg bs r)).val := by
  have h : ke2 lg bs (ix2 0 r) = kbest lg bs (ix2 0 r) * Ideal.ofBits .f32 0x40800000#32 + kin2 lg bs (ix2 0 r) := rfl
  rw [h, kbest_at, kin2_at lg bs r hs, bits_four, lit_exp]
  rfl

/-- the choices as ones and zeros, -/
def kp1 : Vec Ideal S16x512 .f32 := k0_pay82 (F := Ideal) (kbest lg bs) (kin1 lg bs)
def kp2 : Vec Ideal S16x512 .f32 := k0_pay83 (F := Ideal) (kbest lg bs) (kin2 lg bs)

theorem sel_pick (a b : Fin 16) : Scalar.select (Ideal.cmp .oeq (lit a.val) (lit b.val)) (Ideal.ofBits .f32 0x3F800000#32) (Ideal.ofBits .f32 0x00000000#32) = pick b a := by
  rw [sel_eq, bits_one, bits_zero, lit_zero, lit_one]
  unfold pick
  exact if_congr (lit_inj.trans Fin.ext_iff.symm) rfl rfl

theorem iota_at (e : Fin 16) : k0_pay81 (F := Ideal) (ix2 e r) = lit e.val := by
  refine Eq.trans ?_ (lit_int e.val (by have := e.isLt; omega))
  pointwise [k0_pay81]
  rfl

theorem spread (v : Vec Ideal S1x512 .f32) (e : Fin 16) : broadcastTo S16x512 v broadcasts_S1x512_S16x512 (ix2 e r) = v (ix2 0 r) := by
  pointwise []

theorem kp1_at (e : Fin 16) : kp1 lg bs (ix2 e r) = pick (exp1 (ks lg bs r)) e := by
  have h : kp1 lg bs (ix2 e r) = Scalar.select (Ideal.cmp .oeq (k0_pay81 (F := Ideal) (ix2 e r)) (broadcastTo S16x512 (ke1 lg bs) broadcasts_S1x512_S16x512 (ix2 e r)))
      (Ideal.ofBits .f32 0x3F800000#32) (Ideal.ofBits .f32 0x00000000#32) := rfl
  rw [h, spread, iota_at, ke1_at, sel_pick]

theorem kp2_at (hs : ∀ e, Re (ks lg bs r e)) (e : Fin 16) : kp2 lg bs (ix2 e r) = pick (exp2 (ks lg bs r)) e := by
  have h : kp2 lg bs (ix2 e r) = Scalar.select (Ideal.cmp .oeq (k0_pay81 (F := Ideal) (ix2 e r)) (broadcastTo S16x512 (ke2 lg bs) broadcasts_S1x512_S16x512 (ix2 e r)))
      (Ideal.ofBits .f32 0x3F800000#32) (Ideal.ofBits .f32 0x00000000#32) := rfl
  rw [h, spread, iota_at, ke2_at lg bs r hs, sel_pick]

def kpk : Vec Ideal S16x512 .f32 := k0_pay84 (F := Ideal) (kbest lg bs) (kin1 lg bs) (kin2 lg bs)

theorem kpk_at (hs : ∀ e, Re (ks lg bs r e)) (e : Fin 16) : kpk lg bs (ix2 e r) = picked (ks lg bs r) e := by
  have h : kpk lg bs (ix2 e r) = kp1 lg bs (ix2 e r) + kp2 lg bs (ix2 e r) := rfl
  rw [h, kp1_at, kp2_at lg bs r hs]
  rfl

/-- the choices of the earlier rows, -/
def kbf (tri : Vec Ideal S512x512 .bf16) : Vec Ideal S16x512 .f32 := k0_pay85 (F := Ideal) (kbest lg bs) (kin1 lg bs) (kin2 lg bs) tri

theorem kbf_sum (tri : Vec Ideal S512x512 .bf16) (e : Fin 16) : kbf lg bs tri (ix2 e r) = ∑ q : Fin 512, kpk lg bs (ix2 e q) * tri (ix2 q r) := by
  unfold kbf
  pointwise [k0_pay85, kpk]

theorem kbf_at (tri : Vec Ideal S512x512 .bf16) (ht : ∀ q r : Fin 512, tri (ix2 q r) = if q < r then (1 : EReal) else 0)
    (hs : ∀ r e, Re (ks lg bs r e)) (e : Fin 16) : kbf lg bs tri (ix2 e r) = before (ks lg bs) r e := by
  rw [kbf_sum]
  refine Finset.sum_congr rfl fun q _ => ?_
  rw [kpk_at lg bs q (hs q), ht]

/-- The choices counted over the lanes. -/
theorem counts_at (v : Vec Ideal S16x512 .f32) (z : Fin 1) (e : Fin 16) (l : Fin 128) : k0_pay87 (F := Ideal) v (ix3 z e l) = ∑ q : Fin 512, v (ix2 e q) := by
  pointwise [k0_pay87]

/-- The columns chosen by their number. -/
theorem cols_at (w1 w2 e1 e2 : Vec Ideal S1x512 .f32) (p2 bf p1 : Vec Ideal S16x512 .f32) (c : Fin 128) :
    k0_pay88 (F := Ideal) w1 w2 e1 e2 p2 bf p1 (ix2 c r) = if c.val = 5 then ∑ e : Fin 16, p2 (ix2 e r) * bf (ix2 e r) else if c.val = 4 then ∑ e : Fin 16, p1 (ix2 e r)
      else if c.val = 3 then e2 (ix2 0 r) else if c.val = 2 then e1 (ix2 0 r) else if c.val = 1 then w2 (ix2 0 r) else if c.val = 0 then w1 (ix2 0 r) else lit 0 := by
  have hc := c.isLt
  rw [← sel_nat c.val 5 hc (by decide), ← sel_nat c.val 4 hc (by decide), ← sel_nat c.val 3 hc (by decide), ← sel_nat c.val 2 hc (by decide),
    ← sel_nat c.val 1 hc (by decide), ← sel_nat c.val 0 hc (by decide), ← bits_zero]
  pointwise [k0_pay88]

theorem cols_t (w1 w2 e1 e2 : Vec Ideal S1x512 .f32) (p2 bf p1 : Vec Ideal S16x512 .f32) (c : Fin 128) :
    k0_pay89 (F := Ideal) w1 w2 e1 e2 p2 bf p1 (ix2 r c) = k0_pay88 (F := Ideal) w1 w2 e1 e2 p2 bf p1 (ix2 c r) := by
  unfold k0_pay89
  generalize k0_pay88 (F := Ideal) w1 w2 e1 e2 p2 bf p1 = v
  pointwise []

theorem cols_r (v : Vec Ideal S128x512 .f32) (z : Fin 1) (c : Fin 8) : k0_pay1 (F := Ideal) v (ix3 z c r) = v (ix2 (⟨c.val, by have := c.isLt; omega⟩ : Fin 128) r) := by
  pointwise [k0_pay1]

/-- The columns of a lane's routing. -/
theorem lane_cols (tri : Vec Ideal S512x512 .bf16) (ht : ∀ q r : Fin 512, tri (ix2 q r) = if q < r then (1 : EReal) else 0)
    (hs : ∀ r e, Re (ks lg bs r e)) (c : Fin 128) :
    k0_pay88 (F := Ideal) (kw1 lg bs) (kw2 lg bs) (ke1 lg bs) (ke2 lg bs) (kp2 lg bs) (kbf lg bs tri) (k0_pay86 (F := Ideal) (kbest lg bs) (kin1 lg bs) (kin2 lg bs) tri) (ix2 c r)
      = cols (ks lg bs r) (kw lg r) (before (ks lg bs) r) c.val := by
  rw [cols_at, kw1_at lg bs r (hs r), kw2_at lg bs r (hs r), ke1_at, ke2_at lg bs r (hs r)]
  have h1 : (∑ e : Fin 16, k0_pay86 (F := Ideal) (kbest lg bs) (kin1 lg bs) (kin2 lg bs) tri (ix2 e r)) = before (ks lg bs) r (exp1 (ks lg bs r)) := by
    rw [← pick_sum (exp1 (ks lg bs r)) (before (ks lg bs) r)]
    refine Finset.sum_congr rfl fun e _ => ?_
    rw [← kp1_at, ← kbf_at lg bs r tri ht hs]
    rfl
  have h2 : (∑ e : Fin 16, kp2 lg bs (ix2 e r) * kbf lg bs tri (ix2 e r)) = before (ks lg bs) r (exp2 (ks lg bs r)) := by
    rw [← pick_sum (exp2 (ks lg bs r)) (before (ks lg bs) r)]
    refine Finset.sum_congr rfl fun e _ => ?_
    rw [kp2_at lg bs r (hs r), kbf_at lg bs r tri ht hs]
  rw [h1, h2]
  rfl

end Cert.RouteIdeal.Hand

end

end
-- ==== Proof.RouteRead.lean ====
/- The routing's reference, its rows of the merge read at an index: the row of `RouteCell` from the arguments' rows. -/
module

public import proofs.«01_k».proof.Proof.Gen.RouteRefIdeal.Read
public import proofs.«01_k».proof.Proof.MergeRead
public import Idealize.ShloMosaic.Lib.Pipeline.ValueKit

@[expose] public section

set_option maxRecDepth 16384

noncomputable section

namespace Cert.RouteRefIdeal.Hand

open Cert.RouteRefIdeal Cert.RouteRefIdeal.Gen Cert.RouteRefIdeal.Read
open Idealize.ShloMosaic Idealize.ShloMosaic.TcCoe Idealize.SL.Sem
open Cert.MergeIdeal.Hand (mix xrow hrow)
open Cert.MergeRefIdeal.Hand (gcol xref)

variable (x0 x1 x2 : (⟨S32768x512, .bf16⟩ : BufTy).Contents (Elt Ideal)) (x3 : (⟨S32768x7168, .bf16⟩ : BufTy).Contents (Elt Ideal))
  (x4 : (⟨S32768x1024, .f32⟩ : BufTy).Contents (Elt Ideal)) (x5 : (⟨S3x512x1024, .f32⟩ : BufTy).Contents (Elt Ideal))
  (x6 : (⟨S1024x1024, .f32⟩ : BufTy).Contents (Elt Ideal)) (x7 : (⟨S1024, .f32⟩ : BufTy).Contents (Elt Ideal))

theorem gate (i : Fin 32768) (b : Fin 3) (k : Fin 1024) : val_main_v8 (F := Ideal) x3 (ix3 i b k) = Ideal.logistic (x3 (ix2 i (gcol b k))) := by
  have e : idx_main_v0 (idx_main_v2 (ix3 i b k)) = ix2 i (gcol b k) := by
    have hb := b.isLt; have hk := k.isLt
    refine funext fun a => Fin.ext ?_
    match a with
    | ⟨0, _⟩ => show ((i.val * 3 + b.val) * 1024 + k.val) / 3072 = i.val; omega
    | ⟨1, _⟩ => show 4096 + ((i.val * 3 + b.val) * 1024 + k.val) % 3072 = 4096 + b.val * 1024 + k.val; omega
  rw [val_main_v8_apply, val_main_v7_apply, val_main_v6_apply, val_main_v5_apply, val_main_v4_apply, val_main_v3_apply, val_main_v2_apply,
    val_main_v1_apply, val_main_v0_apply, e]
  pointwise [val_main_cst, val_main_cst_0]
  rfl

theorem gate_a (i : Fin 32768) (k : Fin 1024) : val_main_v10 (F := Ideal) x3 (ix2 i k) = Ideal.logistic (x3 (ix2 i (gcol 0 k))) := by
  have e : idx_main_v9 (idx_main_v10 (ix2 i k)) = ix3 i 0 k := by
    have hk := k.isLt
    refine funext fun a => Fin.ext ?_
    match a with
    | ⟨0, _⟩ => show (i.val * 1024 + k.val) / 1024 = i.val; omega
    | ⟨1, _⟩ => rfl
    | ⟨2, _⟩ => show (i.val * 1024 + k.val) % 1024 = k.val; omega
  rw [val_main_v10_apply, val_main_v9_apply, e, gate]

theorem gate_b (i : Fin 32768) (k : Fin 1024) : val_main_v17 (F := Ideal) x3 (ix2 i k) = Ideal.logistic (x3 (ix2 i (gcol 1 k))) := by
  have e : idx_main_v16 (idx_main_v17 (ix2 i k)) = ix3 i 1 k := by
    have hk := k.isLt
    refine funext fun a => Fin.ext ?_
    match a with
    | ⟨0, _⟩ => show (i.val * 1024 + k.val) / 1024 = i.val; omega
    | ⟨1, _⟩ => rfl
    | ⟨2, _⟩ => show (i.val * 1024 + k.val) % 1024 = k.val; omega
  rw [val_main_v17_apply, val_main_v16_apply, e, gate]

theorem gate_c (i : Fin 32768) (k : Fin 1024) : val_main_v25 (F := Ideal) x3 (ix2 i k) = Ideal.logistic (x3 (ix2 i (gcol 2 k))) := by
  have e : idx_main_v24 (idx_main_v25 (ix2 i k)) = ix3 i 2 k := by
    have hk := k.isLt
    refine funext fun a => Fin.ext ?_
    match a with
    | ⟨0, _⟩ => show (i.val * 1024 + k.val) / 1024 = i.val; omega
    | ⟨1, _⟩ => rfl
    | ⟨2, _⟩ => show (i.val * 1024 + k.val) % 1024 = k.val; omega
  rw [val_main_v25_apply, val_main_v24_apply, e, gate]

theorem branch_a (i : Fin 32768) (k : Fin 1024) : val_main_v14 (F := Ideal) x0 x5 (ix2 i k) = ∑ j : Fin 512, (x0 (ix2 i j) : EReal) * x5 (ix3 0 j k) := by
  rw [val_main_v14_apply]
  refine Finset.sum_congr rfl fun j _ => ?_
  have e : idx_main_v12 (idx_main_v13 (ridx_main_v14 (ix2 i k) j)) = ix3 0 j k := by
    have hk := k.isLt
    have hj := j.isLt
    refine funext fun a => Fin.ext ?_
    match a with
    | ⟨0, _⟩ => rfl
    | ⟨1, _⟩ => show (j.val * 1024 + k.val) / 1024 % 512 = j.val; omega
    | ⟨2, _⟩ => show (j.val * 1024 + k.val) % 1024 = k.val; omega
  have l : lidx_main_v14 (ix2 i k) j = ix2 i j := by
    refine funext fun a => Fin.ext ?_
    match a with
    | ⟨0, _⟩ => rfl
    | ⟨1, _⟩ => rfl
  rw [val_main_v13_apply, val_main_v12_apply, e, l, val_main_v11_apply]
  rfl

theorem branch_b (i : Fin 32768) (k : Fin 1024) : val_main_v21 (F := Ideal) x1 x5 (ix2 i k) = ∑ j : Fin 512, (x1 (ix2 i j) : EReal) * x5 (ix3 1 j k) := by
  rw [val_main_v21_apply]
  refine Finset.sum_congr rfl fun j _ => ?_
  have e : idx_main_v19 (idx_main_v20 (ridx_main_v21 (ix2 i k) j)) = ix3 1 j k := by
    have hk := k.isLt
    have hj := j.isLt
    refine funext fun a => Fin.ext ?_
    match a with
    | ⟨0, _⟩ => rfl
    | ⟨1, _⟩ => show (j.val * 1024 + k.val) / 1024 % 512 = j.val; omega
    | ⟨2, _⟩ => show (j.val * 1024 + k.val) % 1024 = k.val; omega
  have l : lidx_main_v21 (ix2 i k) j = ix2 i j := by
    refine funext fun a => Fin.ext ?_
    match a with
    | ⟨0, _⟩ => rfl
    | ⟨1, _⟩ => rfl
  rw [val_main_v20_apply, val_main_v19_apply, e, l, val_main_v18_apply]
  rfl

theorem branch_c (i : Fin 32768) (k : Fin 1024) : val_main_v29 (F := Ideal) x2 x5 (ix2 i k) = ∑ j : Fin 512, (x2 (ix2 i j) : EReal) * x5 (ix3 2 j k) := by
  rw [val_main_v29_apply]
  refine Finset.sum_congr rfl fun j _ => ?_
  have e : idx_main_v27 (idx_main_v28 (ridx_main_v29 (ix2 i k) j)) = ix3 2 j k := by
    have hk := k.isLt
    have hj := j.isLt
    refine funext fun a => Fin.ext ?_
    match a with
    | ⟨0, _⟩ => rfl
    | ⟨1, _⟩ => show (j.val * 1024 + k.val) / 1024 % 512 = j.val; omega
    | ⟨2, _⟩ => show (j.val * 1024 + k.val) % 1024 = k.val; omega
  have l : lidx_main_v29 (ix2 i k) j = ix2 i j := by
    refine funext fun a => Fin.ext ?_
    match a with
    | ⟨0, _⟩ => rfl
    | ⟨1, _⟩ => rfl
  rw [val_main_v28_apply, val_main_v27_apply, e, l, val_main_v26_apply]
  rfl

theorem ref_x (i : Fin 32768) (d : Fin 1024) : val_main_v33 (F := Ideal) x0 x1 x2 x3 x4 x5 x6 (ix2 i d) = xref x0 x1 x2 x3 x4 x5 x6 i d := by
  rw [val_main_v33_apply, val_main_v32_apply]
  unfold xref xrow
  refine congrArg (fun z => (x4 (ix2 i d) : EReal) + z) (Finset.sum_congr rfl fun k _ => ?_)
  have l : lidx_main_v32 (ix2 i d) k = ix2 i k := by
    refine funext fun a => Fin.ext ?_
    match a with
    | ⟨0, _⟩ => rfl
    | ⟨1, _⟩ => rfl
  have r : ridx_main_v32 (ix2 i d) k = ix2 k d := by
    refine funext fun a => Fin.ext ?_
    match a with
    | ⟨0, _⟩ => rfl
    | ⟨1, _⟩ => rfl
  rw [l, r, val_main_v31_apply, val_main_v30_apply, val_main_v23_apply, val_main_v22_apply, val_main_v15_apply, gate_a, gate_b, gate_c,
    branch_a, branch_b, branch_c]
  rfl

/-- The scaled row. -/
theorem ref_h (i : Fin 32768) (d : Fin 1024) :
    val_main_v46 (F := Ideal) x0 x1 x2 x3 x4 x5 x6 x7 (ix2 i d) = hrow (xref x0 x1 x2 x3 x4 x5 x6 i) (fun k => x7 (ix1 k)) d := by
  rw [val_main_v46_apply, val_main_v45_apply, val_main_v44_apply, val_main_v43_apply, val_main_v42_apply, val_main_v41_apply,
    val_main_v40_apply, val_main_v39_apply, val_main_v38_apply, val_main_v37_apply, val_main_v36_apply, val_main_v35_apply, ref_x]
  have e : ∀ l : Fin 1024, val_main_v34 (F := Ideal) x0 x1 x2 x3 x4 x5 x6
      (idx_main_v35 (idx_main_v36 (idx_main_v42 (ix2 i d))) l) = xref x0 x1 x2 x3 x4 x5 x6 i l * xref x0 x1 x2 x3 x4 x5 x6 i l := by
    intro l
    rw [val_main_v34_apply, show idx_main_v35 (idx_main_v36 (idx_main_v42 (ix2 i d))) l = ix2 i l from funext fun a => Fin.ext (by
      match a with
      | ⟨0, _⟩ => rfl
      | ⟨1, _⟩ => rfl), ref_x]
    rfl
  rw [Finset.sum_congr rfl fun l _ => e l, show idx_main_v44 (idx_main_v45 (ix2 i d)) = ix1 d from funext fun a => Fin.ext (by
      match a with
      | ⟨0, _⟩ => rfl)]
  pointwise [val_main_cst_1, val_main_cst_2, val_main_cst_3, hrow]

end Cert.RouteRefIdeal.Hand

end

end
-- ==== Proof.RouteScore.lean ====
/- The routing's reference, read row by row: each row's scores, the places its comparisons count, the two experts they choose. -/
module

public import proofs.«01_k».proof.Proof.RouteRead
public import proofs.«01_k».proof.Proof.RouteSpec

@[expose] public section

set_option maxRecDepth 16384

noncomputable section

namespace Cert.RouteRefIdeal.Hand

open Cert.RouteRefIdeal Cert.RouteRefIdeal.Read Cert.Lane
open Cert.MergeIdeal.Hand (hrow)
open Cert.MergeRefIdeal.Hand (xref)
open Idealize.ShloMosaic

variable (x0 x1 x2 : (⟨S32768x512, .bf16⟩ : BufTy).Contents (Elt Ideal)) (x3 : (⟨S32768x7168, .bf16⟩ : BufTy).Contents (Elt Ideal)) (x4 : (⟨S32768x1024, .f32⟩ : BufTy).Contents (Elt Ideal)) (x5 : (⟨S3x512x1024, .f32⟩ : BufTy).Contents (Elt Ideal)) (x6 : (⟨S1024x1024, .f32⟩ : BufTy).Contents (Elt Ideal)) (x7 : (⟨S1024, .f32⟩ : BufTy).Contents (Elt Ideal)) (x8 : (⟨S1024x16, .f32⟩ : BufTy).Contents (Elt Ideal)) (x9 : (⟨S16, .f32⟩ : BufTy).Contents (Elt Ideal))

/-- A row's scores, -/
def sc (i : Fin 32768) (e : Fin 16) : EReal := score (hrow (xref x0 x1 x2 x3 x4 x5 x6 i) fun k => x7 (ix1 k)) (fun d e => x8 (ix2 d e)) e

/-- and with the biases, which the choice is by. -/
def sl (i : Fin 32768) (e : Fin 16) : EReal := sc x0 x1 x2 x3 x4 x5 x6 x7 x8 i e + x9 (ix1 e)

theorem ref_sc (i : Fin 32768) (e : Fin 16) : val_main_v53 (F := Ideal) x0 x1 x2 x3 x4 x5 x6 x7 x8 (ix2 i e) = sc x0 x1 x2 x3 x4 x5 x6 x7 x8 i e := by
  have h : val_main_v47 (F := Ideal) x0 x1 x2 x3 x4 x5 x6 x7 x8 (ix2 i e) = ∑ d : Fin 1024, hrow (xref x0 x1 x2 x3 x4 x5 x6 i) (fun k => x7 (ix1 k)) d * x8 (ix2 d e) := by
    rw [val_main_v47_apply]
    refine Finset.sum_congr rfl fun d _ => ?_
    rw [show lidx_main_v47 (ix2 i e) d = ix2 i d from funext fun a => Fin.ext (by
      match a with
      | ⟨0, _⟩ => rfl
      | ⟨1, _⟩ => rfl), show ridx_main_v47 (ix2 i e) d = ix2 d e from funext fun a => Fin.ext (by
      match a with
      | ⟨0, _⟩ => rfl
      | ⟨1, _⟩ => rfl), ref_h]
  show Ideal.div (Ideal.ofBits .f32 0x3F800000#32) (Ideal.ofBits .f32 0x3F800000#32 + Ideal.exp (-(val_main_v47 (F := Ideal) x0 x1 x2 x3 x4 x5 x6 x7 x8 (ix2 i e)))) = _
  rw [h, bits_one, lit_one]
  rfl

theorem ref_v56 (i : Fin 32768) (e : Fin 16) : val_main_v56 (F := Ideal) x0 x1 x2 x3 x4 x5 x6 x7 x8 x9 (ix2 i e) = sl x0 x1 x2 x3 x4 x5 x6 x7 x8 x9 i e := by
  rw [val_main_v56_apply, ref_sc, val_main_v55_apply, val_main_v54_apply]
  exact congrArg (fun z => sc x0 x1 x2 x3 x4 x5 x6 x7 x8 i e + x9 z) (funext fun a => Fin.ext (by
      match a with
      | ⟨0, _⟩ => rfl))

theorem ref_sl (i : Fin 32768) (g k : Fin 4) : val_main_v57 (F := Ideal) x0 x1 x2 x3 x4 x5 x6 x7 x8 x9 (ix3 i g k) = grp (sl x0 x1 x2 x3 x4 x5 x6 x7 x8 x9 i) g k := by
  have := g.isLt
  have := k.isLt
  rw [val_main_v57_apply, show idx_main_v57 (ix3 i g k) = ix2 i (ge g k) from funext fun a => Fin.ext (by
      match a with
      | ⟨0, _⟩ => show ((i.val * 4 + g.val) * 4 + k.val) / 16 = i.val; omega
      | ⟨1, _⟩ => show ((i.val * 4 + g.val) * 4 + k.val) % 16 = g.val * 4 + k.val; omega), ref_v56]
  rfl

/-- The places within a group, -/
theorem ref_place (i : Fin 32768) (g a : Fin 4) : val_main_v79 (F := Ideal) x0 x1 x2 x3 x4 x5 x6 x7 x8 x9 (ix3 i g a) = lit (place (grp (sl x0 x1 x2 x3 x4 x5 x6 x7 x8 x9 i) g) a) := by
  rw [val_main_v79_apply, ← place_sum]
  refine Eq.trans (congrArg₂ (· + ·) (bits_zero.trans lit_zero) (Finset.sum_congr rfl fun b _ => ?_)) (zero_add _)
  have e64 : val_main_v64 (F := Ideal) x0 x1 x2 x3 x4 x5 x6 x7 x8 x9 (ix4 i g a b) = grp (sl x0 x1 x2 x3 x4 x5 x6 x7 x8 x9 i) g b := by
    rw [val_main_v64_apply, val_main_v63_apply, ← ref_sl]; exact congrArg _ (funext fun a => Fin.ext (by
      match a with
      | ⟨0, _⟩ => rfl
      | ⟨1, _⟩ => rfl
      | ⟨2, _⟩ => rfl))
  have e65 : val_main_v65 (F := Ideal) x0 x1 x2 x3 x4 x5 x6 x7 x8 x9 (ix4 i g a b) = grp (sl x0 x1 x2 x3 x4 x5 x6 x7 x8 x9 i) g a := by
    rw [val_main_v65_apply, val_main_v62_apply, ← ref_sl]; exact congrArg _ (funext fun a => Fin.ext (by
      match a with
      | ⟨0, _⟩ => rfl
      | ⟨1, _⟩ => rfl
      | ⟨2, _⟩ => rfl))
  have e67 : val_main_v67 (F := Ideal) x0 x1 x2 x3 x4 x5 x6 x7 x8 x9 (ix4 i g a b) = grp (sl x0 x1 x2 x3 x4 x5 x6 x7 x8 x9 i) g b := by
    rw [val_main_v67_apply, val_main_v63_apply, ← ref_sl]; exact congrArg _ (funext fun a => Fin.ext (by
      match a with
      | ⟨0, _⟩ => rfl
      | ⟨1, _⟩ => rfl
      | ⟨2, _⟩ => rfl))
  have e68 : val_main_v68 (F := Ideal) x0 x1 x2 x3 x4 x5 x6 x7 x8 x9 (ix4 i g a b) = grp (sl x0 x1 x2 x3 x4 x5 x6 x7 x8 x9 i) g a := by
    rw [val_main_v68_apply, val_main_v62_apply, ← ref_sl]; exact congrArg _ (funext fun a => Fin.ext (by
      match a with
      | ⟨0, _⟩ => rfl
      | ⟨1, _⟩ => rfl
      | ⟨2, _⟩ => rfl))
  have e74 : val_main_v74 (F := Ideal) (ix4 i g a b) = BitVec.ofBool (decide (b < a)) := by
    rw [val_main_v74_apply, val_main_v73_apply, val_main_v72_apply, val_main_v70_apply, val_main_v71_apply, val_main_v61_apply, val_main_v59_apply, val_main_v60_apply, val_main_v58_apply]
    exact slt_nat _ _ (by have := b.isLt; show b.val < 512; omega) (by have := a.isLt; show a.val < 512; omega)
  rw [show idx_main_v79 (ix3 i g a) b = ix4 i g a b from funext fun a => Fin.ext (by
      match a with
      | ⟨0, _⟩ => rfl
      | ⟨1, _⟩ => rfl
      | ⟨2, _⟩ => rfl
      | ⟨3, _⟩ => rfl)]
  rw [val_main_v78_apply, val_main_v77_apply, val_main_v76_apply, val_main_v75_apply, val_main_v66_apply, val_main_v69_apply, e64, e65, e67, e68, e74,
    val_main_call0_v0_apply, val_main_call0_v1_apply]
  refine Eq.trans ?_ (sel_beats (grp (sl x0 x1 x2 x3 x4 x5 x6 x7 x8 x9 i) g b) (grp (sl x0 x1 x2 x3 x4 x5 x6 x7 x8 x9 i) g a) (b < a))
  rfl

/-- the groups' marks, -/
theorem ref_mark (i : Fin 32768) (g : Fin 4) : val_main_v83 (F := Ideal) x0 x1 x2 x3 x4 x5 x6 x7 x8 x9 (ix2 i g) = mark (sl x0 x1 x2 x3 x4 x5 x6 x7 x8 x9 i) g := by
  rw [val_main_v83_apply, ← mark_eq]
  refine Eq.trans (congrArg₂ (· + ·) (bits_zero.trans lit_zero) (Finset.sum_congr rfl fun k _ => ?_)) (zero_add _)
  rw [show idx_main_v83 (ix2 i g) k = ix3 i g k from funext fun a => Fin.ext (by
      match a with
      | ⟨0, _⟩ => rfl
      | ⟨1, _⟩ => rfl
      | ⟨2, _⟩ => rfl)]
  rw [val_main_v82_apply, val_main_v81_apply, ref_place, ref_sl, val_main_v80_apply, val_main_call1_v1_apply, val_main_call1_v0_apply]
  refine Eq.trans (sel_lt _ _ _ _) (if_congr ?_ rfl (bits_zero.trans lit_zero))
  show lit _ < Ideal.ofBits .f32 0x40000000#32 ↔ _
  rw [bits_two]
  exact lit_lt

/-- and the groups' places. -/
theorem ref_group (i : Fin 32768) (a : Fin 4) : val_main_v105 (F := Ideal) x0 x1 x2 x3 x4 x5 x6 x7 x8 x9 (ix2 i a) = lit (place (mark (sl x0 x1 x2 x3 x4 x5 x6 x7 x8 x9 i)) a) := by
  rw [val_main_v105_apply, ← place_sum]
  refine Eq.trans (congrArg₂ (· + ·) (bits_zero.trans lit_zero) (Finset.sum_congr rfl fun b _ => ?_)) (zero_add _)
  have e90 : val_main_v90 (F := Ideal) x0 x1 x2 x3 x4 x5 x6 x7 x8 x9 (ix3 i a b) = mark (sl x0 x1 x2 x3 x4 x5 x6 x7 x8 x9 i) b := by
    rw [val_main_v90_apply, val_main_v89_apply, ← ref_mark]; exact congrArg _ (funext fun a => Fin.ext (by
      match a with
      | ⟨0, _⟩ => rfl
      | ⟨1, _⟩ => rfl))
  have e91 : val_main_v91 (F := Ideal) x0 x1 x2 x3 x4 x5 x6 x7 x8 x9 (ix3 i a b) = mark (sl x0 x1 x2 x3 x4 x5 x6 x7 x8 x9 i) a := by
    rw [val_main_v91_apply, val_main_v88_apply, ← ref_mark]; exact congrArg _ (funext fun a => Fin.ext (by
      match a with
      | ⟨0, _⟩ => rfl
      | ⟨1, _⟩ => rfl))
  have e93 : val_main_v93 (F := Ideal) x0 x1 x2 x3 x4 x5 x6 x7 x8 x9 (ix3 i a b) = mark (sl x0 x1 x2 x3 x4 x5 x6 x7 x8 x9 i) b := by
    rw [val_main_v93_apply, val_main_v89_apply, ← ref_mark]; exact congrArg _ (funext fun a => Fin.ext (by
      match a with
      | ⟨0, _⟩ => rfl
      | ⟨1, _⟩ => rfl))
  have e94 : val_main_v94 (F := Ideal) x0 x1 x2 x3 x4 x5 x6 x7 x8 x9 (ix3 i a b) = mark (sl x0 x1 x2 x3 x4 x5 x6 x7 x8 x9 i) a := by
    rw [val_main_v94_apply, val_main_v88_apply, ← ref_mark]; exact congrArg _ (funext fun a => Fin.ext (by
      match a with
      | ⟨0, _⟩ => rfl
      | ⟨1, _⟩ => rfl))
  have e100 : val_main_v100 (F := Ideal) (ix3 i a b) = BitVec.ofBool (decide (b < a)) := by
    rw [val_main_v100_apply, val_main_v99_apply, val_main_v98_apply, val_main_v96_apply, val_main_v97_apply, val_main_v87_apply, val_main_v85_apply, val_main_v86_apply, val_main_v84_apply]
    exact slt_nat _ _ (by have := b.isLt; show b.val < 512; omega) (by have := a.isLt; show a.val < 512; omega)
  rw [show idx_main_v105 (ix2 i a) b = ix3 i a b from funext fun a => Fin.ext (by
      match a with
      | ⟨0, _⟩ => rfl
      | ⟨1, _⟩ => rfl
      | ⟨2, _⟩ => rfl)]
  rw [val_main_v104_apply, val_main_v103_apply, val_main_v102_apply, val_main_v101_apply, val_main_v92_apply, val_main_v95_apply, e90, e91, e93, e94, e100,
    val_main_call2_v0_apply, val_main_call2_v1_apply]
  refine Eq.trans ?_ (sel_beats (mark (sl x0 x1 x2 x3 x4 x5 x6 x7 x8 x9 i) b) (mark (sl x0 x1 x2 x3 x4 x5 x6 x7 x8 x9 i) a) (b < a))
  rfl

/-- The experts chosen are the two the row names. -/
theorem ref_p1 (i : Fin 32768) (e : Fin 16) : val_main_v114 (F := Ideal) x0 x1 x2 x3 x4 x5 x6 x7 x8 x9 (ix2 i e) = pick (exp1 (sl x0 x1 x2 x3 x4 x5 x6 x7 x8 x9 i)) e := by
  obtain ⟨g, k, rfl⟩ := ge_surj e
  have := g.isLt
  have := k.isLt
  rw [val_main_v114_apply, show idx_main_v114 (ix2 i (ge g k)) = ix3 i g k from funext fun a => Fin.ext (by
      match a with
      | ⟨0, _⟩ => show (i.val * 16 + (g.val * 4 + k.val)) / 16 = i.val; omega
      | ⟨1, _⟩ => show (i.val * 16 + (g.val * 4 + k.val)) / 4 % 4 = g.val; omega
      | ⟨2, _⟩ => show (i.val * 16 + (g.val * 4 + k.val)) % 4 = k.val; omega), ← pick_one]
  rw [val_main_v113_apply, val_main_v112_apply, val_main_v110_apply, val_main_v111_apply, val_main_v108_apply,
    show idx_main_v108 (idx_main_v111 (ix3 i g k)) = ix2 i g from funext fun a => Fin.ext (by
      match a with
      | ⟨0, _⟩ => rfl
      | ⟨1, _⟩ => rfl), val_main_v107_apply, ref_group, ref_place, val_main_v106_apply, val_main_v109_apply,
    val_main_call3_v0_apply, val_main_call3_v1_apply]
  refine Eq.trans (sel_both _ _ _ _ _ _) (if_congr ?_ (bits_one.trans lit_one) (bits_zero.trans lit_zero))
  show lit _ = Ideal.ofBits .f32 0x00000000#32 ∧ lit _ = Ideal.ofBits .f32 0x00000000#32 ↔ _
  rw [bits_zero, lit_inj, lit_inj]

theorem ref_p2 (i : Fin 32768) (e : Fin 16) : val_main_v121 (F := Ideal) x0 x1 x2 x3 x4 x5 x6 x7 x8 x9 (ix2 i e) = pick (exp2 (sl x0 x1 x2 x3 x4 x5 x6 x7 x8 x9 i)) e := by
  obtain ⟨g, k, rfl⟩ := ge_surj e
  have := g.isLt
  have := k.isLt
  rw [val_main_v121_apply, show idx_main_v121 (ix2 i (ge g k)) = ix3 i g k from funext fun a => Fin.ext (by
      match a with
      | ⟨0, _⟩ => show (i.val * 16 + (g.val * 4 + k.val)) / 16 = i.val; omega
      | ⟨1, _⟩ => show (i.val * 16 + (g.val * 4 + k.val)) / 4 % 4 = g.val; omega
      | ⟨2, _⟩ => show (i.val * 16 + (g.val * 4 + k.val)) % 4 = k.val; omega), ← pick_two]
  rw [val_main_v120_apply, val_main_v119_apply, val_main_v117_apply, val_main_v118_apply, val_main_v115_apply,
    show idx_main_v115 (idx_main_v118 (ix3 i g k)) = ix2 i g from funext fun a => Fin.ext (by
      match a with
      | ⟨0, _⟩ => rfl
      | ⟨1, _⟩ => rfl), val_main_v107_apply, ref_group, ref_place, val_main_v106_apply, val_main_v116_apply,
    val_main_call4_v0_apply, val_main_call4_v1_apply]
  refine Eq.trans (sel_both _ _ _ _ _ _) (if_congr ?_ (bits_one.trans lit_one) (bits_zero.trans lit_zero))
  show lit _ = Ideal.ofBits .f32 0x00000000#32 ∧ lit _ = Ideal.ofBits .f32 0x3F800000#32 ↔ _
  rw [bits_zero, bits_one, lit_inj, lit_inj]

/-- A sum over the experts of a choice's products is the chosen expert's. -/
theorem sum_pick {z : EReal} (hz : z = Ideal.ofBits .f32 0x00000000#32) {e' : Fin 16} {f : Fin 16 → EReal} {g : Fin 16 → EReal} (h : ∀ e, g e = pick e' e * f e) : z + ∑ e, g e = f e' := by
  rw [hz, bits_zero, lit_zero, zero_add, Finset.sum_congr rfl fun e _ => h e, pick_sum]

theorem ref_w1 (i : Fin 32768) : val_main_v124 (F := Ideal) x0 x1 x2 x3 x4 x5 x6 x7 x8 x9 (ix1 i) = sc x0 x1 x2 x3 x4 x5 x6 x7 x8 i (exp1 (sl x0 x1 x2 x3 x4 x5 x6 x7 x8 x9 i)) := by
  rw [val_main_v124_apply]
  refine sum_pick rfl fun e => ?_
  rw [show idx_main_v124 (ix1 i) e = ix2 i e from funext fun a => Fin.ext (by
      match a with
      | ⟨0, _⟩ => rfl
      | ⟨1, _⟩ => rfl), ← ref_p1, ← ref_sc]
  rfl

theorem ref_w2 (i : Fin 32768) : val_main_v127 (F := Ideal) x0 x1 x2 x3 x4 x5 x6 x7 x8 x9 (ix1 i) = sc x0 x1 x2 x3 x4 x5 x6 x7 x8 i (exp2 (sl x0 x1 x2 x3 x4 x5 x6 x7 x8 x9 i)) := by
  rw [val_main_v127_apply]
  refine sum_pick rfl fun e => ?_
  rw [show idx_main_v127 (ix1 i) e = ix2 i e from funext fun a => Fin.ext (by
      match a with
      | ⟨0, _⟩ => rfl
      | ⟨1, _⟩ => rfl), ← ref_p2, ← ref_sc]
  rfl

theorem ref_e1 (i : Fin 32768) : val_main_v134 (F := Ideal) x0 x1 x2 x3 x4 x5 x6 x7 x8 x9 (ix1 i) = lit (exp1 (sl x0 x1 x2 x3 x4 x5 x6 x7 x8 x9 i)).val := by
  rw [val_main_v134_apply]
  refine sum_pick rfl (f := fun e => lit e.val) fun e => ?_
  rw [show idx_main_v134 (ix1 i) e = ix2 i e from funext fun a => Fin.ext (by
      match a with
      | ⟨0, _⟩ => rfl
      | ⟨1, _⟩ => rfl), ← ref_p1]
  have h : val_main_v132 (F := Ideal) (ix2 i e) = lit e.val := by
    rw [val_main_v132_apply, val_main_v131_apply]
    exact lit_int e.val (by have := e.isLt; omega)
  rw [← h]
  rfl

theorem ref_e2 (i : Fin 32768) : val_main_v139 (F := Ideal) x0 x1 x2 x3 x4 x5 x6 x7 x8 x9 (ix1 i) = lit (exp2 (sl x0 x1 x2 x3 x4 x5 x6 x7 x8 x9 i)).val := by
  rw [val_main_v139_apply]
  refine sum_pick rfl (f := fun e => lit e.val) fun e => ?_
  rw [show idx_main_v139 (ix1 i) e = ix2 i e from funext fun a => Fin.ext (by
      match a with
      | ⟨0, _⟩ => rfl
      | ⟨1, _⟩ => rfl), ← ref_p2]
  have h : val_main_v137 (F := Ideal) (ix2 i e) = lit e.val := by
    rw [val_main_v137_apply, val_main_v136_apply]
    exact lit_int e.val (by have := e.isLt; omega)
  rw [← h]
  rfl

/-- The row a tile's row is. -/
def trow (t : Fin 64) (r : Fin 512) : Fin 32768 := ⟨t.val * 512 + r.val, by have := t.isLt; have := r.isLt; omega⟩

theorem trow_surj (i : Fin 32768) : ∃ t r, i = trow t r :=
  ⟨⟨i.val / 512, by have := i.isLt; omega⟩, ⟨i.val % 512, Nat.mod_lt _ (by decide)⟩, Fin.ext (by show i.val = i.val / 512 * 512 + i.val % 512; omega)⟩

theorem ref_picked (t : Fin 64) (r : Fin 512) (e : Fin 16) : val_main_v141 (F := Ideal) x0 x1 x2 x3 x4 x5 x6 x7 x8 x9 (ix3 t r e) = picked (sl x0 x1 x2 x3 x4 x5 x6 x7 x8 x9 (trow t r)) e := by
  have := e.isLt
  have := r.isLt
  rw [val_main_v141_apply, show idx_main_v141 (ix3 t r e) = ix2 (trow t r) e from funext fun a => Fin.ext (by
      match a with
      | ⟨0, _⟩ => show ((t.val * 512 + r.val) * 16 + e.val) / 16 = t.val * 512 + r.val; omega
      | ⟨1, _⟩ => show ((t.val * 512 + r.val) * 16 + e.val) % 16 = e.val; omega), val_main_v140_apply, ref_p1, ref_p2]
  rfl

/-- The choices of a tile's earlier rows. -/
theorem ref_before (t : Fin 64) (r : Fin 512) (e : Fin 16) :
    val_main_v152 (F := Ideal) x0 x1 x2 x3 x4 x5 x6 x7 x8 x9 (ix2 (trow t r) e) = before (fun q => sl x0 x1 x2 x3 x4 x5 x6 x7 x8 x9 (trow t q)) r e := by
  have := e.isLt
  have := r.isLt
  rw [val_main_v152_apply, show idx_main_v152 (ix2 (trow t r) e) = ix3 t r e from funext fun a => Fin.ext (by
      match a with
      | ⟨0, _⟩ => show ((t.val * 512 + r.val) * 16 + e.val) / 8192 = t.val; omega
      | ⟨1, _⟩ => show ((t.val * 512 + r.val) * 16 + e.val) / 16 % 512 = r.val; omega
      | ⟨2, _⟩ => show ((t.val * 512 + r.val) * 16 + e.val) % 16 = e.val; omega), val_main_v151_apply,
    show idx_main_v151 (ix3 t r e) = ix3 t e r from funext fun a => Fin.ext (by
      match a with
      | ⟨0, _⟩ => rfl
      | ⟨1, _⟩ => rfl
      | ⟨2, _⟩ => rfl), val_main_v150_apply]
  refine Finset.sum_congr rfl fun q _ => ?_
  rw [show lidx_main_v150 (ix3 t e r) q = ix3 t q e from funext fun a => Fin.ext (by
      match a with
      | ⟨0, _⟩ => rfl
      | ⟨1, _⟩ => rfl
      | ⟨2, _⟩ => rfl), ref_picked]
  refine congrArg (fun z => picked (sl x0 x1 x2 x3 x4 x5 x6 x7 x8 x9 (trow t q)) e * z) ?_
  rw [val_main_v149_apply, val_main_v148_apply, val_main_v146_apply, val_main_v147_apply, val_main_v143_apply, val_main_v145_apply, val_main_v142_apply, val_main_v144_apply]
  refine Eq.trans (congrArg (fun z => Scalar.select z _ _) (slt_nat q.val r.val q.isLt r.isLt)) ?_
  rw [sel_bool, val_main_call5_v0_apply, val_main_call5_v1_apply]
  show (if q.val < r.val then Ideal.ofBits .f32 0x3F800000#32 else Ideal.ofBits .f32 0x00000000#32) = _
  rw [bits_one, bits_zero, lit_one, lit_zero]
  rfl

theorem ref_r1 (t : Fin 64) (r : Fin 512) : val_main_v155 (F := Ideal) x0 x1 x2 x3 x4 x5 x6 x7 x8 x9 (ix1 (trow t r)) = before (fun q => sl x0 x1 x2 x3 x4 x5 x6 x7 x8 x9 (trow t q)) r (exp1 (sl x0 x1 x2 x3 x4 x5 x6 x7 x8 x9 (trow t r))) := by
  rw [val_main_v155_apply]
  refine sum_pick rfl (f := before (fun q => sl x0 x1 x2 x3 x4 x5 x6 x7 x8 x9 (trow t q)) r) fun e => ?_
  rw [show idx_main_v155 (ix1 (trow t r)) e = ix2 (trow t r) e from funext fun a => Fin.ext (by
      match a with
      | ⟨0, _⟩ => rfl
      | ⟨1, _⟩ => rfl), ← ref_p1, ← ref_before]
  rfl

theorem ref_r2 (t : Fin 64) (r : Fin 512) : val_main_v158 (F := Ideal) x0 x1 x2 x3 x4 x5 x6 x7 x8 x9 (ix1 (trow t r)) = before (fun q => sl x0 x1 x2 x3 x4 x5 x6 x7 x8 x9 (trow t q)) r (exp2 (sl x0 x1 x2 x3 x4 x5 x6 x7 x8 x9 (trow t r))) := by
  rw [val_main_v158_apply]
  refine sum_pick rfl (f := before (fun q => sl x0 x1 x2 x3 x4 x5 x6 x7 x8 x9 (trow t q)) r) fun e => ?_
  rw [show idx_main_v158 (ix1 (trow t r)) e = ix2 (trow t r) e from funext fun a => Fin.ext (by
      match a with
      | ⟨0, _⟩ => rfl
      | ⟨1, _⟩ => rfl), ← ref_p2, ← ref_before]
  rfl

/-- The columns of the first result. -/
theorem ref_route (t : Fin 64) (r : Fin 512) (c : Fin 128) : val_main_v189 (F := Ideal) x0 x1 x2 x3 x4 x5 x6 x7 x8 x9 (ix2 (trow t r) c)
    = cols (sl x0 x1 x2 x3 x4 x5 x6 x7 x8 x9 (trow t r)) (sc x0 x1 x2 x3 x4 x5 x6 x7 x8 (trow t r)) (before (fun q => sl x0 x1 x2 x3 x4 x5 x6 x7 x8 x9 (trow t q)) r) c.val := by
  have hc := c.isLt
  have c6 : val_main_call6_v0 (F := Ideal) (ix2 (trow t r) c) = IntOp.cmpi .eq (BitVec.ofNat 32 c.val) (BitVec.ofNat 32 0) := by
    rw [val_main_call6_v0_apply, val_main_v167_apply, val_main_v160_apply, val_main_v159_apply]
    rfl
  have k6 : val_main_call6_v1 (F := Ideal) x0 x1 x2 x3 x4 x5 x6 x7 x8 x9 (ix2 (trow t r) c) = Ideal.div (sc x0 x1 x2 x3 x4 x5 x6 x7 x8 (trow t r) (exp1 (sl x0 x1 x2 x3 x4 x5 x6 x7 x8 x9 (trow t r)))) (sc x0 x1 x2 x3 x4 x5 x6 x7 x8 (trow t r) (exp1 (sl x0 x1 x2 x3 x4 x5 x6 x7 x8 x9 (trow t r))) + sc x0 x1 x2 x3 x4 x5 x6 x7 x8 (trow t r) (exp2 (sl x0 x1 x2 x3 x4 x5 x6 x7 x8 x9 (trow t r)))) := by
    rw [val_main_call6_v1_apply, val_main_v168_apply, show idx_main_v168 (idx_main_call6_v1 (ix2 (trow t r) c)) = ix1 (trow t r) from funext fun a => Fin.ext (by
      match a with
      | ⟨0, _⟩ => rfl)]
    rw [val_main_v163_apply, val_main_v162_apply, ref_w1, ref_w2]
    rfl
  have c7 : val_main_call7_v0 (F := Ideal) (ix2 (trow t r) c) = IntOp.cmpi .eq (BitVec.ofNat 32 c.val) (BitVec.ofNat 32 1) := by
    rw [val_main_call7_v0_apply, val_main_v171_apply, val_main_v160_apply, val_main_v159_apply]
    rfl
  have k7 : val_main_call7_v1 (F := Ideal) x0 x1 x2 x3 x4 x5 x6 x7 x8 x9 (ix2 (trow t r) c) = Ideal.div (sc x0 x1 x2 x3 x4 x5 x6 x7 x8 (trow t r) (exp2 (sl x0 x1 x2 x3 x4 x5 x6 x7 x8 x9 (trow t r)))) (sc x0 x1 x2 x3 x4 x5 x6 x7 x8 (trow t r) (exp1 (sl x0 x1 x2 x3 x4 x5 x6 x7 x8 x9 (trow t r))) + sc x0 x1 x2 x3 x4 x5 x6 x7 x8 (trow t r) (exp2 (sl x0 x1 x2 x3 x4 x5 x6 x7 x8 x9 (trow t r)))) := by
    rw [val_main_call7_v1_apply, val_main_v172_apply, show idx_main_v172 (idx_main_call7_v1 (ix2 (trow t r) c)) = ix1 (trow t r) from funext fun a => Fin.ext (by
      match a with
      | ⟨0, _⟩ => rfl)]
    rw [val_main_v165_apply, val_main_v164_apply, ref_w1, ref_w2]
    rfl
  have c8 : val_main_call8_v0 (F := Ideal) (ix2 (trow t r) c) = IntOp.cmpi .eq (BitVec.ofNat 32 c.val) (BitVec.ofNat 32 2) := by
    rw [val_main_call8_v0_apply, val_main_v175_apply, val_main_v160_apply, val_main_v159_apply]
    rfl
  have k8 : val_main_call8_v1 (F := Ideal) x0 x1 x2 x3 x4 x5 x6 x7 x8 x9 (ix2 (trow t r) c) = lit (exp1 (sl x0 x1 x2 x3 x4 x5 x6 x7 x8 x9 (trow t r))).val := by
    rw [val_main_call8_v1_apply, val_main_v176_apply, show idx_main_v176 (idx_main_call8_v1 (ix2 (trow t r) c)) = ix1 (trow t r) from funext fun a => Fin.ext (by
      match a with
      | ⟨0, _⟩ => rfl)]
    exact ref_e1 x0 x1 x2 x3 x4 x5 x6 x7 x8 x9 (trow t r)
  have c9 : val_main_call9_v0 (F := Ideal) (ix2 (trow t r) c) = IntOp.cmpi .eq (BitVec.ofNat 32 c.val) (BitVec.ofNat 32 3) := by
    rw [val_main_call9_v0_apply, val_main_v179_apply, val_main_v160_apply, val_main_v159_apply]
    rfl
  have k9 : val_main_call9_v1 (F := Ideal) x0 x1 x2 x3 x4 x5 x6 x7 x8 x9 (ix2 (trow t r) c) = lit (exp2 (sl x0 x1 x2 x3 x4 x5 x6 x7 x8 x9 (trow t r))).val := by
    rw [val_main_call9_v1_apply, val_main_v180_apply, show idx_main_v180 (idx_main_call9_v1 (ix2 (trow t r) c)) = ix1 (trow t r) from funext fun a => Fin.ext (by
      match a with
      | ⟨0, _⟩ => rfl)]
    exact ref_e2 x0 x1 x2 x3 x4 x5 x6 x7 x8 x9 (trow t r)
  have c10 : val_main_call10_v0 (F := Ideal) (ix2 (trow t r) c) = IntOp.cmpi .eq (BitVec.ofNat 32 c.val) (BitVec.ofNat 32 4) := by
    rw [val_main_call10_v0_apply, val_main_v183_apply, val_main_v160_apply, val_main_v159_apply]
    rfl
  have k10 : val_main_call10_v1 (F := Ideal) x0 x1 x2 x3 x4 x5 x6 x7 x8 x9 (ix2 (trow t r) c) = before (fun q => sl x0 x1 x2 x3 x4 x5 x6 x7 x8 x9 (trow t q)) r (exp1 (sl x0 x1 x2 x3 x4 x5 x6 x7 x8 x9 (trow t r))) := by
    rw [val_main_call10_v1_apply, val_main_v184_apply, show idx_main_v184 (idx_main_call10_v1 (ix2 (trow t r) c)) = ix1 (trow t r) from funext fun a => Fin.ext (by
      match a with
      | ⟨0, _⟩ => rfl)]
    exact ref_r1 x0 x1 x2 x3 x4 x5 x6 x7 x8 x9 t r
  have c11 : val_main_call11_v0 (F := Ideal) (ix2 (trow t r) c) = IntOp.cmpi .eq (BitVec.ofNat 32 c.val) (BitVec.ofNat 32 5) := by
    rw [val_main_call11_v0_apply, val_main_v187_apply, val_main_v160_apply, val_main_v159_apply]
    rfl
  have k11 : val_main_call11_v1 (F := Ideal) x0 x1 x2 x3 x4 x5 x6 x7 x8 x9 (ix2 (trow t r) c) = before (fun q => sl x0 x1 x2 x3 x4 x5 x6 x7 x8 x9 (trow t q)) r (exp2 (sl x0 x1 x2 x3 x4 x5 x6 x7 x8 x9 (trow t r))) := by
    rw [val_main_call11_v1_apply, val_main_v188_apply, show idx_main_v188 (idx_main_call11_v1 (ix2 (trow t r) c)) = ix1 (trow t r) from funext fun a => Fin.ext (by
      match a with
      | ⟨0, _⟩ => rfl)]
    exact ref_r2 x0 x1 x2 x3 x4 x5 x6 x7 x8 x9 t r
  rw [val_main_v189_apply, c11, k11, val_main_v185_apply, c10, k10, val_main_v181_apply, c9, k9, val_main_v177_apply, c8, k8, val_main_v173_apply, c7, k7, val_main_v169_apply, c6, k6,
    sel_nat _ _ hc (by decide), sel_nat _ _ hc (by decide), sel_nat _ _ hc (by decide), sel_nat _ _ hc (by decide), sel_nat _ _ hc (by decide), sel_nat _ _ hc (by decide)]
  rw [show val_main_v161 (F := Ideal) (ix2 (trow t r) c) = lit 0 from bits_zero]
  rfl

/-- the choices of a tile counted, -/
theorem ref_counts (t : Fin 64) (e : Fin 16) (l : Fin 128) : val_main_v193 (F := Ideal) x0 x1 x2 x3 x4 x5 x6 x7 x8 x9 (ix3 t e l) = ∑ q : Fin 512, picked (sl x0 x1 x2 x3 x4 x5 x6 x7 x8 x9 (trow t q)) e := by
  rw [val_main_v193_apply, val_main_v192_apply, show idx_main_v192 (idx_main_v193 (ix3 t e l)) = ix2 t e from funext fun a => Fin.ext (by
      match a with
      | ⟨0, _⟩ => rfl
      | ⟨1, _⟩ => rfl), val_main_v191_apply]
  refine Eq.trans (congrArg₂ (· + ·) (bits_zero.trans lit_zero) (Finset.sum_congr rfl fun q _ => ?_)) (zero_add _)
  rw [show idx_main_v191 (ix2 t e) q = ix3 t q e from funext fun a => Fin.ext (by
      match a with
      | ⟨0, _⟩ => rfl
      | ⟨1, _⟩ => rfl
      | ⟨2, _⟩ => rfl), ← ref_picked]
  rfl

/-- and the columns of the routing by rows. -/
theorem ref_rows (t : Fin 64) (c : Fin 8) (r : Fin 512) : val_main_v196 (F := Ideal) x0 x1 x2 x3 x4 x5 x6 x7 x8 x9 (ix3 t c r)
    = cols (sl x0 x1 x2 x3 x4 x5 x6 x7 x8 x9 (trow t r)) (sc x0 x1 x2 x3 x4 x5 x6 x7 x8 (trow t r)) (before (fun q => sl x0 x1 x2 x3 x4 x5 x6 x7 x8 x9 (trow t q)) r) c.val := by
  have hc := c.isLt
  rw [val_main_v196_apply, show idx_main_v196 (ix3 t c r) = ix3 t r c from funext fun a => Fin.ext (by
      match a with
      | ⟨0, _⟩ => rfl
      | ⟨1, _⟩ => rfl
      | ⟨2, _⟩ => rfl), val_main_v195_apply, val_main_v194_apply,
    show idx_main_v194 (idx_main_v195 (ix3 t r c)) = ix2 (trow t r) (⟨c.val, by omega⟩ : Fin 128) from funext fun a => Fin.ext (by
      match a with
      | ⟨0, _⟩ => show ((t.val * 512 + r.val) * 8 + c.val) / 8 = t.val * 512 + r.val; omega
      | ⟨1, _⟩ => show ((t.val * 512 + r.val) * 8 + c.val) % 8 = c.val; omega), ref_route]

end Cert.RouteRefIdeal.Hand

end

end
-- ==== Proof.RouteValue.lean ====
/- The value of the routing: what the tiled kernel leaves in its three routing results is the reference's terms of the same
   arguments, at the ideal values, where the gains, the router's weights and the biases are finite. -/
module

public import proofs.«01_k».proof.Proof.Gen.RouteIdeal.Frame
public import proofs.«01_k».proof.Proof.Gen.RouteIdeal.Value
public import proofs.«01_k».proof.Proof.RouteCell
public import proofs.«01_k».proof.Proof.RouteKer
public import proofs.«01_k».proof.Proof.RouteScore
public import proofs.«01_k».proof.Proof.MergeValue
public import Idealize.ShloMosaic.Lib.KernelVsHost
public import Idealize.ShloMosaic.Lib.Pipeline.ValueKit

@[expose] public section

set_option maxRecDepth 16384

noncomputable section

namespace Cert.RouteIdeal.Hand

open Cert.RouteIdeal Cert.RouteIdeal.Gen
open Idealize.ShloMosaic Idealize.ShloMosaic.TcCoe Idealize.SL.Sem
open Idealize.ShloMosaic.Pipeline (Dat)
open Cert.MergeIdeal.Hand (mix xrow hrow xrow_congr hrow_congr part_idx)
open Cert.MergeRefIdeal.Hand (xref gcol)
open Cert.RouteRefIdeal.Hand (sc sl trow)
open Cert.Lane Cert.Reals

variable (m : (ℓ : Loc nD τ sig) → Buf (Elt Ideal) ℓ)
variable (x0 x1 x2 : Vec Ideal S512x512 .bf16) (x3 x4 x5 : Vec Ideal S512x1024 .bf16) (x6 : Vec Ideal S512x1024 .f32)
  (x7 : Vec Ideal S3x512x1024 .bf16) (x8 : Vec Ideal S1024x1024 .bf16) (x9 : Vec Ideal S1x1024 .f32) (x10 x11 : Vec Ideal S1024x128 .bf16)
  (x12 : Vec Ideal S16x1 .f32) (x13 : Vec Ideal S512x512 .bf16)

/-- A row of the merge from the blocks the body reads. -/
def xblk (r : Fin 512) (d : Fin 1024) : EReal :=
  xrow (fun j => x0 (ix2 r j)) (fun j => x1 (ix2 r j)) (fun j => x2 (ix2 r j)) (fun k => x3 (ix2 r k)) (fun k => x4 (ix2 r k))
    (fun k => x5 (ix2 r k)) (fun k => x6 (ix2 r k)) (fun i j k => x7 (ix3 i j k)) (fun k d => x8 (ix2 k d)) d

/-- The payloads of a block's first half hold its first rows, -/
theorem pay_a (y : S256x1024.Idx) (r : Fin 512) (hr : r.val = (y 0).val) :
    k0_pay90 (F := Ideal) x0 x1 x2 x3 x4 x5 x6 x7 x8 x9 x10 x11 x12 x13 y = xblk x0 x1 x2 x3 x4 x5 x6 x7 x8 r (y 1) := by
  unfold k0_pay90 xblk
  refine (half_a _ _ _ _ _ _ _ _ _ _ _ y).trans (xrow_congr ?_ ?_ ?_ ?_ ?_ ?_ ?_ ?_ ?_ ?_ ?_ rfl)
  all_goals (intros; simp only [View.ld]; blk_ext)
  all_goals (refine (part_idx _ _ _ _ _).trans ?_; simp <;> omega)

/-- and those of the second half the others. -/
theorem pay_b (y : S256x1024.Idx) (r : Fin 512) (hr : r.val = 256 + (y 0).val) :
    k0_pay91 (F := Ideal) x0 x1 x2 x3 x4 x5 x6 x7 x8 x9 x10 x11 x12 x13 y = xblk x0 x1 x2 x3 x4 x5 x6 x7 x8 r (y 1) := by
  unfold k0_pay91 xblk
  refine (half_b _ _ _ _ _ _ _ _ _ _ _ y).trans (xrow_congr ?_ ?_ ?_ ?_ ?_ ?_ ?_ ?_ ?_ ?_ ?_ rfl)
  all_goals (intros; simp only [View.ld]; blk_ext)
  all_goals (refine (part_idx _ _ _ _ _).trans ?_; simp <;> omega)

/-- The norm of a row of either half. -/
theorem norm_row_a (r : Fin 256) (d : Fin 1024) (q : Fin 512) (hq : q.val = r.val) :
    k0_pay11 (F := Ideal) (k0_pay90 (F := Ideal) x0 x1 x2 x3 x4 x5 x6 x7 x8 x9 x10 x11 x12 x13) (View.ld x9 r0_8) (ix2 r d) = hrow (xblk x0 x1 x2 x3 x4 x5 x6 x7 x8 q) (fun k => x9 (ix2 0 k)) d := by
  refine (norm_a _ _ _).trans (hrow_congr (fun k => ?_) (fun k => ?_) rfl)
  · exact pay_a x0 x1 x2 x3 x4 x5 x6 x7 x8 x9 x10 x11 x12 x13 (ix2 r k) q hq
  · simp only [View.ld]
    blk_ext
    all_goals (refine (part_idx _ _ _ _ _).trans ?_; simp)
theorem norm_row_b (r : Fin 256) (d : Fin 1024) (q : Fin 512) (hq : q.val = 256 + r.val) :
    k0_pay16 (F := Ideal) (k0_pay91 (F := Ideal) x0 x1 x2 x3 x4 x5 x6 x7 x8 x9 x10 x11 x12 x13) (View.ld x9 r0_8) (ix2 r d) = hrow (xblk x0 x1 x2 x3 x4 x5 x6 x7 x8 q) (fun k => x9 (ix2 0 k)) d := by
  refine (norm_b _ _ _).trans (hrow_congr (fun k => ?_) (fun k => ?_) rfl)
  · exact pay_b x0 x1 x2 x3 x4 x5 x6 x7 x8 x9 x10 x11 x12 x13 (ix2 r k) q hq
  · simp only [View.ld]
    blk_ext
    all_goals (refine (part_idx _ _ _ _ _).trans ?_; simp)

theorem ld_w (w : Vec Ideal S1024x128 .bf16) (d : Fin 1024) (c : Fin 128) : View.ld w r0_9 (ix2 d c) = w (ix2 d c) := by
  simp only [View.ld]
  blk_ext
  all_goals (refine (part_idx _ _ _ _ _).trans ?_; simp)

theorem ld_b (e : Fin 16) : k0_pay93 (F := Ideal) x0 x1 x2 x3 x4 x5 x6 x7 x8 x9 x10 x11 x12 x13 (ix2 e 0) = x12 (ix2 e 0) := by
  unfold k0_pay93
  refine Eq.trans (b := View.ld x12 r0_10 (ix2 e 0)) (by pointwise [k0_pay19]) ?_
  simp only [View.ld]
  blk_ext
  all_goals (refine (part_idx _ _ _ _ _).trans ?_; simp)

theorem ld_t (q r : Fin 512) : View.ld x13 r0_11 (ix2 q r) = x13 (ix2 q r) := by
  simp only [View.ld]
  blk_ext
  all_goals (refine (part_idx _ _ _ _ _).trans ?_; simp)

/-- A lane's product with a router's column. -/
theorem lg_at (hg : ∀ k, Re (x9 (ix2 0 k))) (e : Fin 16) (hl : ∀ d, x11 (ix2 d (⟨e.val, by have := e.isLt; omega⟩ : Fin 128)) = (0 : EReal)) (r : Fin 512) :
    k0_pay92 (F := Ideal) x0 x1 x2 x3 x4 x5 x6 x7 x8 x9 x10 x11 x12 x13 (ix2 e r) = ∑ d : Fin 1024, hrow (xblk x0 x1 x2 x3 x4 x5 x6 x7 x8 r) (fun k => x9 (ix2 0 k)) d
      * (x10 (ix2 d (⟨e.val, by have := e.isLt; omega⟩ : Fin 128)) : EReal) := by
  unfold k0_pay92
  by_cases h : r.val < 256
  · rw [logit_a _ _ _ _ _ _ _ e r h, lead_a, rest_a]
    simp only [norm_row_a x0 x1 x2 x3 x4 x5 x6 x7 x8 x9 x10 x11 x12 x13 ⟨r.val, h⟩ _ r rfl]
    exact (parts (hrow (xblk x0 x1 x2 x3 x4 x5 x6 x7 x8 r) fun k => x9 (ix2 0 k)) (fun d => View.ld x10 r0_9 (ix2 d (⟨e.val, by have := e.isLt; omega⟩ : Fin 128))) (fun d => View.ld x11 r0_9 (ix2 d (⟨e.val, by have := e.isLt; omega⟩ : Fin 128))) (hrow_re _ _ hg) fun d => (ld_w x11 d _).trans (hl d)).trans
      (Finset.sum_congr rfl fun d _ => congrArg (hrow (xblk x0 x1 x2 x3 x4 x5 x6 x7 x8 r) (fun k => x9 (ix2 0 k)) d * ·) (ld_w x10 d _))
  · have hr := r.isLt
    rw [logit_b _ _ _ _ _ _ _ e r ⟨r.val - 256, by omega⟩ (by show r.val = 256 + (r.val - 256); omega)]
    simp only [norm_row_b x0 x1 x2 x3 x4 x5 x6 x7 x8 x9 x10 x11 x12 x13 ⟨r.val - 256, by omega⟩ _ r (by show r.val = 256 + (r.val - 256); omega)]
    exact (parts (hrow (xblk x0 x1 x2 x3 x4 x5 x6 x7 x8 r) fun k => x9 (ix2 0 k)) (fun d => View.ld x10 r0_9 (ix2 d (⟨e.val, by have := e.isLt; omega⟩ : Fin 128))) (fun d => View.ld x11 r0_9 (ix2 d (⟨e.val, by have := e.isLt; omega⟩ : Fin 128))) (hrow_re _ _ hg) fun d => (ld_w x11 d _).trans (hl d)).trans
      (Finset.sum_congr rfl fun d _ => congrArg (hrow (xblk x0 x1 x2 x3 x4 x5 x6 x7 x8 r) (fun k => x9 (ix2 0 k)) d * ·) (ld_w x10 d _))

/-- The body's values are the lane readings' values. -/
theorem al_103 : k0_pay103 (F := Ideal) x0 x1 x2 x3 x4 x5 x6 x7 x8 x9 x10 x11 x12 x13 = kbest (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_104 : k0_pay104 (F := Ideal) x0 x1 x2 x3 x4 x5 x6 x7 x8 x9 x10 x11 x12 x13 = kcand0 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_105 : k0_pay105 (F := Ideal) x0 x1 x2 x3 x4 x5 x6 x7 x8 x9 x10 x11 x12 x13 = kcand1 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_106 : k0_pay106 (F := Ideal) x0 x1 x2 x3 x4 x5 x6 x7 x8 x9 x10 x11 x12 x13 = kcand2 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_107 : k0_pay107 (F := Ideal) x0 x1 x2 x3 x4 x5 x6 x7 x8 x9 x10 x11 x12 x13 = kcand3 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_108 : k0_pay108 (F := Ideal) x0 x1 x2 x3 x4 x5 x6 x7 x8 x9 x10 x11 x12 x13 = ksc0 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_109 : k0_pay109 (F := Ideal) x0 x1 x2 x3 x4 x5 x6 x7 x8 x9 x10 x11 x12 x13 = ksc1 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_110 : k0_pay110 (F := Ideal) x0 x1 x2 x3 x4 x5 x6 x7 x8 x9 x10 x11 x12 x13 = ksc2 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_111 : k0_pay111 (F := Ideal) x0 x1 x2 x3 x4 x5 x6 x7 x8 x9 x10 x11 x12 x13 = ksc3 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_112 : k0_pay112 (F := Ideal) x0 x1 x2 x3 x4 x5 x6 x7 x8 x9 x10 x11 x12 x13 = kin1 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_113 : k0_pay113 (F := Ideal) x0 x1 x2 x3 x4 x5 x6 x7 x8 x9 x10 x11 x12 x13 = kin2 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_114 : k0_pay114 (F := Ideal) x0 x1 x2 x3 x4 x5 x6 x7 x8 x9 x10 x11 x12 x13 = kw1 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_115 : k0_pay115 (F := Ideal) x0 x1 x2 x3 x4 x5 x6 x7 x8 x9 x10 x11 x12 x13 = kw2 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_116 : k0_pay116 (F := Ideal) x0 x1 x2 x3 x4 x5 x6 x7 x8 x9 x10 x11 x12 x13 = ke1 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_117 : k0_pay117 (F := Ideal) x0 x1 x2 x3 x4 x5 x6 x7 x8 x9 x10 x11 x12 x13 = ke2 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_118 : k0_pay118 (F := Ideal) x0 x1 x2 x3 x4 x5 x6 x7 x8 x9 x10 x11 x12 x13 = kp2 (k0_pay92 (F := Ideal) x0 x1 x2 x3 x4 x5 x6 x7 x8 x9 x10 x11 x12 x13) (k0_pay93 (F := Ideal) x0 x1 x2 x3 x4 x5 x6 x7 x8 x9 x10 x11 x12 x13) := rfl
theorem al_119 : k0_pay119 (F := Ideal) x0 x1 x2 x3 x4 x5 x6 x7 x8 x9 x10 x11 x12 x13 = kbf (k0_pay92 (F := Ideal) x0 x1 x2 x3 x4 x5 x6 x7 x8 x9 x10 x11 x12 x13) (k0_pay93 (F := Ideal) x0 x1 x2 x3 x4 x5 x6 x7 x8 x9 x10 x11 x12 x13) (View.ld x13 r0_11) := rfl
theorem al_120 : k0_pay120 (F := Ideal) x0 x1 x2 x3 x4 x5 x6 x7 x8 x9 x10 x11 x12 x13 = k0_pay86 (F := Ideal) (kbest (k0_pay92 (F := Ideal) x0 x1 x2 x3 x4 x5 x6 x7 x8 x9 x10 x11 x12 x13) (k0_pay93 (F := Ideal) x0 x1 x2 x3 x4 x5 x6 x7 x8 x9 x10 x11 x12 x13)) (kin1 (k0_pay92 (F := Ideal) x0 x1 x2 x3 x4 x5 x6 x7 x8 x9 x10 x11 x12 x13) (k0_pay93 (F := Ideal) x0 x1 x2 x3 x4 x5 x6 x7 x8 x9 x10 x11 x12 x13)) (kin2 (k0_pay92 (F := Ideal) x0 x1 x2 x3 x4 x5 x6 x7 x8 x9 x10 x11 x12 x13) (k0_pay93 (F := Ideal) x0 x1 x2 x3 x4 x5 x6 x7 x8 x9 x10 x11 x12 x13)) (View.ld x13 r0_11) := rfl

/-- The stores hold the columns, -/
theorem out_c (ht : ∀ q r : Fin 512, x13 (ix2 q r) = if q < r then (1 : EReal) else 0) (hs : ∀ r e, Re (ks (k0_pay92 (F := Ideal) x0 x1 x2 x3 x4 x5 x6 x7 x8 x9 x10 x11 x12 x13) (k0_pay93 (F := Ideal) x0 x1 x2 x3 x4 x5 x6 x7 x8 x9 x10 x11 x12 x13) r e)) (y : S512x128.Idx) : out0_16 (F := Ideal) x0 x1 x2 x3 x4 x5 x6 x7 x8 x9 x10 x11 x12 x13 y = cols (ks (k0_pay92 (F := Ideal) x0 x1 x2 x3 x4 x5 x6 x7 x8 x9 x10 x11 x12 x13) (k0_pay93 (F := Ideal) x0 x1 x2 x3 x4 x5 x6 x7 x8 x9 x10 x11 x12 x13) (y 0)) (kw (k0_pay92 (F := Ideal) x0 x1 x2 x3 x4 x5 x6 x7 x8 x9 x10 x11 x12 x13) (y 0)) (before (ks (k0_pay92 (F := Ideal) x0 x1 x2 x3 x4 x5 x6 x7 x8 x9 x10 x11 x12 x13) (k0_pay93 (F := Ideal) x0 x1 x2 x3 x4 x5 x6 x7 x8 x9 x10 x11 x12 x13)) (y 0)) (y 1).val := by
  canon_tiles x h
  rw [al_114, al_115, al_116, al_117, al_118, al_119, al_120]
  refine (congrArg _ (show x = ix2 (y 0) (y 1) from ?_)).trans ((cols_t (y 0) _ _ _ _ _ _ _ (y 1)).trans (lane_cols _ _ _ _ (fun q r => (ld_t x13 q r).trans (ht q r)) hs _))
  · refine funext fun a => Fin.ext ?_
    match a with
    | ⟨0, _⟩ => show (x 0).val = (y 0).val; omega
    | ⟨1, _⟩ => show (x 1).val = (y 1).val; omega

/-- the columns by rows, -/
theorem out_r (ht : ∀ q r : Fin 512, x13 (ix2 q r) = if q < r then (1 : EReal) else 0) (hs : ∀ r e, Re (ks (k0_pay92 (F := Ideal) x0 x1 x2 x3 x4 x5 x6 x7 x8 x9 x10 x11 x12 x13) (k0_pay93 (F := Ideal) x0 x1 x2 x3 x4 x5 x6 x7 x8 x9 x10 x11 x12 x13) r e)) (y : S1x8x512.Idx) : out0_17 (F := Ideal) x0 x1 x2 x3 x4 x5 x6 x7 x8 x9 x10 x11 x12 x13 y = cols (ks (k0_pay92 (F := Ideal) x0 x1 x2 x3 x4 x5 x6 x7 x8 x9 x10 x11 x12 x13) (k0_pay93 (F := Ideal) x0 x1 x2 x3 x4 x5 x6 x7 x8 x9 x10 x11 x12 x13) (y 2)) (kw (k0_pay92 (F := Ideal) x0 x1 x2 x3 x4 x5 x6 x7 x8 x9 x10 x11 x12 x13) (y 2)) (before (ks (k0_pay92 (F := Ideal) x0 x1 x2 x3 x4 x5 x6 x7 x8 x9 x10 x11 x12 x13) (k0_pay93 (F := Ideal) x0 x1 x2 x3 x4 x5 x6 x7 x8 x9 x10 x11 x12 x13)) (y 2)) (y 1).val := by
  canon_tiles x h
  rw [al_114, al_115, al_116, al_117, al_118, al_119, al_120]
  refine (congrArg _ (show x = ix3 (y 0) (y 1) (y 2) from ?_)).trans ((cols_r (y 2) _ (y 0) (y 1)).trans (lane_cols _ _ _ _ (fun q r => (ld_t x13 q r).trans (ht q r)) hs _))
  · refine funext fun a => Fin.ext ?_
    match a with
    | ⟨0, _⟩ => show (x 0).val = (y 0).val; omega
    | ⟨1, _⟩ => show (x 1).val = (y 1).val; omega
    | ⟨2, _⟩ => show (x 2).val = (y 2).val; omega

/-- and the counts. -/
theorem out_n (hs : ∀ r e, Re (ks (k0_pay92 (F := Ideal) x0 x1 x2 x3 x4 x5 x6 x7 x8 x9 x10 x11 x12 x13) (k0_pay93 (F := Ideal) x0 x1 x2 x3 x4 x5 x6 x7 x8 x9 x10 x11 x12 x13) r e)) (y : S1x16x128.Idx) : out0_18 (F := Ideal) x0 x1 x2 x3 x4 x5 x6 x7 x8 x9 x10 x11 x12 x13 y = ∑ q : Fin 512, picked (ks (k0_pay92 (F := Ideal) x0 x1 x2 x3 x4 x5 x6 x7 x8 x9 x10 x11 x12 x13) (k0_pay93 (F := Ideal) x0 x1 x2 x3 x4 x5 x6 x7 x8 x9 x10 x11 x12 x13) q) (y 1) := by
  canon_tiles x h
  rw [al_103, al_112, al_113]
  refine (congrArg _ (show x = ix3 (y 0) (y 1) (y 2) from ?_)).trans ((counts_at _ (y 0) (y 1) (y 2)).trans (Finset.sum_congr rfl fun q _ => kpk_at _ _ q (hs q) _))
  · refine funext fun a => Fin.ext ?_
    match a with
    | ⟨0, _⟩ => show (x 0).val = (y 0).val; omega
    | ⟨1, _⟩ => show (x 1).val = (y 1).val; omega
    | ⟨2, _⟩ => show (x 2).val = (y 2).val; omega

/-- Each window's block index at a point, decided over the points. -/
theorem idx : ∀ t : Fin cfg0.N, win0_0.index t = ![t.val, 0] ∧ win0_1.index t = ![t.val, 0] ∧ win0_2.index t = ![t.val, 0] ∧ win0_3.index t = ![t.val, 4]
    ∧ win0_4.index t = ![t.val, 5] ∧ win0_5.index t = ![t.val, 6] ∧ win0_6.index t = ![t.val, 0] ∧ win0_7.index t = ![0, 0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_16.index t = ![t.val, 0] ∧ win0_17.index t = ![t.val, 0, 0] ∧ win0_18.index t = ![t.val, 0, 0] :=
  (by decide +kernel : ∀ t : Fin grid0.N, win0_0.index t = ![t.val, 0] ∧ win0_1.index t = ![t.val, 0] ∧ win0_2.index t = ![t.val, 0] ∧ win0_3.index t = ![t.val, 4]
    ∧ win0_4.index t = ![t.val, 5] ∧ win0_5.index t = ![t.val, 6] ∧ win0_6.index t = ![t.val, 0] ∧ win0_7.index t = ![0, 0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_16.index t = ![t.val, 0] ∧ win0_17.index t = ![t.val, 0, 0] ∧ win0_18.index t = ![t.val, 0, 0])

/-- The row of the arrays a block's row sits at. -/
def row (t : Fin cfg0.N) (r : Fin 512) : Fin 32768 := trow ⟨t.val, t.isLt⟩ r

/-- A row of the blocks at a point is the reference's row there. -/
theorem point (c : Dev nD) (t : Fin cfg0.N) (r : Fin 512) (d : Fin 1024) :
    xblk (iblk m c 0 t) (iblk m c 1 t) (iblk m c 2 t) (iblk m c 3 t) (iblk m c 4 t) (iblk m c 5 t) (iblk m c 6 t) (iblk m c 7 t) (iblk m c 8 t) r d
      = xref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (row t r) d := by
  unfold xblk xref
  refine xrow_congr ?_ ?_ ?_ ?_ ?_ ?_ ?_ ?_ ?_ ?_ ?_ rfl
  all_goals (intros; blk_point [iblk, V, idx t])
  all_goals first
    | rfl
    | (simp only [row, trow]; done)
    | (simp only [gcol, Fin.val_zero, Fin.val_one, Fin.val_two]; omega)

/-- The gains as a row: what the launch finds in their window's array. -/
theorem V_main_v7 (c : Dev nD) (k : Fin 1024) : V m c main_v7 (ix2 0 k) = m ((c : Thread nD τ).loc main_arg7) (ix1 k) := by
  have h : V m c main_v7 = fun i => shapeCast S1x1024 (m ((c : Thread nD τ).loc main_arg7)) shapeCasts_S1024_S1x1024 i := by
    show StableHlo.after ([hostOps0, hostOps0_1, hostOps0_2, hostOps0_3, hostOps0_4].flatten) _ (Proc.devRef .tc main_v7) = _
    simp only [hostOps0, hostOps0_1, hostOps0_2, hostOps0_3, hostOps0_4, List.flatten_cons, List.flatten_nil, List.append_nil, List.cons_append, List.nil_append]
    after_results
    rfl
  rw [h]
  refine shapeCast_apply _ _ _ _ ((Shape.rowMajor_val_one (d := ![1024]) _).trans (Eq.trans ?_ (Shape.rowMajor_val_two (d := ![1, 1024]) _).symm))
  simp

/-- The gains' block at a point is the gains. -/
theorem point_g (c : Dev nD) (t : Fin cfg0.N) (k : Fin 1024) : iblk m c 9 t (ix2 0 k) = m ((c : Thread nD τ).loc main_arg7) (ix1 k) := by
  refine Eq.trans ?_ (V_main_v7 m c k)
  blk_point [iblk, idx t]

/-- The router's weights, widened with zeros: what the launch finds in their window's array, -/
def wide (w : Vec Ideal S1024x16 .f32) : Vec Ideal S1024x128 .f32 := pad S1024x128 ![0, 0] ![0, 112] ![0, 0] w (sitofp (F := Ideal) .f32 (constantI S_ 32 0#32)) pads_S1024x16_S1024x128_000_01120 h_S_

theorem wide_at (w : Vec Ideal S1024x16 .f32) (d : Fin 1024) (e : Fin 16) : wide w (ix2 d (⟨e.val, by have := e.isLt; omega⟩ : Fin 128)) = w (ix2 d e) := by
  unfold wide
  refine pad_apply_of_inside _ _ _ _ _ _ _ _ (ix2 d e) fun a => ?_
  match a with
  | ⟨0, _⟩ => show d.val = 0 + d.val * (0 + 1); omega
  | ⟨1, _⟩ => show e.val = 0 + e.val * (0 + 1); omega

theorem V_main_v1 (c : Dev nD) (d : Fin 1024) (e : Fin 16) : V m c main_v1 (ix2 d (⟨e.val, by have := e.isLt; omega⟩ : Fin 128)) = m ((c : Thread nD τ).loc main_arg8) (ix2 d e) := by
  have h : V m c main_v1 = fun i => wide (m ((c : Thread nD τ).loc main_arg8)) i := by
    show StableHlo.after ([hostOps0, hostOps0_1, hostOps0_2, hostOps0_3, hostOps0_4].flatten) _ (Proc.devRef .tc main_v1) = _
    simp only [hostOps0, hostOps0_1, hostOps0_2, hostOps0_3, hostOps0_4, List.flatten_cons, List.flatten_nil, List.append_nil, List.cons_append, List.nil_append]
    after_results
    rfl
  rw [h]
  exact wide_at _ d e

/-- and in that of the rest of their rounding. -/
theorem V_main_v4 (c : Dev nD) (d : Fin 1024) (e : Fin 16) (hw : Re (m ((c : Thread nD τ).loc main_arg8) (ix2 d e))) : V m c main_v4 (ix2 d (⟨e.val, by have := e.isLt; omega⟩ : Fin 128)) = (0 : EReal) := by
  have h : V m c main_v4 = fun i => (wide (m ((c : Thread nD τ).loc main_arg8)) i - wide (m ((c : Thread nD τ).loc main_arg8)) i : EReal) := by
    show StableHlo.after ([hostOps0, hostOps0_1, hostOps0_2, hostOps0_3, hostOps0_4].flatten) _ (Proc.devRef .tc main_v4) = _
    simp only [hostOps0, hostOps0_1, hostOps0_2, hostOps0_3, hostOps0_4, List.flatten_cons, List.flatten_nil, List.append_nil, List.cons_append, List.nil_append]
    after_results
    rfl
  rw [h]
  show (wide _ _ - wide _ _ : EReal) = 0
  rw [wide_at]
  exact sub_self_re hw

/-- The biases as a column. -/
theorem V_main_v8 (c : Dev nD) (e : Fin 16) : V m c main_v8 (ix2 e 0) = m ((c : Thread nD τ).loc main_arg9) (ix1 e) := by
  have h : V m c main_v8 = fun i => shapeCast S16x1 (m ((c : Thread nD τ).loc main_arg9)) shapeCasts_S16_S16x1 i := by
    show StableHlo.after ([hostOps0, hostOps0_1, hostOps0_2, hostOps0_3, hostOps0_4].flatten) _ (Proc.devRef .tc main_v8) = _
    simp only [hostOps0, hostOps0_1, hostOps0_2, hostOps0_3, hostOps0_4, List.flatten_cons, List.flatten_nil, List.append_nil, List.cons_append, List.nil_append]
    after_results
    rfl
  rw [h]
  refine shapeCast_apply _ _ _ _ ((Shape.rowMajor_val_one (d := ![16]) _).trans (Eq.trans ?_ (Shape.rowMajor_val_two (d := ![16, 1]) _).symm))
  simp

/-- The ones above the diagonal. -/
theorem V_main_v13 (c : Dev nD) (q r : Fin 512) : V m c main_v13 (ix2 q r) = (if q < r then (1 : EReal) else 0) := by
  have h : V m c main_v13 = fun i => Scalar.select (IntOp.cmpi .slt (BitVec.ofNat 32 (i 0).val) (BitVec.ofNat 32 (i 1).val)) (Ideal.ofBits .f32 0x3F800000#32)
      (Ideal.ofBits .f32 0x00000000#32) := by
    show StableHlo.after ([hostOps0, hostOps0_1, hostOps0_2, hostOps0_3, hostOps0_4].flatten) _ (Proc.devRef .tc main_v13) = _
    simp only [hostOps0, hostOps0_1, hostOps0_2, hostOps0_3, hostOps0_4, List.flatten_cons, List.flatten_nil, List.append_nil, List.cons_append, List.nil_append]
    after_results
    rfl
  rw [h]
  show Scalar.select (IntOp.cmpi .slt (BitVec.ofNat 32 q.val) (BitVec.ofNat 32 r.val)) (Ideal.ofBits .f32 0x3F800000#32) (Ideal.ofBits .f32 0x00000000#32) = _
  rw [slt_nat _ _ q.isLt r.isLt, sel_bool, bits_one, bits_zero, lit_one, lit_zero]
  rfl

theorem point_w (c : Dev nD) (t : Fin cfg0.N) (d : Fin 1024) (e : Fin 16) : iblk m c 10 t (ix2 d (⟨e.val, by have := e.isLt; omega⟩ : Fin 128)) = m ((c : Thread nD τ).loc main_arg8) (ix2 d e) := by
  refine Eq.trans ?_ (V_main_v1 m c d e)
  blk_point [iblk, idx t]
theorem point_l (c : Dev nD) (t : Fin cfg0.N) (d : Fin 1024) (e : Fin 16) (hw : Re (m ((c : Thread nD τ).loc main_arg8) (ix2 d e))) :
    iblk m c 11 t (ix2 d (⟨e.val, by have := e.isLt; omega⟩ : Fin 128)) = (0 : EReal) := by
  refine Eq.trans ?_ (V_main_v4 m c d e hw)
  blk_point [iblk, idx t]
theorem point_b (c : Dev nD) (t : Fin cfg0.N) (e : Fin 16) : iblk m c 12 t (ix2 e 0) = m ((c : Thread nD τ).loc main_arg9) (ix1 e) := by
  refine Eq.trans ?_ (V_main_v8 m c e)
  blk_point [iblk, idx t]
theorem point_t (c : Dev nD) (t : Fin cfg0.N) (q r : Fin 512) : iblk m c 13 t (ix2 q r) = (if q < r then (1 : EReal) else 0) := by
  refine Eq.trans ?_ (V_main_v13 m c q r)
  blk_point [iblk, idx t]

section
variable (hg : ∀ (c : Dev nD) i, Re (m ((c : Thread nD τ).loc main_arg7) i)) (hw : ∀ (c : Dev nD) i, Re (m ((c : Thread nD τ).loc main_arg8) i))
  (hb : ∀ (c : Dev nD) i, Re (m ((c : Thread nD τ).loc main_arg9) i))
include hg hw

/-- A block's scores are the reference's of its rows, -/
theorem point_sc (c : Dev nD) (t : Fin cfg0.N) (r : Fin 512) : kw (k0_pay92 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) r = sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t r) := by
  funext e
  have hx : (fun d => xblk (iblk m c 0 t) (iblk m c 1 t) (iblk m c 2 t) (iblk m c 3 t) (iblk m c 4 t) (iblk m c 5 t) (iblk m c 6 t) (iblk m c 7 t) (iblk m c 8 t) r d)
      = xref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) := funext fun d => point m c t r d
  have hG : (fun k => iblk m c 9 t (ix2 0 k)) = fun k => m ((c : Thread nD τ).loc main_arg7) (ix1 k) := funext fun k => point_g m c t k
  refine congrArg Ideal.logistic ((lg_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun k => ?_) e (fun d => ?_) r).trans (Finset.sum_congr rfl fun d _ => ?_))
  · rw [point_g]; exact hg c _
  · exact point_l m c t d e (hw c _)
  · rw [point_w m c t d e]
    exact congrArg₂ (fun v g => hrow v g d * (m ((c : Thread nD τ).loc main_arg8) (ix2 d e) : EReal)) hx hG

/-- with the biases too, -/
theorem point_sl (c : Dev nD) (t : Fin cfg0.N) (r : Fin 512) : ks (k0_pay92 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay93 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) r = sl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) := by
  funext e
  exact congrArg₂ (· + ·) (congrFun (point_sc m hg hw c t r) e) ((ld_b (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) e).trans (point_b m c t e))

include hb in
/-- and finite. -/
theorem point_re (c : Dev nD) (t : Fin cfg0.N) (r : Fin 512) (e : Fin 16) : Re (ks (k0_pay92 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay93 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) r e) := by
  rw [point_sl m hg hw c t r]
  exact (score_re _ _ (hrow_re _ _ fun k => hg c _) (fun d e => hw c _) e).add (hb c _)

omit hg hw in
theorem emb_c (t : Fin cfg0.N) (y : S512x128.Idx) : ((cfg0.win 16).blk t).view.emb y = (ix2 (row t (y 0)) (y 1) : S32768x128.Idx) := by
  have h := idx t
  refine funext fun a => Fin.ext ?_
  match a with
  | ⟨0, _⟩ =>
    show win0_16.index t 0 * 512 + 1 * (y 0).val = t.val * 512 + (y 0).val
    rw [h.2.2.2.2.2.2.2.2.2.2.2.2.2.2.1]; simp
  | ⟨1, _⟩ =>
    show win0_16.index t 1 * 128 + 1 * (y 1).val = (y 1).val
    rw [h.2.2.2.2.2.2.2.2.2.2.2.2.2.2.1]; simp

omit hg hw in
theorem emb_r (t : Fin cfg0.N) (y : S1x8x512.Idx) : ((cfg0.win 17).blk t).view.emb y = (ix3 (⟨t.val, t.isLt⟩ : Fin 64) (y 1) (y 2) : S64x8x512.Idx) := by
  have h := idx t
  have h0 : (y 0).val < 1 := (y 0).isLt
  refine funext fun a => Fin.ext ?_
  match a with
  | ⟨0, _⟩ =>
    show win0_17.index t 0 * 1 + 1 * (y 0).val = t.val
    rw [h.2.2.2.2.2.2.2.2.2.2.2.2.2.2.2.1]; simp
  | ⟨1, _⟩ =>
    show win0_17.index t 1 * 8 + 1 * (y 1).val = (y 1).val
    rw [h.2.2.2.2.2.2.2.2.2.2.2.2.2.2.2.1]; simp
  | ⟨2, _⟩ =>
    show win0_17.index t 2 * 512 + 1 * (y 2).val = (y 2).val
    rw [h.2.2.2.2.2.2.2.2.2.2.2.2.2.2.2.1]; simp

omit hg hw in
theorem emb_n (t : Fin cfg0.N) (y : S1x16x128.Idx) : ((cfg0.win 18).blk t).view.emb y = (ix3 (⟨t.val, t.isLt⟩ : Fin 64) (y 1) (y 2) : S64x16x128.Idx) := by
  have h := idx t
  have h0 : (y 0).val < 1 := (y 0).isLt
  refine funext fun a => Fin.ext ?_
  match a with
  | ⟨0, _⟩ =>
    show win0_18.index t 0 * 1 + 1 * (y 0).val = t.val
    rw [h.2.2.2.2.2.2.2.2.2.2.2.2.2.2.2.2]; simp
  | ⟨1, _⟩ =>
    show win0_18.index t 1 * 16 + 1 * (y 1).val = (y 1).val
    rw [h.2.2.2.2.2.2.2.2.2.2.2.2.2.2.2.2]; simp
  | ⟨2, _⟩ =>
    show win0_18.index t 2 * 128 + 1 * (y 2).val = (y 2).val
    rw [h.2.2.2.2.2.2.2.2.2.2.2.2.2.2.2.2]; simp

include hb in
/-- After the launch the routing's array holds the reference's first result, -/
theorem final_c (c : Dev nD) : (dats m 0 c).arrAt 16 (cfgs 0).N = Cert.RouteRefIdeal.Read.val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 16 _ (by decide +kernel) fun t _ y => ?_
  blk_simp
  rw [after0_16]
  refine (out_c _ _ _ _ _ _ _ _ _ _ _ _ _ _ (point_t m c t) (point_re m hg hw hb c t) y).trans ?_
  rw [show ks (k0_pay92 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay93 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) = fun r => sl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) from funext fun r => point_sl m hg hw c t r, point_sc m hg hw c t (y 0)]
  exact (Cert.RouteRefIdeal.Hand.ref_route (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨t.val, t.isLt⟩ (y 0) (y 1)).symm.trans (congrArg _ (emb_c t y).symm)

include hb in
/-- that of its columns by rows the second, -/
theorem final_r (c : Dev nD) : (dats m 0 c).arrAt 17 (cfgs 0).N = Cert.RouteRefIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 17 _ (by decide +kernel) fun t _ y => ?_
  blk_simp
  rw [after0_17]
  refine (out_r _ _ _ _ _ _ _ _ _ _ _ _ _ _ (point_t m c t) (point_re m hg hw hb c t) y).trans ?_
  rw [show ks (k0_pay92 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay93 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) = fun r => sl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) from funext fun r => point_sl m hg hw c t r, point_sc m hg hw c t (y 2)]
  exact (Cert.RouteRefIdeal.Hand.ref_rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨t.val, t.isLt⟩ (y 1) (y 2)).symm.trans (congrArg _ (emb_r t y).symm)

include hb in
/-- and that of the counts the third. -/
theorem final_n (c : Dev nD) : (dats m 0 c).arrAt 18 (cfgs 0).N = Cert.RouteRefIdeal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 18 _ (by decide +kernel) fun t _ y => ?_
  blk_simp
  rw [after0_18]
  refine (out_n _ _ _ _ _ _ _ _ _ _ _ _ _ _ (point_re m hg hw hb c t) y).trans ?_
  rw [show ks (k0_pay92 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay93 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) = fun r => sl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) from funext fun r => point_sl m hg hw c t r]
  exact (Cert.RouteRefIdeal.Hand.ref_counts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨t.val, t.isLt⟩ (y 1) (y 2)).symm.trans (congrArg _ (emb_n t y).symm)

end

end Cert.RouteIdeal.Hand

end

end
-- ==== Proof.lean ====
/- The claims about the input projection, the cross attention, the memory's projection, the merge of the branches, the
   routing and the experts. -/
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.CrossAttn
public import proofs.«01_k».proof.Proof.Gen.CrossAttn.Skeleton
public import proofs.«01_k».proof.Proof.Gen.CrossAttn.Launch
public import proofs.«01_k».proof.Proof.Gen.CrossAttn.Points
public import proofs.«01_k».proof.Proof.Gen.CrossAttn.Frame
public import proofs.«01_k».proof.Proof.Gen.CrossAttnIdeal
public import proofs.«01_k».proof.Proof.Gen.CrossAttnIdeal.Skeleton
public import proofs.«01_k».proof.Proof.Gen.CrossAttnIdeal.Launch
public import proofs.«01_k».proof.Proof.Gen.CrossAttnIdeal.Points
public import proofs.«01_k».proof.Proof.Gen.CrossAttnIdeal.Frame
public import proofs.«01_k».proof.Proof.Gen.CrossRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_finite_ca
public import proofs.«01_k».proof.Proof.Gen.InProjIdeal.Value
public import proofs.«01_k».proof.Proof.Gen.CrossAttnIdeal.Value
public import proofs.«01_k».proof.Proof.Gen.MemKvIdeal.Value
public import proofs.«01_k».proof.Proof.Gen.MergeIdeal.Value
public import proofs.«01_k».proof.Proof.Gen.InProjRefIdeal.Run
public import proofs.«01_k».proof.Proof.Gen.InProjRefIdeal.Read
public import proofs.«01_k».proof.Proof.Gen.CrossRefIdeal.Run
public import proofs.«01_k».proof.Proof.Gen.CrossRefIdeal.Read
public import proofs.«01_k».proof.Proof.Gen.MemKvRefIdeal.Run
public import proofs.«01_k».proof.Proof.Gen.MemKvRefIdeal.Read
public import proofs.«01_k».proof.Proof.Gen.MergeRefIdeal.Run
public import proofs.«01_k».proof.Proof.Gen.MergeRefIdeal.Read
public import proofs.«01_k».proof.Proof.InProjValue
public import proofs.«01_k».proof.Proof.CrossPre
public import proofs.«01_k».proof.Proof.CrossValue
public import proofs.«01_k».proof.Proof.MemKvValue
public import proofs.«01_k».proof.Proof.MergeValue
public import proofs.«01_k».proof.Proof.FfnClaims
public import proofs.«01_k».proof.Proof.Gen.Ffn
public import proofs.«01_k».proof.Proof.Gen.Ffn.Skeleton
public import proofs.«01_k».proof.Proof.Gen.Ffn.Launch
public import proofs.«01_k».proof.Proof.Gen.Ffn.Flash.Runs
public import proofs.«01_k».proof.Proof.Gen.Ffn.Flash.Pins
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Flash.Runs
public import proofs.«01_k».proof.Proof.Gen.FfnIdeal.Flash.Pins
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_in_range
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.Gen.RouteRefIdeal.Read
public import proofs.«01_k».proof.Proof.Gen.Pre_finite_rt
public import proofs.«01_k».proof.Proof.RoutePre
public import proofs.«01_k».proof.Proof.RouteRun
public import proofs.«01_k».proof.Proof.RouteValue
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The input projection: the same values as the reference. -/
theorem in_proj : Cert.algebraic_InProjIdeal_InProjRefIdeal := by
  pair_intro
  · run_from Cert.InProjIdeal.Gen.run_main m g
  · run_from Cert.InProjRefIdeal.Value.run m' g'
    exact (Cert.InProjIdeal.Hand.final m c).symm

/-- The cross attention: the same values as the reference, where both arguments are finite. -/
theorem cross : Cert.algebraic_CrossAttnIdeal_CrossRefIdeal_pre_finite_ca := by
  pair_intro
  · run_from Cert.CrossAttnIdeal.Gen.run_main m g
  · run_from Cert.CrossRefIdeal.Value.run m' g'
    exact (Cert.CrossAttnIdeal.Hand.final m c (Cert.Pre_finite_ca.Hand.reals _ _ (hpre c)).1
      (Cert.Pre_finite_ca.Hand.reals _ _ (hpre c)).2).symm

/-- The memory's projection: the same values as the reference. -/
theorem mem_kv : Cert.algebraic_MemKvIdeal_MemKvRefIdeal := by
  pair_intro
  · run_from Cert.MemKvIdeal.Gen.run_main m g
  · run_from Cert.MemKvRefIdeal.Value.run m' g'
    exact (Cert.MemKvIdeal.Hand.final m c).symm

/-- The routing: the same three results as the reference, where the gains, the router's weights and the biases are finite. -/
theorem route : Cert.algebraic_RouteIdeal_RouteRefIdeal_pre_finite_rt := by
  intro m g m' g' hpre hagree
  have hr := fun c => Cert.Pre_finite_rt.Hand.reals _ _ _ _ _ _ _ _ _ _ (hpre c)
  have hg := fun c => (hr c).1
  have hw := fun c => (hr c).2.1
  have hb := fun c => (hr c).2.2
  refine ⟨fun c => (Cert.RouteIdeal.Gen.dats m 0 c).arrAt 16 (Cert.RouteIdeal.cfgs 0).N, fun c => (Cert.RouteIdeal.Gen.dats m 0 c).arrAt 17 (Cert.RouteIdeal.cfgs 0).N,
    fun c => (Cert.RouteIdeal.Gen.dats m 0 c).arrAt 18 (Cert.RouteIdeal.cfgs 0).N, ?_, ?_⟩
  · exact θ_run_mono (θ_run_and (Cert.RouteIdeal.Gen.run_main m g) (Cert.RouteIdeal.Gen.unchanged m g)) fun r h c => ⟨(h.1 c).1 16, (h.1 c).1 17, (h.1 c).1 18, h.2 c⟩
  · refine θ_run_mono (Cert.RouteRefIdeal.Hand.run_stages m' g') fun r hr c => ?_
    obtain ⟨h0, h1, h2, h3, h4, h5, h6, h7, h8, h9⟩ := hagree c
    refine ⟨(hr c).1.trans (Eq.trans ?_ (Cert.RouteIdeal.Hand.final_c m hg hw hb c).symm), (hr c).2.1.trans (Eq.trans ?_ (Cert.RouteIdeal.Hand.final_r m hg hw hb c).symm),
      (hr c).2.2.1.trans (Eq.trans ?_ (Cert.RouteIdeal.Hand.final_n m hg hw hb c).symm), (hr c).2.2.2⟩
    · rw [h0, h1, h2, h3, h4, h5, h6, h7, h8, h9]
    · rw [h0, h1, h2, h3, h4, h5, h6, h7, h8, h9]
    · rw [h0, h1, h2, h3, h4, h5, h6, h7, h8, h9]

/-- The merge of the branches: the same two results as the reference. -/
theorem merge : Cert.algebraic_MergeIdeal_MergeRefIdeal := by
  intro m g m' g' _ hagree
  refine ⟨fun c => (Cert.MergeIdeal.Gen.dats m 0 c).arrAt 14 (Cert.MergeIdeal.cfgs 0).N, fun c => (Cert.MergeIdeal.Gen.dats m 0 c).arrAt 15 (Cert.MergeIdeal.cfgs 0).N, ?_, ?_⟩
  · exact θ_run_mono (θ_run_and (Cert.MergeIdeal.Gen.run_main m g) (Cert.MergeIdeal.Gen.unchanged m g)) fun r h c => ⟨(h.1 c).1 14, (h.1 c).1 15, h.2 c⟩
  · refine θ_run_mono (Cert.MergeRefIdeal.Hand.run_stages m' g') fun r hr c => ?_
    obtain ⟨h0, h1, h2, h3, h4, h5, h6, h7, -, -⟩ := hagree c
    refine ⟨(hr c).1.trans (Eq.trans ?_ (Cert.MergeIdeal.Hand.final_x m c).symm), (hr c).2.1.trans (Eq.trans ?_ (Cert.MergeIdeal.Hand.final_h m c).symm), (hr c).2.2⟩
    · rw [h0, h1, h2, h3, h4, h5, h6]
    · rw [h0, h1, h2, h3, h4, h5, h6, h7]

theorem claim : Cert.Claim := ⟨Cert.InProj.Gen.facts, Cert.InProjIdeal.Gen.facts, Cert.InProjRefIdeal.Gen.facts, Cert.CrossAttn.Gen.facts, Cert.CrossAttnIdeal.Gen.facts, Cert.CrossRefIdeal.Gen.facts, Cert.MemKv.Gen.facts, Cert.MemKvIdeal.Gen.facts, Cert.MemKvRefIdeal.Gen.facts, Cert.Merge.Gen.facts, Cert.MergeIdeal.Gen.facts, Cert.MergeRefIdeal.Gen.facts, Cert.Route.Gen.facts, Cert.RouteIdeal.Gen.facts, Cert.RouteRefIdeal.Gen.facts, Cert.Ffn.Gen.facts, Cert.FfnIdeal.Gen.facts, Cert.FfnRefIdeal.Gen.facts, Cert.Pre_finite_ca.Gen.facts, Cert.Pre_finite_rt.Gen.facts, Cert.Pre_in_range.Gen.facts,
  fun m ρ _ => Cert.InProj.Gen.frame m ρ, fun m ρ _ => Cert.InProjIdeal.Gen.frame m ρ, fun m g _ => (θ_run Cert.InProjRefIdeal.defs _ _).mono (fun r h => ⟨fun c => (h c).2, sem_eq_zero_of_no_sems (by decide) r.2⟩) (Cert.InProjRefIdeal.Value.run (F := Ideal) m g),
  fun m ρ _ => Cert.CrossAttn.Gen.frame m ρ, fun m ρ _ => Cert.CrossAttnIdeal.Gen.frame m ρ, fun m ρ _ => Cert.CrossAttnIdeal.Gen.frame m ρ,
  fun m g _ => (θ_run Cert.CrossRefIdeal.defs _ _).mono (fun r h => ⟨fun c => (h c).2, sem_eq_zero_of_no_sems (by decide) r.2⟩) (Cert.CrossRefIdeal.Value.run (F := Ideal) m g), fun m g _ => (θ_run Cert.CrossRefIdeal.defs _ _).mono (fun r h => ⟨fun c => (h c).2, sem_eq_zero_of_no_sems (by decide) r.2⟩) (Cert.CrossRefIdeal.Value.run (F := Ideal) m g),
  fun m ρ _ => Cert.MemKv.Gen.frame m ρ, fun m ρ _ => Cert.MemKvIdeal.Gen.frame m ρ, fun m g _ => (θ_run Cert.MemKvRefIdeal.defs _ _).mono (fun r h => ⟨fun c => (h c).2, sem_eq_zero_of_no_sems (by decide) r.2⟩) (Cert.MemKvRefIdeal.Value.run (F := Ideal) m g),
  fun m ρ _ => Cert.Merge.Gen.frame m ρ, fun m ρ _ => Cert.MergeIdeal.Gen.frame m ρ, fun m g _ => (θ_run Cert.MergeRefIdeal.defs _ _).mono (fun r h => ⟨fun c => (h c).2.2, sem_eq_zero_of_no_sems (by decide) r.2⟩) (Cert.MergeRefIdeal.Value.run (F := Ideal) m g),
  fun m ρ _ => Cert.Route.Gen.frame m ρ, fun m ρ _ => Cert.RouteIdeal.Gen.frame m ρ, fun m ρ _ => Cert.RouteIdeal.Gen.frame m ρ, fun m g _ => (θ_run Cert.RouteRefIdeal.defs _ _).mono (fun r h => ⟨fun c => (h c).2.2.2, sem_eq_zero_of_no_sems (by decide) r.2⟩) (Cert.RouteRefIdeal.Value.run (F := Ideal) m g), fun m g _ => (θ_run Cert.RouteRefIdeal.defs _ _).mono (fun r h => ⟨fun c => (h c).2.2.2, sem_eq_zero_of_no_sems (by decide) r.2⟩) (Cert.RouteRefIdeal.Value.run (F := Ideal) m g),
  fun m ρ h => Cert.Ffn.Hand.frame (Cert.Ffn.Hand.tab m h) m ρ (Cert.Ffn.Hand.pinned m h), fun m ρ h => Cert.FfnIdeal.Hand.frame (Cert.FfnIdeal.Hand.tab m h) m ρ (Cert.FfnIdeal.Hand.pinned m h),
  fun m g _ => (θ_run Cert.FfnRefIdeal.defs _ _).mono (fun r h => ⟨fun c => (h c).2, sem_eq_zero_of_no_sems (by decide) r.2⟩) (Cert.FfnRefIdeal.Value.run (F := Ideal) m g),
  trivial, in_proj, trivial, cross, trivial, mem_kv, trivial, merge, trivial, route, trivial, Cert.FfnIdeal.Hand.ffn⟩

end Cert.Proof

end
